-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def preserves_Kernel_KernelIdeal : Prop :=
  IdealRules.named_const.Statement Cert.KernelIdeal.κ "s2_scale" .f32 0x3DE995B3#32 (((Real.sqrt 160)⁻¹ * (Real.log 2)⁻¹ : ℝ) : EReal)
  ∧ IdealRules.named_const.Statement Cert.KernelIdeal.κ "ln2" .f32 0x3F317218#32 ((Real.log 2 : ℝ) : EReal)

def preserves_Reference_ReferenceIdeal : Prop :=
  IdealRules.named_const.Statement Cert.ReferenceIdeal.κ "r_scale" .f32 0x3DA1E89B#32 (((Real.sqrt 160)⁻¹ : ℝ) : EReal)
  ∧ IdealRules.named_const.Statement Cert.ReferenceIdeal.κ "r_log2e" .f32 0x3FB8AA3B#32 (((Real.log 2)⁻¹ : ℝ) : EReal)
  ∧ IdealRules.named_const.Statement Cert.ReferenceIdeal.κ "r_ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v8_2)) (v2 : (c : Dev Cert.KernelIdeal.nD) → Buf (Elt Ideal) ((c.tc : Thread Cert.KernelIdeal.nD Cert.KernelIdeal.τ).loc Cert.KernelIdeal.main_v8_0)) (v3 : (c : Dev Cert.KernelIdeal.nD) → Buf (Elt Ideal) ((c.tc : Thread Cert.KernelIdeal.nD Cert.KernelIdeal.τ).loc Cert.KernelIdeal.main_v7_0)) (v4 : (c : Dev Cert.KernelIdeal.nD) → Buf (Elt Ideal) ((c.tc : Thread Cert.KernelIdeal.nD Cert.KernelIdeal.τ).loc Cert.KernelIdeal.main_v7_2)) (v5 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v8_2) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_v7_0) = v3 c
          ∧ r.2.mem ((c.tc : Thread Cert.KernelIdeal.nD Cert.KernelIdeal.τ).loc Cert.KernelIdeal.main_v7_2) = v4 c
          ∧ r.2.mem ((c.tc : Thread Cert.KernelIdeal.nD Cert.KernelIdeal.τ).loc Cert.KernelIdeal.main_v8_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Attn_AttnIdeal : Prop :=
  IdealRules.named_const.Statement Cert.AttnIdeal.κ "s2_scale" .f32 0x3DE995B3#32 (((Real.sqrt 160)⁻¹ * (Real.log 2)⁻¹ : ℝ) : EReal)
  ∧ IdealRules.named_const.Statement Cert.AttnIdeal.κ "ln2" .f32 0x3F317218#32 ((Real.log 2 : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v58) = v0 c
          ∧ r.2.mem ((c.tc : Thread Cert.AttnRefIdeal.nD Cert.AttnRefIdeal.τ).loc Cert.AttnRefIdeal.main_v61) = v1 c
          ∧ r.2.mem ((c.tc : Thread Cert.AttnRefIdeal.nD Cert.AttnRefIdeal.τ).loc Cert.AttnRefIdeal.main_v56) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6_0) = v0 c
          ∧ r.2.mem ((c.tc : Thread Cert.QkvRefIdeal.nD Cert.QkvRefIdeal.τ).loc Cert.QkvRefIdeal.main_v6_1) = v1 c
          ∧ r.2.mem ((c.tc : Thread Cert.QkvRefIdeal.nD Cert.QkvRefIdeal.τ).loc Cert.QkvRefIdeal.main_v6_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def Claim : Prop :=
  ∃ (hKernel : Cert.Kernel.Facts) (hKernelIdeal : Cert.KernelIdeal.Facts) (hReference : Cert.Reference.Facts) (hReferenceIdeal : Cert.ReferenceIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_Attn (hAttn := hAttn)
    ∧ quiescent_AttnIdeal (hAttnIdeal := hAttnIdeal)
    ∧ quiescent_AttnRefIdeal (hAttnRefIdeal := hAttnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ preserves_Kernel_KernelIdeal
    ∧ preserves_Reference_ReferenceIdeal
    ∧ algebraic_KernelIdeal_ReferenceIdeal (hKernelIdeal := hKernelIdeal) (hReferenceIdeal := hReferenceIdeal)
    ∧ preserves_Attn_AttnIdeal
    ∧ algebraic_AttnIdeal_AttnRefIdeal (hAttnIdeal := hAttnIdeal) (hAttnRefIdeal := hAttnRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
-- ==== Kernel.lean ====
abbrev S1x8192x2560 : Shape := ⟨3, ![1, 8192, 2560]⟩
abbrev S2560x3x16x160 : Shape := ⟨4, ![2560, 3, 16, 160]⟩
abbrev S16x160x2560 : Shape := ⟨3, ![16, 160, 2560]⟩
abbrev S2560 : Shape := ⟨1, ![2560]⟩
abbrev S1x8192x80 : Shape := ⟨3, ![1, 8192, 80]⟩
abbrev S8192x2560 : Shape := ⟨2, ![8192, 2560]⟩
abbrev S3x16x160x2560 : Shape := ⟨4, ![3, 16, 160, 2560]⟩
abbrev S8192x80 : Shape := ⟨2, ![8192, 80]⟩
abbrev S80x8192 : Shape := ⟨2, ![80, 8192]⟩
abbrev S2560x2560 : Shape := ⟨2, ![2560, 2560]⟩
abbrev S3x16x160x8192 : Shape := ⟨4, ![3, 16, 160, 8192]⟩
abbrev S16x8192x256 : Shape := ⟨3, ![16, 8192, 256]⟩
abbrev S512x2560 : Shape := ⟨2, ![512, 2560]⟩
abbrev S80x512 : Shape := ⟨2, ![80, 512]⟩
abbrev S3x16x160x512 : Shape := ⟨4, ![3, 16, 160, 512]⟩
abbrev S16x512x256 : Shape := ⟨3, ![16, 512, 256]⟩
abbrev S1x4x160x2560 : Shape := ⟨4, ![1, 4, 160, 2560]⟩
abbrev S4x160x2560 : Shape := ⟨3, ![4, 160, 2560]⟩
abbrev S640x2560 : Shape := ⟨2, ![640, 2560]⟩
abbrev S640x512 : Shape := ⟨2, ![640, 512]⟩
abbrev S160x512 : Shape := ⟨2, ![160, 512]⟩
abbrev S1x1x160x512 : Shape := ⟨4, ![1, 1, 160, 512]⟩
abbrev S96x512 : Shape := ⟨2, ![96, 512]⟩
abbrev S256x512 : Shape := ⟨2, ![256, 512]⟩
abbrev S512x256 : Shape := ⟨2, ![512, 256]⟩
abbrev S1x512x256 : Shape := ⟨3, ![1, 512, 256]⟩
abbrev S16x160x8192 : Shape := ⟨3, ![16, 160, 8192]⟩
abbrev S16x8192 : Shape := ⟨2, ![16, 8192]⟩
abbrev S1x8192x256 : Shape := ⟨3, ![1, 8192, 256]⟩
abbrev S1x1x160x8192 : Shape := ⟨4, ![1, 1, 160, 8192]⟩
abbrev S1x160x512 : Shape := ⟨3, ![1, 160, 512]⟩
abbrev S1x512 : Shape := ⟨2, ![1, 512]⟩
abbrev S512x512 : Shape := ⟨2, ![512, 512]⟩
abbrev S512 : Shape := ⟨1, ![512]⟩
abbrev S2560x8192 : Shape := ⟨2, ![2560, 8192]⟩
abbrev S1x2560 : Shape := ⟨2, ![1, 2560]⟩
abbrev S2560x512 : Shape := ⟨2, ![2560, 512]⟩
abbrev S512x1 : Shape := ⟨2, ![512, 1]⟩

abbrev nBuf : Space → Nat
  | .hbm => 24
  | .vmem => 33
  | .smem => 0
  | _ => 0

abbrev bufTy : (tb : Table) → Fin (tcTables nBuf tb) → BufTy
  | .hbm, ⟨0, _⟩ => ⟨S1x8192x2560, .bf16⟩
  | .hbm, ⟨1, _⟩ => ⟨S2560x3x16x160, .fp8e4m3⟩
  | .hbm, ⟨2, _⟩ => ⟨S16x160x2560, .fp8e4m3⟩
  | .hbm, ⟨3, _⟩ => ⟨S2560, .f32⟩
  | .hbm, ⟨4, _⟩ => ⟨S2560, .f32⟩
  | .hbm, ⟨5, _⟩ => ⟨S1x8192x80, .f32⟩
  | .hbm, ⟨6, _⟩ => ⟨S1x8192x80, .f32⟩
  | .hbm, ⟨7, _⟩ => ⟨S8192x2560, .bf16⟩
  | .hbm, ⟨8, _⟩ => ⟨S3x16x160x2560, .fp8e4m3⟩
  | .hbm, ⟨9, _⟩ => ⟨S8192x80, .f32⟩
  | .hbm, ⟨10, _⟩ => ⟨S80x8192, .f32⟩
  | .hbm, ⟨11, _⟩ => ⟨S8192x80, .f32⟩
  | .hbm, ⟨12, _⟩ => ⟨S80x8192, .f32⟩
  | .hbm, ⟨13, _⟩ => ⟨S2560x2560, .fp8e4m3⟩
  | .hbm, ⟨14, _⟩ => ⟨S3x16x160x8192, .bf16⟩
  | .hbm, ⟨15, _⟩ => ⟨S16x8192x256, .bf16⟩
  | .hbm, ⟨16, _⟩ => ⟨S8192x2560, .fp8e4m3⟩
  | .hbm, ⟨17, _⟩ => ⟨S16x160x8192, .bf16⟩
  | .hbm, ⟨18, _⟩ => ⟨S16x160x8192, .fp8e4m3⟩
  | .hbm, ⟨19, _⟩ => ⟨S16x8192, .f32⟩
  | .hbm, ⟨20, _⟩ => ⟨S2560x8192, .fp8e4m3⟩
  | .hbm, ⟨21, _⟩ => ⟨S1x2560, .f32⟩
  | .hbm, ⟨22, _⟩ => ⟨S1x2560, .f32⟩
  | .hbm, ⟨23, _⟩ => ⟨S8192x2560, .bf16⟩
  | .local _ .vmem, ⟨0, _⟩ => ⟨S512x2560, .bf16⟩
  | .local _ .vmem, ⟨1, _⟩ => ⟨S512x2560, .bf16⟩
  | .local _ .vmem, ⟨2, _⟩ => ⟨S3x16x160x2560, .fp8e4m3⟩
  | .local _ .vmem, ⟨3, _⟩ => ⟨S80x512, .f32⟩
  | .local _ .vmem, ⟨4, _⟩ => ⟨S80x512, .f32⟩
  | .local _ .vmem, ⟨5, _⟩ => ⟨S80x512, .f32⟩
  | .local _ .vmem, ⟨6, _⟩ => ⟨S80x512, .f32⟩
  | .local _ .vmem, ⟨7, _⟩ => ⟨S3x16x160x512, .bf16⟩
  | .local _ .vmem, ⟨8, _⟩ => ⟨S3x16x160x512, .bf16⟩
  | .local _ .vmem, ⟨9, _⟩ => ⟨S16x512x256, .bf16⟩
  | .local _ .vmem, ⟨10, _⟩ => ⟨S16x512x256, .bf16⟩
  | .local _ .vmem, ⟨11, _⟩ => ⟨S512x2560, .fp8e4m3⟩
  | .local _ .vmem, ⟨12, _⟩ => ⟨S512x2560, .fp8e4m3⟩
  | .local _ .vmem, ⟨13, _⟩ => ⟨S1x1x160x512, .bf16⟩
  | .local _ .vmem, ⟨14, _⟩ => ⟨S1x1x160x512, .bf16⟩
  | .local _ .vmem, ⟨15, _⟩ => ⟨S1x8192x256, .bf16⟩
  | .local _ .vmem, ⟨16, _⟩ => ⟨S1x8192x256, .bf16⟩
  | .local _ .vmem, ⟨17, _⟩ => ⟨S1x1x160x8192, .bf16⟩
  | .local _ .vmem, ⟨18, _⟩ => ⟨S1x1x160x8192, .bf16⟩
  | .local _ .vmem, ⟨19, _⟩ => ⟨S1x160x512, .bf16⟩
  | .local _ .vmem, ⟨20, _⟩ => ⟨S1x160x512, .bf16⟩
  | .local _ .vmem, ⟨21, _⟩ => ⟨S1x160x512, .fp8e4m3⟩
  | .local _ .vmem, ⟨22, _⟩ => ⟨S1x160x512, .fp8e4m3⟩
  | .local _ .vmem, ⟨23, _⟩ => ⟨S16x8192, .f32⟩
  | .local _ .vmem, ⟨24, _⟩ => ⟨S2560x512, .fp8e4m3⟩
  | .local _ .vmem, ⟨25, _⟩ => ⟨S2560x512, .fp8e4m3⟩
  | .local _ .vmem, ⟨26, _⟩ => ⟨S2560x2560, .fp8e4m3⟩
  | .local _ .vmem, ⟨27, _⟩ => ⟨S512x2560, .bf16⟩
  | .local _ .vmem, ⟨28, _⟩ => ⟨S512x2560, .bf16⟩
  | .local _ .vmem, ⟨29, _⟩ => ⟨S1x2560, .f32⟩
  | .local _ .vmem, ⟨30, _⟩ => ⟨S1x2560, .f32⟩
  | .local _ .vmem, ⟨31, _⟩ => ⟨S512x2560, .bf16⟩
  | .local _ .vmem, ⟨32, _⟩ => ⟨S512x2560, .bf16⟩
  | _, _ => ⟨S1x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16x160x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x16x160x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 16], ![false, false]⟩

def k1_mult1 (i : grid1.Coords) : BitVec 32 :=
  let arg1 : BitVec 32 := BitVec.ofNat 32 (i 1).val
  let c512_i32 : BitVec 32 := 512#32
  let v7 : BitVec 32 := Scalar.muli arg1 c512_i32
  v7
def k1_off1 (i : grid1.Coords) : Fin 3 → Nat :=
  let c0_6 : Index := 0#32
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_7 : Index := 0#32
  ![0, v9.toNat, 0]
def k1_off2 (i : grid1.Coords) : Fin 4 → Nat :=
  let c0_17 : Index := 0#32
  let c0_18 : Index := 0#32
  let c0_19 : Index := 0#32
  let arg1 : BitVec 32 := BitVec.ofNat 32 (i 1).val
  let c512_i32 : BitVec 32 := 512#32
  let v7 : BitVec 32 := Scalar.muli arg1 c512_i32
  let v8 : BitVec 32 := v7
  let v45 : Index := Scalar.indexCast v8
  ![0, 0, 0, v45.toNat]
@[reducible] def k1_t1_loop (i : grid1.Coords) : Scf.Loop 32 :=
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_21 : BitVec 32 := 1#32
  ⟨c0_i32, v55, c1_i32_21⟩
def k1_mult2 (i : grid1.Coords) (k1_t1 : Fin (k1_t1_loop i).trips) : BitVec 32 :=
  let c0_i32 : BitVec 32 := 0#32
  let c1_i32_21 : BitVec 32 := 1#32
  let arg8 : BitVec 32 := Scf.iv c0_i32 c1_i32_21 k1_t1
  let c512_i32_35 : BitVec 32 := 512#32
  let v92 : BitVec 32 := Scalar.muli arg8 c512_i32_35
  v92
def k1_off3 (i : grid1.Coords) (k1_t1 : Fin (k1_t1_loop i).trips) : Fin 3 → Nat :=
  let c0_36 : Index := 0#32
  let c0_i32 : BitVec 32 := 0#32
  let c1_i32_21 : BitVec 32 := 1#32
  let arg8 : BitVec 32 := Scf.iv c0_i32 c1_i32_21 k1_t1
  let c512_i32_35 : BitVec 32 := 512#32
  let v92 : BitVec 32 := Scalar.muli arg8 c512_i32_35
  let v93 : BitVec 32 := v92
  let v94 : Index := Scalar.indexCast v93
  let c0_37 : Index := 0#32
  ![0, v94.toNat, 0]
def k1_off4 (i : grid1.Coords) (k1_t1 : Fin (k1_t1_loop i).trips) : Fin 4 → Nat :=
  let c0_46 : Index := 0#32
  let c0_47 : Index := 0#32
  let c0_48 : Index := 0#32
  let c0_i32 : BitVec 32 := 0#32
  let c1_i32_21 : BitVec 32 := 1#32
  let arg8 : BitVec 32 := Scf.iv c0_i32 c1_i32_21 k1_t1
  let c512_i32_35 : BitVec 32 := 512#32
  let v92 : BitVec 32 := Scalar.muli arg8 c512_i32_35
  let v93 : BitVec 32 := v92
  let v125 : Index := Scalar.indexCast v93
  ![0, 0, 0, v125.toNat]
@[reducible] def k1_t2_loop (i : grid1.Coords) : Scf.Loop 32 :=
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let v52 : BitVec 32 := Scalar.addi c0_i32 v51
  let c1_i32_22 : BitVec 32 := 1#32
  ⟨v55, v52, c1_i32_22⟩
def k1_mult3 (i : grid1.Coords) (k1_t2 : Fin (k1_t2_loop i).trips) : BitVec 32 :=
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_22 : BitVec 32 := 1#32
  let arg8 : BitVec 32 := Scf.iv v55 c1_i32_22 k1_t2
  let c512_i32_35 : BitVec 32 := 512#32
  let v92 : BitVec 32 := Scalar.muli arg8 c512_i32_35
  v92
def k1_off5 (i : grid1.Coords) (k1_t2 : Fin (k1_t2_loop i).trips) : Fin 3 → Nat :=
  let c0_36 : Index := 0#32
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_22 : BitVec 32 := 1#32
  let arg8 : BitVec 32 := Scf.iv v55 c1_i32_22 k1_t2
  let c512_i32_35 : BitVec 32 := 512#32
  let v92 : BitVec 32 := Scalar.muli arg8 c512_i32_35
  let v93 : BitVec 32 := v92
  let v94 : Index := Scalar.indexCast v93
  let c0_37 : Index := 0#32
  ![0, v94.toNat, 0]
def k1_off6 (i : grid1.Coords) (k1_t2 : Fin (k1_t2_loop i).trips) : Fin 4 → Nat :=
  let c0_46 : Index := 0#32
  let c0_47 : Index := 0#32
  let c0_48 : Index := 0#32
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_22 : BitVec 32 := 1#32
  let arg8 : BitVec 32 := Scf.iv v55 c1_i32_22 k1_t2
  let c512_i32_35 : BitVec 32 := 512#32
  let v92 : BitVec 32 := Scalar.muli arg8 c512_i32_35
  let v93 : BitVec 32 := v92
  let v125 : Index := Scalar.indexCast v93
  ![0, 0, 0, v125.toNat]
def k1_mult4 (i : grid1.Coords) : BitVec 32 :=
  let arg1 : BitVec 32 := BitVec.ofNat 32 (i 1).val
  let c512_i32_31 : BitVec 32 := 512#32
  let v73 : BitVec 32 := Scalar.muli arg1 c512_i32_31
  v73
def k1_off7 (i : grid1.Coords) : Fin 2 → Nat :=
  let arg0 : BitVec 32 := BitVec.ofNat 32 (i 0).val
  let v89 : Index := Scalar.indexCast arg0
  let arg1 : BitVec 32 := BitVec.ofNat 32 (i 1).val
  let c512_i32_31 : BitVec 32 := 512#32
  let v73 : BitVec 32 := Scalar.muli arg1 c512_i32_31
  let v74 : BitVec 32 := v73
  let v90 : Index := Scalar.indexCast v74
  ![v89.toNat, v90.toNat]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x160x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x160x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x160x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x160x512 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S16x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2560x512 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2560x2560 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2560 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2560 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2560 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2560 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "ln2" => some ((Real.log 2 : ℝ) : EReal)
  | "s2_scale" => some (((Real.sqrt 160)⁻¹ * (Real.log 2)⁻¹ : ℝ) : EReal)
  | _ => none
-- ==== Reference.lean ====
abbrev S1x8192x2560 : Shape := ⟨3, ![1, 8192, 2560]⟩
abbrev S2560x3x16x160 : Shape := ⟨4, ![2560, 3, 16, 160]⟩
abbrev S16x160x2560 : Shape := ⟨3, ![16, 160, 2560]⟩
abbrev S2560 : Shape := ⟨1, ![2560]⟩
abbrev S1x8192x80 : Shape := ⟨3, ![1, 8192, 80]⟩
abbrev S8192x2560 : Shape := ⟨2, ![8192, 2560]⟩
abbrev S2560x7680 : Shape := ⟨2, ![2560, 7680]⟩
abbrev S2560x2560 : Shape := ⟨2, ![2560, 2560]⟩
abbrev S1x2560 : Shape := ⟨2, ![1, 2560]⟩
abbrev S8192x80 : Shape := ⟨2, ![8192, 80]⟩
abbrev S80x8192 : Shape := ⟨2, ![80, 8192]⟩
abbrev S16x8192 : Shape := ⟨2, ![16, 8192]⟩
abbrev S16x160x8192 : Shape := ⟨3, ![16, 160, 8192]⟩
abbrev S3x16x160x8192 : Shape := ⟨4, ![3, 16, 160, 8192]⟩
abbrev S8192x7680 : Shape := ⟨2, ![8192, 7680]⟩
abbrev S7680x8192 : Shape := ⟨2, ![7680, 8192]⟩
abbrev S2x16x80x8192 : Shape := ⟨4, ![2, 16, 80, 8192]⟩
abbrev S1x1x80x8192 : Shape := ⟨4, ![1, 1, 80, 8192]⟩
abbrev S2x16x160x8192 : Shape := ⟨4, ![2, 16, 160, 8192]⟩
abbrev S1x16x160x8192 : Shape := ⟨4, ![1, 16, 160, 8192]⟩
abbrev S16x8192x160 : Shape := ⟨3, ![16, 8192, 160]⟩
abbrev S16x8192x8192 : Shape := ⟨3, ![16, 8192, 8192]⟩
abbrev S16x8192x1 : Shape := ⟨3, ![16, 8192, 1]⟩
abbrev S2560x8192 : Shape := ⟨2, ![2560, 8192]⟩
abbrev S8192 : Shape := ⟨1, ![8192]⟩
abbrev S8192x1 : Shape := ⟨2, ![8192, 1]⟩

abbrev nBuf : Space → Nat
  | .hbm => 22
  | .vmem => 13
  | .smem => 0
  | _ => 0

abbrev bufTy : (tb : Table) → Fin (tcTables nBuf tb) → BufTy
  | .hbm, ⟨0, _⟩ => ⟨S1x8192x2560, .bf16⟩
  | .hbm, ⟨1, _⟩ => ⟨S2560x3x16x160, .fp8e4m3⟩
  | .hbm, ⟨2, _⟩ => ⟨S16x160x2560, .fp8e4m3⟩
  | .hbm, ⟨3, _⟩ => ⟨S2560, .f32⟩
  | .hbm, ⟨4, _⟩ => ⟨S2560, .f32⟩
  | .hbm, ⟨5, _⟩ => ⟨S1x8192x80, .f32⟩
  | .hbm, ⟨6, _⟩ => ⟨S1x8192x80, .f32⟩
  | .hbm, ⟨7, _⟩ => ⟨S8192x2560, .bf16⟩
  | .hbm, ⟨8, _⟩ => ⟨S2560x7680, .fp8e4m3⟩
  | .hbm, ⟨9, _⟩ => ⟨S2560x2560, .fp8e4m3⟩
  | .hbm, ⟨10, _⟩ => ⟨S1x2560, .f32⟩
  | .hbm, ⟨11, _⟩ => ⟨S1x2560, .f32⟩
  | .hbm, ⟨12, _⟩ => ⟨S8192x80, .f32⟩
  | .hbm, ⟨13, _⟩ => ⟨S80x8192, .f32⟩
  | .hbm, ⟨14, _⟩ => ⟨S8192x80, .f32⟩
  | .hbm, ⟨15, _⟩ => ⟨S80x8192, .f32⟩
  | .hbm, ⟨16, _⟩ => ⟨S8192x2560, .bf16⟩
  | .hbm, ⟨17, _⟩ => ⟨S16x8192, .f32⟩
  | .hbm, ⟨18, _⟩ => ⟨S16x160x8192, .bf16⟩
  | .hbm, ⟨19, _⟩ => ⟨S3x16x160x8192, .bf16⟩
  | .hbm, ⟨20, _⟩ => ⟨S8192x2560, .fp8e4m3⟩
  | .hbm, ⟨21, _⟩ => ⟨S16x160x8192, .fp8e4m3⟩
  | .local _ .vmem, ⟨0, _⟩ => ⟨S8192x2560, .bf16⟩
  | .local _ .vmem, ⟨1, _⟩ => ⟨S2560x7680, .fp8e4m3⟩
  | .local _ .vmem, ⟨2, _⟩ => ⟨S2560x2560, .fp8e4m3⟩
  | .local _ .vmem, ⟨3, _⟩ => ⟨S1x2560, .f32⟩
  | .local _ .vmem, ⟨4, _⟩ => ⟨S1x2560, .f32⟩
  | .local _ .vmem, ⟨5, _⟩ => ⟨S80x8192, .f32⟩
  | .local _ .vmem, ⟨6, _⟩ => ⟨S80x8192, .f32⟩
  | .local _ .vmem, ⟨7, _⟩ => ⟨S8192x2560, .bf16⟩
  | .local _ .vmem, ⟨8, _⟩ => ⟨S16x8192, .f32⟩
  | .local _ .vmem, ⟨9, _⟩ => ⟨S16x160x8192, .bf16⟩
  | .local _ .vmem, ⟨10, _⟩ => ⟨S3x16x160x8192, .bf16⟩
  | .local _ .vmem, ⟨11, _⟩ => ⟨S8192x2560, .fp8e4m3⟩
  | .local _ .vmem, ⟨12, _⟩ => ⟨S16x160x8192, .fp8e4m3⟩
  | _, _ => ⟨S1x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8192x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x160x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x16x160x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x160x8192 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
variable {F : FTy → Type} [FloatOps F] [Named F]
def κ : String → Option EReal := fun
  | "r_ln2" => some ((Real.log 2 : ℝ) : EReal)
  | "r_log2e" => some (((Real.log 2)⁻¹ : ℝ) : EReal)
  | "r_scale" => some (((Real.sqrt 160)⁻¹ : ℝ) : EReal)
  | _ => none
-- ==== Attn.lean ====
abbrev S3x16x160x8192 : Shape := ⟨4, ![3, 16, 160, 8192]⟩
abbrev S16x8192x256 : Shape := ⟨3, ![16, 8192, 256]⟩
abbrev S16x160x8192 : Shape := ⟨3, ![16, 160, 8192]⟩
abbrev S16x8192 : Shape := ⟨2, ![16, 8192]⟩
abbrev S1x1x160x512 : Shape := ⟨4, ![1, 1, 160, 512]⟩
abbrev S1x8192x256 : Shape := ⟨3, ![1, 8192, 256]⟩
abbrev S1x1x160x8192 : Shape := ⟨4, ![1, 1, 160, 8192]⟩
abbrev S1x160x512 : Shape := ⟨3, ![1, 160, 512]⟩
abbrev S160x512 : Shape := ⟨2, ![160, 512]⟩
abbrev S96x512 : Shape := ⟨2, ![96, 512]⟩
abbrev S256x512 : Shape := ⟨2, ![256, 512]⟩
abbrev S1x512 : Shape := ⟨2, ![1, 512]⟩
abbrev S1x512x256 : Shape := ⟨3, ![1, 512, 256]⟩
abbrev S512x256 : Shape := ⟨2, ![512, 256]⟩
abbrev S512x512 : Shape := ⟨2, ![512, 512]⟩
abbrev S512 : Shape := ⟨1, ![512]⟩

abbrev nBuf : Space → Nat
  | .hbm => 5
  | .vmem => 11
  | .smem => 0
  | _ => 0

abbrev bufTy : (tb : Table) → Fin (tcTables nBuf tb) → BufTy
  | .hbm, ⟨0, _⟩ => ⟨S3x16x160x8192, .bf16⟩
  | .hbm, ⟨1, _⟩ => ⟨S16x8192x256, .bf16⟩
  | .hbm, ⟨2, _⟩ => ⟨S16x160x8192, .bf16⟩
  | .hbm, ⟨3, _⟩ => ⟨S16x160x8192, .fp8e4m3⟩
  | .hbm, ⟨4, _⟩ => ⟨S16x8192, .f32⟩
  | .local _ .vmem, ⟨0, _⟩ => ⟨S1x1x160x512, .bf16⟩
  | .local _ .vmem, ⟨1, _⟩ => ⟨S1x1x160x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x1x160x8192, .bf16⟩
  | .local _ .vmem, ⟨5, _⟩ => ⟨S1x1x160x8192, .bf16⟩
  | .local _ .vmem, ⟨6, _⟩ => ⟨S1x160x512, .bf16⟩
  | .local _ .vmem, ⟨7, _⟩ => ⟨S1x160x512, .bf16⟩
  | .local _ .vmem, ⟨8, _⟩ => ⟨S1x160x512, .fp8e4m3⟩
  | .local _ .vmem, ⟨9, _⟩ => ⟨S1x160x512, .fp8e4m3⟩
  | .local _ .vmem, ⟨10, _⟩ => ⟨S16x8192, .f32⟩
  | _, _ => ⟨S3x16x160x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 3 → Nat :=
  let c0_6 : Index := 0#32
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_7 : Index := 0#32
  ![0, v9.toNat, 0]
def k0_off2 (i : grid0.Coords) : Fin 4 → Nat :=
  let c0_17 : Index := 0#32
  let c0_18 : Index := 0#32
  let c0_19 : Index := 0#32
  let arg1 : BitVec 32 := BitVec.ofNat 32 (i 1).val
  let c512_i32 : BitVec 32 := 512#32
  let v7 : BitVec 32 := Scalar.muli arg1 c512_i32
  let v8 : BitVec 32 := v7
  let v45 : Index := Scalar.indexCast v8
  ![0, 0, 0, v45.toNat]
@[reducible] def k0_t1_loop (i : grid0.Coords) : Scf.Loop 32 :=
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_21 : BitVec 32 := 1#32
  ⟨c0_i32, v55, c1_i32_21⟩
def k0_mult2 (i : grid0.Coords) (k0_t1 : Fin (k0_t1_loop i).trips) : BitVec 32 :=
  let c0_i32 : BitVec 32 := 0#32
  let c1_i32_21 : BitVec 32 := 1#32
  let arg8 : BitVec 32 := Scf.iv c0_i32 c1_i32_21 k0_t1
  let c512_i32_35 : BitVec 32 := 512#32
  let v92 : BitVec 32 := Scalar.muli arg8 c512_i32_35
  v92
def k0_off3 (i : grid0.Coords) (k0_t1 : Fin (k0_t1_loop i).trips) : Fin 3 → Nat :=
  let c0_36 : Index := 0#32
  let c0_i32 : BitVec 32 := 0#32
  let c1_i32_21 : BitVec 32 := 1#32
  let arg8 : BitVec 32 := Scf.iv c0_i32 c1_i32_21 k0_t1
  let c512_i32_35 : BitVec 32 := 512#32
  let v92 : BitVec 32 := Scalar.muli arg8 c512_i32_35
  let v93 : BitVec 32 := v92
  let v94 : Index := Scalar.indexCast v93
  let c0_37 : Index := 0#32
  ![0, v94.toNat, 0]
def k0_off4 (i : grid0.Coords) (k0_t1 : Fin (k0_t1_loop i).trips) : Fin 4 → Nat :=
  let c0_46 : Index := 0#32
  let c0_47 : Index := 0#32
  let c0_48 : Index := 0#32
  let c0_i32 : BitVec 32 := 0#32
  let c1_i32_21 : BitVec 32 := 1#32
  let arg8 : BitVec 32 := Scf.iv c0_i32 c1_i32_21 k0_t1
  let c512_i32_35 : BitVec 32 := 512#32
  let v92 : BitVec 32 := Scalar.muli arg8 c512_i32_35
  let v93 : BitVec 32 := v92
  let v125 : Index := Scalar.indexCast v93
  ![0, 0, 0, v125.toNat]
@[reducible] def k0_t2_loop (i : grid0.Coords) : Scf.Loop 32 :=
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let v52 : BitVec 32 := Scalar.addi c0_i32 v51
  let c1_i32_22 : BitVec 32 := 1#32
  ⟨v55, v52, c1_i32_22⟩
def k0_mult3 (i : grid0.Coords) (k0_t2 : Fin (k0_t2_loop i).trips) : BitVec 32 :=
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_22 : BitVec 32 := 1#32
  let arg8 : BitVec 32 := Scf.iv v55 c1_i32_22 k0_t2
  let c512_i32_35 : BitVec 32 := 512#32
  let v92 : BitVec 32 := Scalar.muli arg8 c512_i32_35
  v92
def k0_off5 (i : grid0.Coords) (k0_t2 : Fin (k0_t2_loop i).trips) : Fin 3 → Nat :=
  let c0_36 : Index := 0#32
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_22 : BitVec 32 := 1#32
  let arg8 : BitVec 32 := Scf.iv v55 c1_i32_22 k0_t2
  let c512_i32_35 : BitVec 32 := 512#32
  let v92 : BitVec 32 := Scalar.muli arg8 c512_i32_35
  let v93 : BitVec 32 := v92
  let v94 : Index := Scalar.indexCast v93
  let c0_37 : Index := 0#32
  ![0, v94.toNat, 0]
def k0_off6 (i : grid0.Coords) (k0_t2 : Fin (k0_t2_loop i).trips) : Fin 4 → Nat :=
  let c0_46 : Index := 0#32
  let c0_47 : Index := 0#32
  let c0_48 : Index := 0#32
  let c0_i32 : BitVec 32 := 0#32
  let arg1 : BitVec 32 := BitVec.ofNat 32 (i 1).val
  let v51 : BitVec 32 := Scalar.subi arg1 c0_i32
  let c1_i32 : BitVec 32 := 1#32
  let v53 : BitVec 32 := Scalar.divsi v51 c1_i32
  let v54 : BitVec 32 := Scalar.muli v53 c1_i32
  let v55 : BitVec 32 := Scalar.addi c0_i32 v54
  let c1_i32_22 : BitVec 32 := 1#32
  let arg8 : BitVec 32 := Scf.iv v55 c1_i32_22 k0_t2
  let c512_i32_35 : BitVec 32 := 512#32
  let v92 : BitVec 32 := Scalar.muli arg8 c512_i32_35
  let v93 : BitVec 32 := v92
  let v125 : Index := Scalar.indexCast v93
  ![0, 0, 0, v125.toNat]
def k0_mult4 (i : grid0.Coords) : BitVec 32 :=
  let arg1 : BitVec 32 := BitVec.ofNat 32 (i 1).val
  let c512_i32_31 : BitVec 32 := 512#32
  let v73 : BitVec 32 := Scalar.muli arg1 c512_i32_31
  v73
def k0_off7 (i : grid0.Coords) : Fin 2 → Nat :=
  let arg0 : BitVec 32 := BitVec.ofNat 32 (i 0).val
  let v89 : Index := Scalar.indexCast arg0
  let arg1 : BitVec 32 := BitVec.ofNat 32 (i 1).val
  let c512_i32_31 : BitVec 32 := 512#32
  let v73 : BitVec 32 := Scalar.muli arg1 c512_i32_31
  let v74 : BitVec 32 := v73
  let v90 : Index := Scalar.indexCast v74
  ![v89.toNat, v90.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x160x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x160x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x160x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== AttnIdeal.lean ====
variable {F : FTy → Type} [FloatOps F] [Named F]
def κ : String → Option EReal := fun
  | "ln2" => some ((Real.log 2 : ℝ) : EReal)
  | "s2_scale" => some (((Real.sqrt 160)⁻¹ * (Real.log 2)⁻¹ : ℝ) : EReal)
  | _ => none
-- ==== AttnRefIdeal.lean ====
abbrev S3x16x160x8192 : Shape := ⟨4, ![3, 16, 160, 8192]⟩
abbrev S16x8192x256 : Shape := ⟨3, ![16, 8192, 256]⟩
abbrev S1x16x160x8192 : Shape := ⟨4, ![1, 16, 160, 8192]⟩
abbrev S16x160x8192 : Shape := ⟨3, ![16, 160, 8192]⟩
abbrev S16x8192x160 : Shape := ⟨3, ![16, 8192, 160]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S16x8192x8192 : Shape := ⟨3, ![16, 8192, 8192]⟩
abbrev S16x8192 : Shape := ⟨2, ![16, 8192]⟩
abbrev S16x8192x1 : Shape := ⟨3, ![16, 8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S3x16x160x8192, .bf16⟩
  | .hbm, ⟨1, _⟩ => ⟨S16x8192x256, .bf16⟩
  | .hbm, ⟨2, _⟩ => ⟨S1x16x160x8192, .bf16⟩
  | .hbm, ⟨3, _⟩ => ⟨S16x160x8192, .bf16⟩
  | .hbm, ⟨4, _⟩ => ⟨S16x8192x160, .bf16⟩
  | .hbm, ⟨5, _⟩ => ⟨S1x16x160x8192, .bf16⟩
  | .hbm, ⟨6, _⟩ => ⟨S16x160x8192, .bf16⟩
  | .hbm, ⟨7, _⟩ => ⟨S16x8192x160, .bf16⟩
  | .hbm, ⟨8, _⟩ => ⟨S16x8192x160, .bf16⟩
  | .hbm, ⟨9, _⟩ => ⟨S8192, .i32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S16x8192x8192, .f32⟩
  | .hbm, ⟨19, _⟩ => ⟨S_, .f32⟩
  | .hbm, ⟨20, _⟩ => ⟨S_, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S_, .f32⟩
  | .hbm, ⟨34, _⟩ => ⟨S16x8192x1, .f32⟩
  | .hbm, ⟨35, _⟩ => ⟨S16x8192x1, .f32⟩
  | .hbm, ⟨36, _⟩ => ⟨S16x8192x1, .f32⟩
  | .hbm, ⟨37, _⟩ => ⟨S_, .f32⟩
  | .hbm, ⟨38, _⟩ => ⟨S16x8192x1, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S_, .f32⟩
  | .hbm, ⟨50, _⟩ => ⟨S16x8192, .f32⟩
  | .hbm, ⟨51, _⟩ => ⟨S16x8192x8192, .bf16⟩
  | .hbm, ⟨52, _⟩ => ⟨S16x8192x160, .f32⟩
  | .hbm, ⟨53, _⟩ => ⟨S16x8192, .f32⟩
  | .hbm, ⟨54, _⟩ => ⟨S16x8192x1, .f32⟩
  | .hbm, ⟨55, _⟩ => ⟨S16x8192x160, .f32⟩
  | .hbm, ⟨56, _⟩ => ⟨S16x8192x160, .f32⟩
  | .hbm, ⟨57, _⟩ => ⟨S16x8192, .f32⟩
  | .hbm, ⟨58, _⟩ => ⟨S16x8192, .f32⟩
  | .hbm, ⟨59, _⟩ => ⟨S16x8192, .f32⟩
  | .hbm, ⟨60, _⟩ => ⟨S16x8192, .f32⟩
  | .hbm, ⟨61, _⟩ => ⟨S16x8192, .f32⟩
  | .hbm, ⟨62, _⟩ => ⟨S16x8192, .f32⟩
  | .hbm, ⟨63, _⟩ => ⟨S16x8192, .f32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S8192, .f32⟩
  | .hbm, ⟨69, _⟩ => ⟨S1x8192, .f32⟩
  | .hbm, ⟨70, _⟩ => ⟨S16x8192, .f32⟩
  | .hbm, ⟨71, _⟩ => ⟨S16x8192, .f32⟩
  | .hbm, ⟨72, _⟩ => ⟨S16x8192x160, .bf16⟩
  | .hbm, ⟨73, _⟩ => ⟨S16x160x8192, .bf16⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16x8192x160, .f32⟩
  | .hbm, ⟨78, _⟩ => ⟨S16x8192x160, .f32⟩
  | .hbm, ⟨79, _⟩ => ⟨S_, .f32⟩
  | .hbm, ⟨80, _⟩ => ⟨S16x8192x160, .f32⟩
  | .hbm, ⟨81, _⟩ => ⟨S16x8192x160, .f32⟩
  | .hbm, ⟨82, _⟩ => ⟨S16x8192x160, .fp8e4m3⟩
  | .hbm, ⟨83, _⟩ => ⟨S16x160x8192, .fp8e4m3⟩
  | _, _ => ⟨S3x16x160x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Qkv.lean ====
abbrev S1x8192x2560 : Shape := ⟨3, ![1, 8192, 2560]⟩
abbrev S2560x3x16x160 : Shape := ⟨4, ![2560, 3, 16, 160]⟩
abbrev S1x8192x80 : Shape := ⟨3, ![1, 8192, 80]⟩
abbrev S8192x2560 : Shape := ⟨2, ![8192, 2560]⟩
abbrev S3x16x160x2560 : Shape := ⟨4, ![3, 16, 160, 2560]⟩
abbrev S8192x80 : Shape := ⟨2, ![8192, 80]⟩
abbrev S80x8192 : Shape := ⟨2, ![80, 8192]⟩
abbrev S3x16x160x8192 : Shape := ⟨4, ![3, 16, 160, 8192]⟩
abbrev S16x8192x256 : Shape := ⟨3, ![16, 8192, 256]⟩
abbrev S512x2560 : Shape := ⟨2, ![512, 2560]⟩
abbrev S80x512 : Shape := ⟨2, ![80, 512]⟩
abbrev S3x16x160x512 : Shape := ⟨4, ![3, 16, 160, 512]⟩
abbrev S16x512x256 : Shape := ⟨3, ![16, 512, 256]⟩
abbrev S1x4x160x2560 : Shape := ⟨4, ![1, 4, 160, 2560]⟩
abbrev S4x160x2560 : Shape := ⟨3, ![4, 160, 2560]⟩
abbrev S640x2560 : Shape := ⟨2, ![640, 2560]⟩
abbrev S640x512 : Shape := ⟨2, ![640, 512]⟩
abbrev S160x512 : Shape := ⟨2, ![160, 512]⟩
abbrev S1x1x160x512 : Shape := ⟨4, ![1, 1, 160, 512]⟩
abbrev S96x512 : Shape := ⟨2, ![96, 512]⟩
abbrev S256x512 : Shape := ⟨2, ![256, 512]⟩
abbrev S512x256 : Shape := ⟨2, ![512, 256]⟩
abbrev S1x512x256 : Shape := ⟨3, ![1, 512, 256]⟩

abbrev nBuf : Space → Nat
  | .hbm => 13
  | .vmem => 13
  | .smem => 0
  | _ => 0

abbrev bufTy : (tb : Table) → Fin (tcTables nBuf tb) → BufTy
  | .hbm, ⟨0, _⟩ => ⟨S1x8192x2560, .bf16⟩
  | .hbm, ⟨1, _⟩ => ⟨S2560x3x16x160, .fp8e4m3⟩
  | .hbm, ⟨2, _⟩ => ⟨S1x8192x80, .f32⟩
  | .hbm, ⟨3, _⟩ => ⟨S1x8192x80, .f32⟩
  | .hbm, ⟨4, _⟩ => ⟨S8192x2560, .bf16⟩
  | .hbm, ⟨5, _⟩ => ⟨S3x16x160x2560, .fp8e4m3⟩
  | .hbm, ⟨6, _⟩ => ⟨S8192x80, .f32⟩
  | .hbm, ⟨7, _⟩ => ⟨S80x8192, .f32⟩
  | .hbm, ⟨8, _⟩ => ⟨S8192x80, .f32⟩
  | .hbm, ⟨9, _⟩ => ⟨S80x8192, .f32⟩
  | .hbm, ⟨10, _⟩ => ⟨S3x16x160x8192, .bf16⟩
  | .hbm, ⟨11, _⟩ => ⟨S16x8192x256, .bf16⟩
  | .hbm, ⟨12, _⟩ => ⟨S8192x2560, .fp8e4m3⟩
  | .local _ .vmem, ⟨0, _⟩ => ⟨S512x2560, .bf16⟩
  | .local _ .vmem, ⟨1, _⟩ => ⟨S512x2560, .bf16⟩
  | .local _ .vmem, ⟨2, _⟩ => ⟨S3x16x160x2560, .fp8e4m3⟩
  | .local _ .vmem, ⟨3, _⟩ => ⟨S80x512, .f32⟩
  | .local _ .vmem, ⟨4, _⟩ => ⟨S80x512, .f32⟩
  | .local _ .vmem, ⟨5, _⟩ => ⟨S80x512, .f32⟩
  | .local _ .vmem, ⟨6, _⟩ => ⟨S80x512, .f32⟩
  | .local _ .vmem, ⟨7, _⟩ => ⟨S3x16x160x512, .bf16⟩
  | .local _ .vmem, ⟨8, _⟩ => ⟨S3x16x160x512, .bf16⟩
  | .local _ .vmem, ⟨9, _⟩ => ⟨S16x512x256, .bf16⟩
  | .local _ .vmem, ⟨10, _⟩ => ⟨S16x512x256, .bf16⟩
  | .local _ .vmem, ⟨11, _⟩ => ⟨S512x2560, .fp8e4m3⟩
  | .local _ .vmem, ⟨12, _⟩ => ⟨S512x2560, .fp8e4m3⟩
  | _, _ => ⟨S1x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16x160x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x16x160x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S1x8192x2560 : Shape := ⟨3, ![1, 8192, 2560]⟩
abbrev S2560x3x16x160 : Shape := ⟨4, ![2560, 3, 16, 160]⟩
abbrev S1x8192x80 : Shape := ⟨3, ![1, 8192, 80]⟩
abbrev S8192x2560 : Shape := ⟨2, ![8192, 2560]⟩
abbrev S2560x7680 : Shape := ⟨2, ![2560, 7680]⟩
abbrev S8192x80 : Shape := ⟨2, ![8192, 80]⟩
abbrev S80x8192 : Shape := ⟨2, ![80, 8192]⟩
abbrev S3x16x160x8192 : Shape := ⟨4, ![3, 16, 160, 8192]⟩
abbrev S16x8192x256 : Shape := ⟨3, ![16, 8192, 256]⟩
abbrev S8192x7680 : Shape := ⟨2, ![8192, 7680]⟩
abbrev S7680x8192 : Shape := ⟨2, ![7680, 8192]⟩
abbrev S2x16x80x8192 : Shape := ⟨4, ![2, 16, 80, 8192]⟩
abbrev S1x1x80x8192 : Shape := ⟨4, ![1, 1, 80, 8192]⟩
abbrev S2x16x160x8192 : Shape := ⟨4, ![2, 16, 160, 8192]⟩
abbrev S1x16x160x8192 : Shape := ⟨4, ![1, 16, 160, 8192]⟩
abbrev S16x160x8192 : Shape := ⟨3, ![16, 160, 8192]⟩
abbrev S16x8192x160 : Shape := ⟨3, ![16, 8192, 160]⟩
abbrev S16x8192x96 : Shape := ⟨3, ![16, 8192, 96]⟩

abbrev nBuf : Space → Nat
  | .hbm => 13
  | .vmem => 7
  | .smem => 0
  | _ => 0

abbrev bufTy : (tb : Table) → Fin (tcTables nBuf tb) → BufTy
  | .hbm, ⟨0, _⟩ => ⟨S1x8192x2560, .bf16⟩
  | .hbm, ⟨1, _⟩ => ⟨S2560x3x16x160, .fp8e4m3⟩
  | .hbm, ⟨2, _⟩ => ⟨S1x8192x80, .f32⟩
  | .hbm, ⟨3, _⟩ => ⟨S1x8192x80, .f32⟩
  | .hbm, ⟨4, _⟩ => ⟨S8192x2560, .bf16⟩
  | .hbm, ⟨5, _⟩ => ⟨S2560x7680, .fp8e4m3⟩
  | .hbm, ⟨6, _⟩ => ⟨S8192x80, .f32⟩
  | .hbm, ⟨7, _⟩ => ⟨S80x8192, .f32⟩
  | .hbm, ⟨8, _⟩ => ⟨S8192x80, .f32⟩
  | .hbm, ⟨9, _⟩ => ⟨S80x8192, .f32⟩
  | .hbm, ⟨10, _⟩ => ⟨S3x16x160x8192, .bf16⟩
  | .hbm, ⟨11, _⟩ => ⟨S16x8192x256, .bf16⟩
  | .hbm, ⟨12, _⟩ => ⟨S8192x2560, .fp8e4m3⟩
  | .local _ .vmem, ⟨0, _⟩ => ⟨S8192x2560, .bf16⟩
  | .local _ .vmem, ⟨1, _⟩ => ⟨S2560x7680, .fp8e4m3⟩
  | .local _ .vmem, ⟨2, _⟩ => ⟨S80x8192, .f32⟩
  | .local _ .vmem, ⟨3, _⟩ => ⟨S80x8192, .f32⟩
  | .local _ .vmem, ⟨4, _⟩ => ⟨S3x16x160x8192, .bf16⟩
  | .local _ .vmem, ⟨5, _⟩ => ⟨S16x8192x256, .bf16⟩
  | .local _ .vmem, ⟨6, _⟩ => ⟨S8192x2560, .fp8e4m3⟩
  | _, _ => ⟨S1x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x16x160x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Out.lean ====
abbrev S16x160x8192 : Shape := ⟨3, ![16, 160, 8192]⟩
abbrev S16x160x2560 : Shape := ⟨3, ![16, 160, 2560]⟩
abbrev S1x8192x2560 : Shape := ⟨3, ![1, 8192, 2560]⟩
abbrev S2560 : Shape := ⟨1, ![2560]⟩
abbrev S8192x2560 : Shape := ⟨2, ![8192, 2560]⟩
abbrev S2560x2560 : Shape := ⟨2, ![2560, 2560]⟩
abbrev S2560x8192 : Shape := ⟨2, ![2560, 8192]⟩
abbrev S1x2560 : Shape := ⟨2, ![1, 2560]⟩
abbrev S2560x512 : Shape := ⟨2, ![2560, 512]⟩
abbrev S512x2560 : Shape := ⟨2, ![512, 2560]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S16x160x8192, .fp8e4m3⟩
  | .hbm, ⟨1, _⟩ => ⟨S16x160x2560, .fp8e4m3⟩
  | .hbm, ⟨2, _⟩ => ⟨S1x8192x2560, .bf16⟩
  | .hbm, ⟨3, _⟩ => ⟨S2560, .f32⟩
  | .hbm, ⟨4, _⟩ => ⟨S2560, .f32⟩
  | .hbm, ⟨5, _⟩ => ⟨S8192x2560, .bf16⟩
  | .hbm, ⟨6, _⟩ => ⟨S2560x2560, .fp8e4m3⟩
  | .hbm, ⟨7, _⟩ => ⟨S2560x8192, .fp8e4m3⟩
  | .hbm, ⟨8, _⟩ => ⟨S1x2560, .f32⟩
  | .hbm, ⟨9, _⟩ => ⟨S1x2560, .f32⟩
  | .hbm, ⟨10, _⟩ => ⟨S8192x2560, .bf16⟩
  | .local _ .vmem, ⟨0, _⟩ => ⟨S2560x512, .fp8e4m3⟩
  | .local _ .vmem, ⟨1, _⟩ => ⟨S2560x512, .fp8e4m3⟩
  | .local _ .vmem, ⟨2, _⟩ => ⟨S2560x2560, .fp8e4m3⟩
  | .local _ .vmem, ⟨3, _⟩ => ⟨S512x2560, .bf16⟩
  | .local _ .vmem, ⟨4, _⟩ => ⟨S512x2560, .bf16⟩
  | .local _ .vmem, ⟨5, _⟩ => ⟨S1x2560, .f32⟩
  | .local _ .vmem, ⟨6, _⟩ => ⟨S1x2560, .f32⟩
  | .local _ .vmem, ⟨7, _⟩ => ⟨S512x2560, .bf16⟩
  | .local _ .vmem, ⟨8, _⟩ => ⟨S512x2560, .bf16⟩
  | _, _ => ⟨S16x160x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16x160x8192 : Shape := ⟨3, ![16, 160, 8192]⟩
abbrev S16x160x2560 : Shape := ⟨3, ![16, 160, 2560]⟩
abbrev S1x8192x2560 : Shape := ⟨3, ![1, 8192, 2560]⟩
abbrev S2560 : Shape := ⟨1, ![2560]⟩
abbrev S2560x8192 : Shape := ⟨2, ![2560, 8192]⟩
abbrev S2560x2560 : Shape := ⟨2, ![2560, 2560]⟩
abbrev S8192x2560 : Shape := ⟨2, ![8192, 2560]⟩
abbrev S1x2560 : Shape := ⟨2, ![1, 2560]⟩
abbrev S8192 : Shape := ⟨1, ![8192]⟩
abbrev S8192x1 : Shape := ⟨2, ![8192, 1]⟩

abbrev nBuf : Space → Nat
  | .hbm => 11
  | .vmem => 6
  | .smem => 0
  | _ => 0

abbrev bufTy : (tb : Table) → Fin (tcTables nBuf tb) → BufTy
  | .hbm, ⟨0, _⟩ => ⟨S16x160x8192, .fp8e4m3⟩
  | .hbm, ⟨1, _⟩ => ⟨S16x160x2560, .fp8e4m3⟩
  | .hbm, ⟨2, _⟩ => ⟨S1x8192x2560, .bf16⟩
  | .hbm, ⟨3, _⟩ => ⟨S2560, .f32⟩
  | .hbm, ⟨4, _⟩ => ⟨S2560, .f32⟩
  | .hbm, ⟨5, _⟩ => ⟨S2560x8192, .fp8e4m3⟩
  | .hbm, ⟨6, _⟩ => ⟨S2560x2560, .fp8e4m3⟩
  | .hbm, ⟨7, _⟩ => ⟨S8192x2560, .bf16⟩
  | .hbm, ⟨8, _⟩ => ⟨S1x2560, .f32⟩
  | .hbm, ⟨9, _⟩ => ⟨S1x2560, .f32⟩
  | .hbm, ⟨10, _⟩ => ⟨S8192x2560, .bf16⟩
  | .local _ .vmem, ⟨0, _⟩ => ⟨S2560x8192, .fp8e4m3⟩
  | .local _ .vmem, ⟨1, _⟩ => ⟨S2560x2560, .fp8e4m3⟩
  | .local _ .vmem, ⟨2, _⟩ => ⟨S8192x2560, .bf16⟩
  | .local _ .vmem, ⟨3, _⟩ => ⟨S1x2560, .f32⟩
  | .local _ .vmem, ⟨4, _⟩ => ⟨S1x2560, .f32⟩
  | .local _ .vmem, ⟨5, _⟩ => ⟨S8192x2560, .bf16⟩
  | _, _ => ⟨S16x160x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2560x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.QkvRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-!
# The projection call's body and proof data

At a parameter `V`, the contents of the core's buffers when the call is entered: each window's block, what the body
leaves in each output block, the body's triple, and the pipeline's proof data.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_qkv_rope` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x2560 := Rect.unit (s := S512x2560) ![0, 0] S512x2560.size inb_S512x2560_S512x2560_0_0
abbrev r0_1 : Rect S80x512 := Rect.unit (s := S80x512) ![0, 0] S80x512.size inb_S80x512_S80x512_0_0
abbrev r0_2 : Rect S3x16x160x2560 := Rect.unit (s := S3x16x160x2560) ![0, 0, 0, 0] S1x4x160x2560.size inb_S3x16x160x2560_S1x4x160x2560_0_0_0_0
abbrev r0_3 : Rect S3x16x160x512 := Rect.unit (s := S3x16x160x512) ![0, 0, 0, 0] S1x1x160x512.size inb_S3x16x160x512_S1x1x160x512_0_0_0_0
abbrev r0_4 : Rect S3x16x160x512 := Rect.unit (s := S3x16x160x512) ![0, 1, 0, 0] S1x1x160x512.size inb_S3x16x160x512_S1x1x160x512_0_1_0_0
abbrev r0_5 : Rect S3x16x160x512 := Rect.unit (s := S3x16x160x512) ![0, 2, 0, 0] S1x1x160x512.size inb_S3x16x160x512_S1x1x160x512_0_2_0_0
abbrev r0_6 : Rect S3x16x160x512 := Rect.unit (s := S3x16x160x512) ![0, 3, 0, 0] S1x1x160x512.size inb_S3x16x160x512_S1x1x160x512_0_3_0_0
abbrev r0_7 : Rect S3x16x160x2560 := Rect.unit (s := S3x16x160x2560) ![1, 0, 0, 0] S1x4x160x2560.size inb_S3x16x160x2560_S1x4x160x2560_1_0_0_0
abbrev r0_8 : Rect S3x16x160x512 := Rect.unit (s := S3x16x160x512) ![1, 0, 0, 0] S1x1x160x512.size inb_S3x16x160x512_S1x1x160x512_1_0_0_0
abbrev r0_9 : Rect S16x512x256 := Rect.unit (s := S16x512x256) ![0, 0, 0] S1x512x256.size inb_S16x512x256_S1x512x256_0_0_0
abbrev r0_10 : Rect S3x16x160x512 := Rect.unit (s := S3x16x160x512) ![1, 1, 0, 0] S1x1x160x512.size inb_S3x16x160x512_S1x1x160x512_1_1_0_0
abbrev r0_11 : Rect S16x512x256 := Rect.unit (s := S16x512x256) ![1, 0, 0] S1x512x256.size inb_S16x512x256_S1x512x256_1_0_0
abbrev r0_12 : Rect S3x16x160x512 := Rect.unit (s := S3x16x160x512) ![1, 2, 0, 0] S1x1x160x512.size inb_S3x16x160x512_S1x1x160x512_1_2_0_0
abbrev r0_13 : Rect S16x512x256 := Rect.unit (s := S16x512x256) ![2, 0, 0] S1x512x256.size inb_S16x512x256_S1x512x256_2_0_0
abbrev r0_14 : Rect S3x16x160x512 := Rect.unit (s := S3x16x160x512) ![1, 3, 0, 0] S1x1x160x512.size inb_S3x16x160x512_S1x1x160x512_1_3_0_0
abbrev r0_15 : Rect S16x512x256 := Rect.unit (s := S16x512x256) ![3, 0, 0] S1x512x256.size inb_S16x512x256_S1x512x256_3_0_0
abbrev r0_16 : Rect S3x16x160x2560 := Rect.unit (s := S3x16x160x2560) ![2, 0, 0, 0] S1x4x160x2560.size inb_S3x16x160x2560_S1x4x160x2560_2_0_0_0
abbrev r0_17 : Rect S3x16x160x512 := Rect.unit (s := S3x16x160x512) ![2, 0, 0, 0] S1x1x160x512.size inb_S3x16x160x512_S1x1x160x512_2_0_0_0
abbrev r0_18 : Rect S3x16x160x512 := Rect.unit (s := S3x16x160x512) ![2, 1, 0, 0] S1x1x160x512.size inb_S3x16x160x512_S1x1x160x512_2_1_0_0
abbrev r0_19 : Rect S3x16x160x512 := Rect.unit (s := S3x16x160x512) ![2, 2, 0, 0] S1x1x160x512.size inb_S3x16x160x512_S1x1x160x512_2_2_0_0
abbrev r0_20 : Rect S3x16x160x512 := Rect.unit (s := S3x16x160x512) ![2, 3, 0, 0] S1x1x160x512.size inb_S3x16x160x512_S1x1x160x512_2_3_0_0
abbrev r0_21 : Rect S3x16x160x2560 := Rect.unit (s := S3x16x160x2560) ![0, 4, 0, 0] S1x4x160x2560.size inb_S3x16x160x2560_S1x4x160x2560_0_4_0_0
abbrev r0_22 : Rect S3x16x160x512 := Rect.unit (s := S3x16x160x512) ![0, 4, 0, 0] S1x1x160x512.size inb_S3x16x160x512_S1x1x160x512_0_4_0_0
abbrev r0_23 : Rect S3x16x160x512 := Rect.unit (s := S3x16x160x512) ![0, 5, 0, 0] S1x1x160x512.size inb_S3x16x160x512_S1x1x160x512_0_5_0_0
abbrev r0_24 : Rect S3x16x160x512 := Rect.unit (s := S3x16x160x512) ![0, 6, 0, 0] S1x1x160x512.size inb_S3x16x160x512_S1x1x160x512_0_6_0_0
abbrev r0_25 : Rect S3x16x160x512 := Rect.unit (s := S3x16x160x512) ![0, 7, 0, 0] S1x1x160x512.size inb_S3x16x160x512_S1x1x160x512_0_7_0_0
abbrev r0_26 : Rect S3x16x160x2560 := Rect.unit (s := S3x16x160x2560) ![1, 4, 0, 0] S1x4x160x2560.size inb_S3x16x160x2560_S1x4x160x2560_1_4_0_0
abbrev r0_27 : Rect S3x16x160x512 := Rect.unit (s := S3x16x160x512) ![1, 4, 0, 0] S1x1x160x512.size inb_S3x16x160x512_S1x1x160x512_1_4_0_0
abbrev r0_28 : Rect S16x512x256 := Rect.unit (s := S16x512x256) ![4, 0, 0] S1x512x256.size inb_S16x512x256_S1x512x256_4_0_0
abbrev r0_29 : Rect S3x16x160x512 := Rect.unit (s := S3x16x160x512) ![1, 5, 0, 0] S1x1x160x512.size inb_S3x16x160x512_S1x1x160x512_1_5_0_0
abbrev r0_30 : Rect S16x512x256 := Rect.unit (s := S16x512x256) ![5, 0, 0] S1x512x256.size inb_S16x512x256_S1x512x256_5_0_0
abbrev r0_31 : Rect S3x16x160x512 := Rect.unit (s := S3x16x160x512) ![1, 6, 0, 0] S1x1x160x512.size inb_S3x16x160x512_S1x1x160x512_1_6_0_0
abbrev r0_32 : Rect S16x512x256 := Rect.unit (s := S16x512x256) ![6, 0, 0] S1x512x256.size inb_S16x512x256_S1x512x256_6_0_0
abbrev r0_33 : Rect S3x16x160x512 := Rect.unit (s := S3x16x160x512) ![1, 7, 0, 0] S1x1x160x512.size inb_S3x16x160x512_S1x1x160x512_1_7_0_0
abbrev r0_34 : Rect S16x512x256 := Rect.unit (s := S16x512x256) ![7, 0, 0] S1x512x256.size inb_S16x512x256_S1x512x256_7_0_0
abbrev r0_35 : Rect S3x16x160x2560 := Rect.unit (s := S3x16x160x2560) ![2, 4, 0, 0] S1x4x160x2560.size inb_S3x16x160x2560_S1x4x160x2560_2_4_0_0
abbrev r0_36 : Rect S3x16x160x512 := Rect.unit (s := S3x16x160x512) ![2, 4, 0, 0] S1x1x160x512.size inb_S3x16x160x512_S1x1x160x512_2_4_0_0
abbrev r0_37 : Rect S3x16x160x512 := Rect.unit (s := S3x16x160x512) ![2, 5, 0, 0] S1x1x160x512.size inb_S3x16x160x512_S1x1x160x512_2_5_0_0
abbrev r0_38 : Rect S3x16x160x512 := Rect.unit (s := S3x16x160x512) ![2, 6, 0, 0] S1x1x160x512.size inb_S3x16x160x512_S1x1x160x512_2_6_0_0
abbrev r0_39 : Rect S3x16x160x512 := Rect.unit (s := S3x16x160x512) ![2, 7, 0, 0] S1x1x160x512.size inb_S3x16x160x512_S1x1x160x512_2_7_0_0
abbrev r0_40 : Rect S3x16x160x2560 := Rect.unit (s := S3x16x160x2560) ![0, 8, 0, 0] S1x4x160x2560.size inb_S3x16x160x2560_S1x4x160x2560_0_8_0_0
abbrev r0_41 : Rect S3x16x160x512 := Rect.unit (s := S3x16x160x512) ![0, 8, 0, 0] S1x1x160x512.size inb_S3x16x160x512_S1x1x160x512_0_8_0_0
abbrev r0_42 : Rect S3x16x160x512 := Rect.unit (s := S3x16x160x512) ![0, 9, 0, 0] S1x1x160x512.size inb_S3x16x160x512_S1x1x160x512_0_9_0_0
abbrev r0_43 : Rect S3x16x160x512 := Rect.unit (s := S3x16x160x512) ![0, 10, 0, 0] S1x1x160x512.size inb_S3x16x160x512_S1x1x160x512_0_10_0_0
abbrev r0_44 : Rect S3x16x160x512 := Rect.unit (s := S3x16x160x512) ![0, 11, 0, 0] S1x1x160x512.size inb_S3x16x160x512_S1x1x160x512_0_11_0_0
abbrev r0_45 : Rect S3x16x160x2560 := Rect.unit (s := S3x16x160x2560) ![1, 8, 0, 0] S1x4x160x2560.size inb_S3x16x160x2560_S1x4x160x2560_1_8_0_0
abbrev r0_46 : Rect S3x16x160x512 := Rect.unit (s := S3x16x160x512) ![1, 8, 0, 0] S1x1x160x512.size inb_S3x16x160x512_S1x1x160x512_1_8_0_0
abbrev r0_47 : Rect S16x512x256 := Rect.unit (s := S16x512x256) ![8, 0, 0] S1x512x256.size inb_S16x512x256_S1x512x256_8_0_0
abbrev r0_48 : Rect S3x16x160x512 := Rect.unit (s := S3x16x160x512) ![1, 9, 0, 0] S1x1x160x512.size inb_S3x16x160x512_S1x1x160x512_1_9_0_0
abbrev r0_49 : Rect S16x512x256 := Rect.unit (s := S16x512x256) ![9, 0, 0] S1x512x256.size inb_S16x512x256_S1x512x256_9_0_0
abbrev r0_50 : Rect S3x16x160x512 := Rect.unit (s := S3x16x160x512) ![1, 10, 0, 0] S1x1x160x512.size inb_S3x16x160x512_S1x1x160x512_1_10_0_0
abbrev r0_51 : Rect S16x512x256 := Rect.unit (s := S16x512x256) ![10, 0, 0] S1x512x256.size inb_S16x512x256_S1x512x256_10_0_0
abbrev r0_52 : Rect S3x16x160x512 := Rect.unit (s := S3x16x160x512) ![1, 11, 0, 0] S1x1x160x512.size inb_S3x16x160x512_S1x1x160x512_1_11_0_0
abbrev r0_53 : Rect S16x512x256 := Rect.unit (s := S16x512x256) ![11, 0, 0] S1x512x256.size inb_S16x512x256_S1x512x256_11_0_0
abbrev r0_54 : Rect S3x16x160x2560 := Rect.unit (s := S3x16x160x2560) ![2, 8, 0, 0] S1x4x160x2560.size inb_S3x16x160x2560_S1x4x160x2560_2_8_0_0
abbrev r0_55 : Rect S3x16x160x512 := Rect.unit (s := S3x16x160x512) ![2, 8, 0, 0] S1x1x160x512.size inb_S3x16x160x512_S1x1x160x512_2_8_0_0
abbrev r0_56 : Rect S3x16x160x512 := Rect.unit (s := S3x16x160x512) ![2, 9, 0, 0] S1x1x160x512.size inb_S3x16x160x512_S1x1x160x512_2_9_0_0
abbrev r0_57 : Rect S3x16x160x512 := Rect.unit (s := S3x16x160x512) ![2, 10, 0, 0] S1x1x160x512.size inb_S3x16x160x512_S1x1x160x512_2_10_0_0
abbrev r0_58 : Rect S3x16x160x512 := Rect.unit (s := S3x16x160x512) ![2, 11, 0, 0] S1x1x160x512.size inb_S3x16x160x512_S1x1x160x512_2_11_0_0
abbrev r0_59 : Rect S3x16x160x2560 := Rect.unit (s := S3x16x160x2560) ![0, 12, 0, 0] S1x4x160x2560.size inb_S3x16x160x2560_S1x4x160x2560_0_12_0_0
abbrev r0_60 : Rect S3x16x160x512 := Rect.unit (s := S3x16x160x512) ![0, 12, 0, 0] S1x1x160x512.size inb_S3x16x160x512_S1x1x160x512_0_12_0_0
abbrev r0_61 : Rect S3x16x160x512 := Rect.unit (s := S3x16x160x512) ![0, 13, 0, 0] S1x1x160x512.size inb_S3x16x160x512_S1x1x160x512_0_13_0_0
abbrev r0_62 : Rect S3x16x160x512 := Rect.unit (s := S3x16x160x512) ![0, 14, 0, 0] S1x1x160x512.size inb_S3x16x160x512_S1x1x160x512_0_14_0_0
abbrev r0_63 : Rect S3x16x160x512 := Rect.unit (s := S3x16x160x512) ![0, 15, 0, 0] S1x1x160x512.size inb_S3x16x160x512_S1x1x160x512_0_15_0_0
abbrev r0_64 : Rect S3x16x160x2560 := Rect.unit (s := S3x16x160x2560) ![1, 12, 0, 0] S1x4x160x2560.size inb_S3x16x160x2560_S1x4x160x2560_1_12_0_0
abbrev r0_65 : Rect S3x16x160x512 := Rect.unit (s := S3x16x160x512) ![1, 12, 0, 0] S1x1x160x512.size inb_S3x16x160x512_S1x1x160x512_1_12_0_0
abbrev r0_66 : Rect S16x512x256 := Rect.unit (s := S16x512x256) ![12, 0, 0] S1x512x256.size inb_S16x512x256_S1x512x256_12_0_0
abbrev r0_67 : Rect S3x16x160x512 := Rect.unit (s := S3x16x160x512) ![1, 13, 0, 0] S1x1x160x512.size inb_S3x16x160x512_S1x1x160x512_1_13_0_0
abbrev r0_68 : Rect S16x512x256 := Rect.unit (s := S16x512x256) ![13, 0, 0] S1x512x256.size inb_S16x512x256_S1x512x256_13_0_0
abbrev r0_69 : Rect S3x16x160x512 := Rect.unit (s := S3x16x160x512) ![1, 14, 0, 0] S1x1x160x512.size inb_S3x16x160x512_S1x1x160x512_1_14_0_0
abbrev r0_70 : Rect S16x512x256 := Rect.unit (s := S16x512x256) ![14, 0, 0] S1x512x256.size inb_S16x512x256_S1x512x256_14_0_0
abbrev r0_71 : Rect S3x16x160x512 := Rect.unit (s := S3x16x160x512) ![1, 15, 0, 0] S1x1x160x512.size inb_S3x16x160x512_S1x1x160x512_1_15_0_0
abbrev r0_72 : Rect S16x512x256 := Rect.unit (s := S16x512x256) ![15, 0, 0] S1x512x256.size inb_S16x512x256_S1x512x256_15_0_0
abbrev r0_73 : Rect S3x16x160x2560 := Rect.unit (s := S3x16x160x2560) ![2, 12, 0, 0] S1x4x160x2560.size inb_S3x16x160x2560_S1x4x160x2560_2_12_0_0
abbrev r0_74 : Rect S3x16x160x512 := Rect.unit (s := S3x16x160x512) ![2, 12, 0, 0] S1x1x160x512.size inb_S3x16x160x512_S1x1x160x512_2_12_0_0
abbrev r0_75 : Rect S3x16x160x512 := Rect.unit (s := S3x16x160x512) ![2, 13, 0, 0] S1x1x160x512.size inb_S3x16x160x512_S1x1x160x512_2_13_0_0
abbrev r0_76 : Rect S3x16x160x512 := Rect.unit (s := S3x16x160x512) ![2, 14, 0, 0] S1x1x160x512.size inb_S3x16x160x512_S1x1x160x512_2_14_0_0
abbrev r0_77 : Rect S3x16x160x512 := Rect.unit (s := S3x16x160x512) ![2, 15, 0, 0] S1x1x160x512.size inb_S3x16x160x512_S1x1x160x512_2_15_0_0

/-! ## What the body leaves in each output window's buffer -/

/-! ### Values of the body that the stores' payloads, spelt out, would write more than once

    Each is a vector the body binds (often a part call's result), stated over the input windows' blocks and
    numbered on from the skeleton's payload functions (`k0_pay131` …, after `k0_pay130`), so that
    `out0_W` and the values after it name it instead of spelling it out; the comment after each is the printed function's
    name for the value (a count appended where that name is bound again). -/

def k0_pay131 (x0 : Vec F S512x2560 .bf16) (x1 : Vec F S3x16x160x2560 .fp8e4m3) (x2 : Vec F S80x512 .f32) (x3 : Vec F S80x512 .f32) : FVec F S512x2560 .fp8e4m3 :=
  k0_pay3 (View.ld x0 r0_0) -- `v8`
def k0_pay132 (x0 : Vec F S512x2560 .bf16) (x1 : Vec F S3x16x160x2560 .fp8e4m3) (x2 : Vec F S80x512 .f32) (x3 : Vec F S80x512 .f32) : FVec F S80x512 .f32 :=
  k0_pay4 (View.ld x2 r0_1) -- `v11`
def k0_pay133 (x0 : Vec F S512x2560 .bf16) (x1 : Vec F S3x16x160x2560 .fp8e4m3) (x2 : Vec F S80x512 .f32) (x3 : Vec F S80x512 .f32) : FVec F S80x512 .f32 :=
  k0_pay5 (View.ld x3 r0_1) -- `v13`
def k0_pay134 (x0 : Vec F S512x2560 .bf16) (x1 : Vec F S3x16x160x2560 .fp8e4m3) (x2 : Vec F S80x512 .f32) (x3 : Vec F S80x512 .f32) : FVec F S640x512 .f32 :=
  k0_pay6 (View.ld x0 r0_0) (View.ld x1 r0_2) -- `v17`
def k0_pay135 (x0 : Vec F S512x2560 .bf16) (x1 : Vec F S3x16x160x2560 .fp8e4m3) (x2 : Vec F S80x512 .f32) (x3 : Vec F S80x512 .f32) : FVec F S640x512 .f32 :=
  k0_pay14 (k0_pay131 x0 x1 x2 x3) (View.ld x1 r0_7) -- `v85`
def k0_pay136 (x0 : Vec F S512x2560 .bf16) (x1 : Vec F S3x16x160x2560 .fp8e4m3) (x2 : Vec F S80x512 .f32) (x3 : Vec F S80x512 .f32) : FVec F S160x512 .bf16 :=
  k0_pay18 (k0_pay131 x0 x1 x2 x3) (k0_pay132 x0 x1 x2 x3) (k0_pay133 x0 x1 x2 x3) (View.ld x1 r0_7) -- `v120`
def k0_pay137 (x0 : Vec F S512x2560 .bf16) (x1 : Vec F S3x16x160x2560 .fp8e4m3) (x2 : Vec F S80x512 .f32) (x3 : Vec F S80x512 .f32) : FVec F S80x512 .f32 :=
  k0_pay25 (k0_pay135 x0 x1 x2 x3) -- `v155`
def k0_pay138 (x0 : Vec F S512x2560 .bf16) (x1 : Vec F S3x16x160x2560 .fp8e4m3) (x2 : Vec F S80x512 .f32) (x3 : Vec F S80x512 .f32) : FVec F S80x512 .f32 :=
  k0_pay26 (k0_pay135 x0 x1 x2 x3) -- `v156`
def k0_pay139 (x0 : Vec F S512x2560 .bf16) (x1 : Vec F S3x16x160x2560 .fp8e4m3) (x2 : Vec F S80x512 .f32) (x3 : Vec F S80x512 .f32) : FVec F S80x512 .f32 :=
  k0_pay27 (k0_pay132 x0 x1 x2 x3) (k0_pay133 x0 x1 x2 x3) (k0_pay135 x0 x1 x2 x3) -- `v159`
def k0_pay140 (x0 : Vec F S512x2560 .bf16) (x1 : Vec F S3x16x160x2560 .fp8e4m3) (x2 : Vec F S80x512 .f32) (x3 : Vec F S80x512 .f32) : FVec F S640x512 .f32 :=
  k0_pay37 (k0_pay131 x0 x1 x2 x3) (View.ld x1 r0_21) -- `v209`
def k0_pay141 (x0 : Vec F S512x2560 .bf16) (x1 : Vec F S3x16x160x2560 .fp8e4m3) (x2 : Vec F S80x512 .f32) (x3 : Vec F S80x512 .f32) : FVec F S640x512 .f32 :=
  k0_pay44 (k0_pay131 x0 x1 x2 x3) (View.ld x1 r0_26) -- `v277`
def k0_pay142 (x0 : Vec F S512x2560 .bf16) (x1 : Vec F S3x16x160x2560 .fp8e4m3) (x2 : Vec F S80x512 .f32) (x3 : Vec F S80x512 .f32) : FVec F S160x512 .bf16 :=
  k0_pay48 (k0_pay131 x0 x1 x2 x3) (k0_pay132 x0 x1 x2 x3) (k0_pay133 x0 x1 x2 x3) (View.ld x1 r0_26) -- `v312`
def k0_pay143 (x0 : Vec F S512x2560 .bf16) (x1 : Vec F S3x16x160x2560 .fp8e4m3) (x2 : Vec F S80x512 .f32) (x3 : Vec F S80x512 .f32) : FVec F S80x512 .f32 :=
  k0_pay55 (k0_pay141 x0 x1 x2 x3) -- `v347`
def k0_pay144 (x0 : Vec F S512x2560 .bf16) (x1 : Vec F S3x16x160x2560 .fp8e4m3) (x2 : Vec F S80x512 .f32) (x3 : Vec F S80x512 .f32) : FVec F S80x512 .f32 :=
  k0_pay57 (k0_pay132 x0 x1 x2 x3) (k0_pay133 x0 x1 x2 x3) (k0_pay141 x0 x1 x2 x3) -- `v351`
def k0_pay145 (x0 : Vec F S512x2560 .bf16) (x1 : Vec F S3x16x160x2560 .fp8e4m3) (x2 : Vec F S80x512 .f32) (x3 : Vec F S80x512 .f32) : FVec F S80x512 .f32 :=
  k0_pay58 (k0_pay132 x0 x1 x2 x3) (k0_pay141 x0 x1 x2 x3) -- `v352`
def k0_pay146 (x0 : Vec F S512x2560 .bf16) (x1 : Vec F S3x16x160x2560 .fp8e4m3) (x2 : Vec F S80x512 .f32) (x3 : Vec F S80x512 .f32) : FVec F S640x512 .f32 :=
  k0_pay68 (k0_pay131 x0 x1 x2 x3) (View.ld x1 r0_40) -- `v401`
def k0_pay147 (x0 : Vec F S512x2560 .bf16) (x1 : Vec F S3x16x160x2560 .fp8e4m3) (x2 : Vec F S80x512 .f32) (x3 : Vec F S80x512 .f32) : FVec F S640x512 .f32 :=
  k0_pay75 (k0_pay131 x0 x1 x2 x3) (View.ld x1 r0_45) -- `v469`
def k0_pay148 (x0 : Vec F S512x2560 .bf16) (x1 : Vec F S3x16x160x2560 .fp8e4m3) (x2 : Vec F S80x512 .f32) (x3 : Vec F S80x512 .f32) : FVec F S160x512 .bf16 :=
  k0_pay79 (k0_pay131 x0 x1 x2 x3) (k0_pay132 x0 x1 x2 x3) (k0_pay133 x0 x1 x2 x3) (View.ld x1 r0_45) -- `v504`
def k0_pay149 (x0 : Vec F S512x2560 .bf16) (x1 : Vec F S3x16x160x2560 .fp8e4m3) (x2 : Vec F S80x512 .f32) (x3 : Vec F S80x512 .f32) : FVec F S80x512 .f32 :=
  k0_pay88 (k0_pay132 x0 x1 x2 x3) (k0_pay133 x0 x1 x2 x3) (k0_pay147 x0 x1 x2 x3) -- `v543`
def k0_pay150 (x0 : Vec F S512x2560 .bf16) (x1 : Vec F S3x16x160x2560 .fp8e4m3) (x2 : Vec F S80x512 .f32) (x3 : Vec F S80x512 .f32) : FVec F S80x512 .f32 :=
  k0_pay89 (k0_pay132 x0 x1 x2 x3) (k0_pay147 x0 x1 x2 x3) -- `v544`
def k0_pay151 (x0 : Vec F S512x2560 .bf16) (x1 : Vec F S3x16x160x2560 .fp8e4m3) (x2 : Vec F S80x512 .f32) (x3 : Vec F S80x512 .f32) : FVec F S80x512 .f32 :=
  k0_pay90 (k0_pay133 x0 x1 x2 x3) (k0_pay147 x0 x1 x2 x3) -- `v545`
def k0_pay152 (x0 : Vec F S512x2560 .bf16) (x1 : Vec F S3x16x160x2560 .fp8e4m3) (x2 : Vec F S80x512 .f32) (x3 : Vec F S80x512 .f32) : FVec F S640x512 .f32 :=
  k0_pay101 (k0_pay131 x0 x1 x2 x3) (View.ld x1 r0_59) -- `v593`
def k0_pay153 (x0 : Vec F S512x2560 .bf16) (x1 : Vec F S3x16x160x2560 .fp8e4m3) (x2 : Vec F S80x512 .f32) (x3 : Vec F S80x512 .f32) : FVec F S640x512 .f32 :=
  k0_pay109 (k0_pay131 x0 x1 x2 x3) (View.ld x1 r0_64) -- `v661`
def k0_pay154 (x0 : Vec F S512x2560 .bf16) (x1 : Vec F S3x16x160x2560 .fp8e4m3) (x2 : Vec F S80x512 .f32) (x3 : Vec F S80x512 .f32) : FVec F S160x512 .bf16 :=
  k0_pay113 (k0_pay131 x0 x1 x2 x3) (k0_pay132 x0 x1 x2 x3) (k0_pay133 x0 x1 x2 x3) (View.ld x1 r0_64) -- `v696`
def k0_pay155 (x0 : Vec F S512x2560 .bf16) (x1 : Vec F S3x16x160x2560 .fp8e4m3) (x2 : Vec F S80x512 .f32) (x3 : Vec F S80x512 .f32) : FVec F S80x512 .f32 :=
  k0_pay122 (k0_pay132 x0 x1 x2 x3) (k0_pay133 x0 x1 x2 x3) (k0_pay153 x0 x1 x2 x3) -- `v735`
def k0_pay156 (x0 : Vec F S512x2560 .bf16) (x1 : Vec F S3x16x160x2560 .fp8e4m3) (x2 : Vec F S80x512 .f32) (x3 : Vec F S80x512 .f32) : FVec F S80x512 .f32 :=
  k0_pay123 (k0_pay132 x0 x1 x2 x3) (k0_pay133 x0 x1 x2 x3) (k0_pay153 x0 x1 x2 x3) -- `v738`

/-- Window 4's staging buffer after the body, from the input windows' blocks: its 48 stores as pieces, LAST
    FIRST (Lib/Pipeline/FrameBody.lean `View.canon`; the payloads are the skeleton's and the values stated above). -/
def out0_4 (x0 : Vec F S512x2560 .bf16) (x1 : Vec F S3x16x160x2560 .fp8e4m3) (x2 : Vec F S80x512 .f32) (x3 : Vec F S80x512 .f32) : Vec F S3x16x160x512 .bf16 :=
  View.canon [⟨r0_77, k0_pay2 (k0_pay127 (k0_pay131 x0 x1 x2 x3) (View.ld x1 r0_73))⟩,
    ⟨r0_76, k0_pay1 (k0_pay130 (k0_pay131 x0 x1 x2 x3) (View.ld x1 r0_73))⟩,
    ⟨r0_75, k0_pay129 (k0_pay131 x0 x1 x2 x3) (View.ld x1 r0_73)⟩,
    ⟨r0_74, k0_pay128 (k0_pay131 x0 x1 x2 x3) (View.ld x1 r0_73)⟩,
    ⟨r0_71, k0_pay125 (k0_pay155 x0 x1 x2 x3) (k0_pay156 x0 x1 x2 x3)⟩,
    ⟨r0_69, k0_pay117 (k0_pay132 x0 x1 x2 x3) (k0_pay133 x0 x1 x2 x3) (k0_pay153 x0 x1 x2 x3)⟩,
    ⟨r0_67, k0_pay114 (k0_pay154 x0 x1 x2 x3)⟩,
    ⟨r0_65, k0_pay111 (k0_pay131 x0 x1 x2 x3) (k0_pay132 x0 x1 x2 x3) (k0_pay133 x0 x1 x2 x3) (View.ld x1 r0_64)⟩,
    ⟨r0_63, k0_pay108 (k0_pay132 x0 x1 x2 x3) (k0_pay133 x0 x1 x2 x3) (k0_pay152 x0 x1 x2 x3)⟩,
    ⟨r0_62, k0_pay107 (k0_pay132 x0 x1 x2 x3) (k0_pay133 x0 x1 x2 x3) (k0_pay152 x0 x1 x2 x3)⟩,
    ⟨r0_61, k0_pay106 (k0_pay132 x0 x1 x2 x3) (k0_pay133 x0 x1 x2 x3) (k0_pay104 (k0_pay131 x0 x1 x2 x3) (View.ld x1 r0_59)) (k0_pay105 (k0_pay131 x0 x1 x2 x3) (View.ld x1 r0_59))⟩,
    ⟨r0_60, k0_pay102 (k0_pay131 x0 x1 x2 x3) (k0_pay132 x0 x1 x2 x3) (k0_pay133 x0 x1 x2 x3) (View.ld x1 r0_59)⟩,
    ⟨r0_58, k0_pay100 (k0_pay94 (k0_pay131 x0 x1 x2 x3) (View.ld x1 r0_54))⟩,
    ⟨r0_57, k0_pay99 (k0_pay97 (k0_pay131 x0 x1 x2 x3) (View.ld x1 r0_54)) (k0_pay98 (F := F))⟩,
    ⟨r0_56, k0_pay96 (k0_pay131 x0 x1 x2 x3) (View.ld x1 r0_54)⟩,
    ⟨r0_55, k0_pay95 (k0_pay131 x0 x1 x2 x3) (View.ld x1 r0_54)⟩,
    ⟨r0_52, k0_pay92 (k0_pay149 x0 x1 x2 x3) (k0_pay150 x0 x1 x2 x3) (k0_pay151 x0 x1 x2 x3)⟩,
    ⟨r0_50, k0_pay83 (k0_pay132 x0 x1 x2 x3) (k0_pay133 x0 x1 x2 x3) (k0_pay147 x0 x1 x2 x3)⟩,
    ⟨r0_48, k0_pay80 (k0_pay148 x0 x1 x2 x3)⟩,
    ⟨r0_46, k0_pay77 (k0_pay131 x0 x1 x2 x3) (k0_pay132 x0 x1 x2 x3) (k0_pay133 x0 x1 x2 x3) (View.ld x1 r0_45)⟩,
    ⟨r0_44, k0_pay74 (k0_pay132 x0 x1 x2 x3) (k0_pay133 x0 x1 x2 x3) (k0_pay146 x0 x1 x2 x3)⟩,
    ⟨r0_43, k0_pay73 (k0_pay132 x0 x1 x2 x3) (k0_pay133 x0 x1 x2 x3) (k0_pay146 x0 x1 x2 x3)⟩,
    ⟨r0_42, k0_pay72 (k0_pay132 x0 x1 x2 x3) (k0_pay133 x0 x1 x2 x3) (k0_pay70 (k0_pay131 x0 x1 x2 x3) (View.ld x1 r0_40)) (k0_pay71 (k0_pay131 x0 x1 x2 x3) (View.ld x1 r0_40))⟩,
    ⟨r0_41, k0_pay69 (k0_pay131 x0 x1 x2 x3) (k0_pay132 x0 x1 x2 x3) (k0_pay133 x0 x1 x2 x3) (View.ld x1 r0_40)⟩,
    ⟨r0_39, k0_pay67 (k0_pay62 (k0_pay131 x0 x1 x2 x3) (View.ld x1 r0_35))⟩,
    ⟨r0_38, k0_pay66 (k0_pay65 (k0_pay131 x0 x1 x2 x3) (View.ld x1 r0_35)) (Scalar.ofBits .f32 0x3CA1E89B#32)⟩,
    ⟨r0_37, k0_pay64 (k0_pay131 x0 x1 x2 x3) (View.ld x1 r0_35)⟩,
    ⟨r0_36, k0_pay63 (k0_pay131 x0 x1 x2 x3) (View.ld x1 r0_35)⟩,
    ⟨r0_33, k0_pay60 (k0_pay133 x0 x1 x2 x3) (k0_pay143 x0 x1 x2 x3) (k0_pay144 x0 x1 x2 x3) (k0_pay145 x0 x1 x2 x3)⟩,
    ⟨r0_31, k0_pay52 (k0_pay132 x0 x1 x2 x3) (k0_pay133 x0 x1 x2 x3) (k0_pay141 x0 x1 x2 x3)⟩,
    ⟨r0_29, k0_pay49 (k0_pay142 x0 x1 x2 x3)⟩,
    ⟨r0_27, k0_pay46 (k0_pay131 x0 x1 x2 x3) (k0_pay132 x0 x1 x2 x3) (k0_pay133 x0 x1 x2 x3) (View.ld x1 r0_26)⟩,
    ⟨r0_25, k0_pay43 (k0_pay42 (k0_pay132 x0 x1 x2 x3) (k0_pay133 x0 x1 x2 x3) (k0_pay140 x0 x1 x2 x3))⟩,
    ⟨r0_24, k0_pay41 (k0_pay132 x0 x1 x2 x3) (k0_pay133 x0 x1 x2 x3) (k0_pay140 x0 x1 x2 x3)⟩,
    ⟨r0_23, k0_pay40 (k0_pay132 x0 x1 x2 x3) (k0_pay133 x0 x1 x2 x3) (k0_pay39 (k0_pay131 x0 x1 x2 x3) (View.ld x1 r0_21))⟩,
    ⟨r0_22, k0_pay38 (k0_pay131 x0 x1 x2 x3) (k0_pay132 x0 x1 x2 x3) (k0_pay133 x0 x1 x2 x3) (View.ld x1 r0_21)⟩,
    ⟨r0_20, k0_pay36 (k0_pay31 (k0_pay131 x0 x1 x2 x3) (View.ld x1 r0_16))⟩,
    ⟨r0_19, k0_pay35 (k0_pay34 (k0_pay131 x0 x1 x2 x3) (View.ld x1 r0_16))⟩,
    ⟨r0_18, k0_pay33 (k0_pay131 x0 x1 x2 x3) (View.ld x1 r0_16)⟩,
    ⟨r0_17, k0_pay32 (k0_pay131 x0 x1 x2 x3) (View.ld x1 r0_16)⟩,
    ⟨r0_14, k0_pay29 (k0_pay132 x0 x1 x2 x3) (k0_pay133 x0 x1 x2 x3) (k0_pay137 x0 x1 x2 x3) (k0_pay138 x0 x1 x2 x3) (k0_pay139 x0 x1 x2 x3)⟩,
    ⟨r0_12, k0_pay22 (k0_pay132 x0 x1 x2 x3) (k0_pay133 x0 x1 x2 x3) (k0_pay135 x0 x1 x2 x3)⟩,
    ⟨r0_10, k0_pay19 (k0_pay136 x0 x1 x2 x3)⟩,
    ⟨r0_8, k0_pay16 (k0_pay131 x0 x1 x2 x3) (k0_pay132 x0 x1 x2 x3) (k0_pay133 x0 x1 x2 x3) (View.ld x1 r0_7)⟩,
    ⟨r0_6, k0_pay13 (k0_pay12 (k0_pay132 x0 x1 x2 x3) (k0_pay133 x0 x1 x2 x3) (k0_pay134 x0 x1 x2 x3))⟩,
    ⟨r0_5, k0_pay11 (k0_pay132 x0 x1 x2 x3) (k0_pay133 x0 x1 x2 x3) (k0_pay134 x0 x1 x2 x3)⟩,
    ⟨r0_4, k0_pay10 (k0_pay132 x0 x1 x2 x3) (k0_pay133 x0 x1 x2 x3) (k0_pay8 (View.ld x0 r0_0) (View.ld x1 r0_2)) (k0_pay9 (F := F))⟩,
    ⟨r0_3, k0_pay7 (View.ld x0 r0_0) (View.ld x2 r0_1) (View.ld x3 r0_1) (View.ld x1 r0_2)⟩]

/-- Its stores tile the buffer (checked by evaluation), so they cover it. -/
theorem cover0_4 (p0 : Vec F S1x1x160x512 .bf16) (p1 : Vec F S1x1x160x512 .bf16) (p2 : Vec F S1x1x160x512 .bf16) (p3 : Vec F S1x1x160x512 .bf16) (p4 : Vec F S1x1x160x512 .bf16) (p5 : Vec F S1x1x160x512 .bf16) (p6 : Vec F S1x1x160x512 .bf16) (p7 : Vec F S1x1x160x512 .bf16) (p8 : Vec F S1x1x160x512 .bf16) (p9 : Vec F S1x1x160x512 .bf16) (p10 : Vec F S1x1x160x512 .bf16) (p11 : Vec F S1x1x160x512 .bf16) (p12 : Vec F S1x1x160x512 .bf16) (p13 : Vec F S1x1x160x512 .bf16) (p14 : Vec F S1x1x160x512 .bf16) (p15 : Vec F S1x1x160x512 .bf16) (p16 : Vec F S1x1x160x512 .bf16) (p17 : Vec F S1x1x160x512 .bf16) (p18 : Vec F S1x1x160x512 .bf16) (p19 : Vec F S1x1x160x512 .bf16) (p20 : Vec F S1x1x160x512 .bf16) (p21 : Vec F S1x1x160x512 .bf16) (p22 : Vec F S1x1x160x512 .bf16) (p23 : Vec F S1x1x160x512 .bf16) (p24 : Vec F S1x1x160x512 .bf16) (p25 : Vec F S1x1x160x512 .bf16) (p26 : Vec F S1x1x160x512 .bf16) (p27 : Vec F S1x1x160x512 .bf16) (p28 : Vec F S1x1x160x512 .bf16) (p29 : Vec F S1x1x160x512 .bf16) (p30 : Vec F S1x1x160x512 .bf16) (p31 : Vec F S1x1x160x512 .bf16) (p32 : Vec F S1x1x160x512 .bf16) (p33 : Vec F S1x1x160x512 .bf16) (p34 : Vec F S1x1x160x512 .bf16) (p35 : Vec F S1x1x160x512 .bf16) (p36 : Vec F S1x1x160x512 .bf16) (p37 : Vec F S1x1x160x512 .bf16) (p38 : Vec F S1x1x160x512 .bf16) (p39 : Vec F S1x1x160x512 .bf16) (p40 : Vec F S1x1x160x512 .bf16) (p41 : Vec F S1x1x160x512 .bf16) (p42 : Vec F S1x1x160x512 .bf16) (p43 : Vec F S1x1x160x512 .bf16) (p44 : Vec F S1x1x160x512 .bf16) (p45 : Vec F S1x1x160x512 .bf16) (p46 : Vec F S1x1x160x512 .bf16) (p47 : Vec F S1x1x160x512 .bf16) (y : S3x16x160x512.Idx) :
    ∃ pc ∈ ([⟨r0_77, p0⟩, ⟨r0_76, p1⟩, ⟨r0_75, p2⟩, ⟨r0_74, p3⟩, ⟨r0_71, p4⟩, ⟨r0_69, p5⟩, ⟨r0_67, p6⟩, ⟨r0_65, p7⟩, ⟨r0_63, p8⟩, ⟨r0_62, p9⟩, ⟨r0_61, p10⟩, ⟨r0_60, p11⟩, ⟨r0_58, p12⟩, ⟨r0_57, p13⟩, ⟨r0_56, p14⟩, ⟨r0_55, p15⟩, ⟨r0_52, p16⟩, ⟨r0_50, p17⟩, ⟨r0_48, p18⟩, ⟨r0_46, p19⟩, ⟨r0_44, p20⟩, ⟨r0_43, p21⟩, ⟨r0_42, p22⟩, ⟨r0_41, p23⟩, ⟨r0_39, p24⟩, ⟨r0_38, p25⟩, ⟨r0_37, p26⟩, ⟨r0_36, p27⟩, ⟨r0_33, p28⟩, ⟨r0_31, p29⟩, ⟨r0_29, p30⟩, ⟨r0_27, p31⟩, ⟨r0_25, p32⟩, ⟨r0_24, p33⟩, ⟨r0_23, p34⟩, ⟨r0_22, p35⟩, ⟨r0_20, p36⟩, ⟨r0_19, p37⟩, ⟨r0_18, p38⟩, ⟨r0_17, p39⟩, ⟨r0_14, p40⟩, ⟨r0_12, p41⟩, ⟨r0_10, p42⟩, ⟨r0_8, p43⟩, ⟨r0_6, p44⟩, ⟨r0_5, p45⟩, ⟨r0_4, p46⟩, ⟨r0_3, p47⟩] : List (View.Piece (Elt F) S3x16x160x512 .bf16)), y ∈ pc.1.set :=
  View.cover_of_tiled [⟨r0_77, p0⟩, ⟨r0_76, p1⟩, ⟨r0_75, p2⟩, ⟨r0_74, p3⟩, ⟨r0_71, p4⟩, ⟨r0_69, p5⟩, ⟨r0_67, p6⟩, ⟨r0_65, p7⟩, ⟨r0_63, p8⟩, ⟨r0_62, p9⟩, ⟨r0_61, p10⟩, ⟨r0_60, p11⟩, ⟨r0_58, p12⟩, ⟨r0_57, p13⟩, ⟨r0_56, p14⟩, ⟨r0_55, p15⟩, ⟨r0_52, p16⟩, ⟨r0_50, p17⟩, ⟨r0_48, p18⟩, ⟨r0_46, p19⟩, ⟨r0_44, p20⟩, ⟨r0_43, p21⟩, ⟨r0_42, p22⟩, ⟨r0_41, p23⟩, ⟨r0_39, p24⟩, ⟨r0_38, p25⟩, ⟨r0_37, p26⟩, ⟨r0_36, p27⟩, ⟨r0_33, p28⟩, ⟨r0_31, p29⟩, ⟨r0_29, p30⟩, ⟨r0_27, p31⟩, ⟨r0_25, p32⟩, ⟨r0_24, p33⟩, ⟨r0_23, p34⟩, ⟨r0_22, p35⟩, ⟨r0_20, p36⟩, ⟨r0_19, p37⟩, ⟨r0_18, p38⟩, ⟨r0_17, p39⟩, ⟨r0_14, p40⟩, ⟨r0_12, p41⟩, ⟨r0_10, p42⟩, ⟨r0_8, p43⟩, ⟨r0_6, p44⟩, ⟨r0_5, p45⟩, ⟨r0_4, p46⟩, ⟨r0_3, p47⟩] S1x1x160x512.size (by rfl) y

/-- Window 5's staging buffer after the body, from the input windows' blocks: its 16 stores as pieces, LAST
    FIRST (Lib/Pipeline/FrameBody.lean `View.canon`; the payloads are the skeleton's and the values stated above). -/
def out0_5 (x0 : Vec F S512x2560 .bf16) (x1 : Vec F S3x16x160x2560 .fp8e4m3) (x2 : Vec F S80x512 .f32) (x3 : Vec F S80x512 .f32) : Vec F S16x512x256 .bf16 :=
  View.canon [⟨r0_72, k0_pay126 (k0_pay155 x0 x1 x2 x3) (k0_pay156 x0 x1 x2 x3)⟩,
    ⟨r0_70, k0_pay118 (k0_pay132 x0 x1 x2 x3) (k0_pay133 x0 x1 x2 x3) (k0_pay153 x0 x1 x2 x3)⟩,
    ⟨r0_68, k0_pay115 (k0_pay154 x0 x1 x2 x3)⟩,
    ⟨r0_66, k0_pay112 (k0_pay131 x0 x1 x2 x3) (k0_pay132 x0 x1 x2 x3) (k0_pay133 x0 x1 x2 x3) (View.ld x1 r0_64)⟩,
    ⟨r0_53, k0_pay93 (k0_pay149 x0 x1 x2 x3) (k0_pay150 x0 x1 x2 x3) (k0_pay151 x0 x1 x2 x3)⟩,
    ⟨r0_51, k0_pay84 (k0_pay132 x0 x1 x2 x3) (k0_pay133 x0 x1 x2 x3) (k0_pay147 x0 x1 x2 x3)⟩,
    ⟨r0_49, k0_pay81 (k0_pay148 x0 x1 x2 x3)⟩,
    ⟨r0_47, k0_pay78 (k0_pay131 x0 x1 x2 x3) (k0_pay132 x0 x1 x2 x3) (k0_pay133 x0 x1 x2 x3) (View.ld x1 r0_45)⟩,
    ⟨r0_34, k0_pay61 (k0_pay133 x0 x1 x2 x3) (k0_pay143 x0 x1 x2 x3) (k0_pay144 x0 x1 x2 x3) (k0_pay145 x0 x1 x2 x3)⟩,
    ⟨r0_32, k0_pay53 (k0_pay132 x0 x1 x2 x3) (k0_pay133 x0 x1 x2 x3) (k0_pay141 x0 x1 x2 x3)⟩,
    ⟨r0_30, k0_pay50 (k0_pay142 x0 x1 x2 x3)⟩,
    ⟨r0_28, k0_pay47 (k0_pay131 x0 x1 x2 x3) (k0_pay132 x0 x1 x2 x3) (k0_pay133 x0 x1 x2 x3) (View.ld x1 r0_26)⟩,
    ⟨r0_15, k0_pay30 (k0_pay132 x0 x1 x2 x3) (k0_pay133 x0 x1 x2 x3) (k0_pay137 x0 x1 x2 x3) (k0_pay138 x0 x1 x2 x3) (k0_pay139 x0 x1 x2 x3)⟩,
    ⟨r0_13, k0_pay23 (k0_pay132 x0 x1 x2 x3) (k0_pay133 x0 x1 x2 x3) (k0_pay135 x0 x1 x2 x3)⟩,
    ⟨r0_11, k0_pay20 (k0_pay136 x0 x1 x2 x3)⟩,
    ⟨r0_9, k0_pay17 (k0_pay131 x0 x1 x2 x3) (k0_pay132 x0 x1 x2 x3) (k0_pay133 x0 x1 x2 x3) (View.ld x1 r0_7)⟩]

/-- Its stores tile the buffer (checked by evaluation), so they cover it. -/
theorem cover0_5 (p0 : Vec F S1x512x256 .bf16) (p1 : Vec F S1x512x256 .bf16) (p2 : Vec F S1x512x256 .bf16) (p3 : Vec F S1x512x256 .bf16) (p4 : Vec F S1x512x256 .bf16) (p5 : Vec F S1x512x256 .bf16) (p6 : Vec F S1x512x256 .bf16) (p7 : Vec F S1x512x256 .bf16) (p8 : Vec F S1x512x256 .bf16) (p9 : Vec F S1x512x256 .bf16) (p10 : Vec F S1x512x256 .bf16) (p11 : Vec F S1x512x256 .bf16) (p12 : Vec F S1x512x256 .bf16) (p13 : Vec F S1x512x256 .bf16) (p14 : Vec F S1x512x256 .bf16) (p15 : Vec F S1x512x256 .bf16) (y : S16x512x256.Idx) :
    ∃ pc ∈ ([⟨r0_72, p0⟩, ⟨r0_70, p1⟩, ⟨r0_68, p2⟩, ⟨r0_66, p3⟩, ⟨r0_53, p4⟩, ⟨r0_51, p5⟩, ⟨r0_49, p6⟩, ⟨r0_47, p7⟩, ⟨r0_34, p8⟩, ⟨r0_32, p9⟩, ⟨r0_30, p10⟩, ⟨r0_28, p11⟩, ⟨r0_15, p12⟩, ⟨r0_13, p13⟩, ⟨r0_11, p14⟩, ⟨r0_9, p15⟩] : List (View.Piece (Elt F) S16x512x256 .bf16)), y ∈ pc.1.set :=
  View.cover_of_tiled [⟨r0_72, p0⟩, ⟨r0_70, p1⟩, ⟨r0_68, p2⟩, ⟨r0_66, p3⟩, ⟨r0_53, p4⟩, ⟨r0_51, p5⟩, ⟨r0_49, p6⟩, ⟨r0_47, p7⟩, ⟨r0_34, p8⟩, ⟨r0_32, p9⟩, ⟨r0_30, p10⟩, ⟨r0_28, p11⟩, ⟨r0_15, p12⟩, ⟨r0_13, p13⟩, ⟨r0_11, p14⟩, ⟨r0_9, p15⟩] S1x512x256.size (by rfl) y

/-- Window 6's staging buffer after the body, from the input windows' blocks: its 1 store as pieces, LAST
    FIRST (Lib/Pipeline/FrameBody.lean `View.canon`; the payloads are the skeleton's and the values stated above). -/
def out0_6 (x0 : Vec F S512x2560 .bf16) (x1 : Vec F S3x16x160x2560 .fp8e4m3) (x2 : Vec F S80x512 .f32) (x3 : Vec F S80x512 .f32) : Vec F S512x2560 .fp8e4m3 :=
  View.canon [⟨r0_0, k0_pay3 (View.ld x0 r0_0)⟩]

/-- Its stores tile the buffer (checked by evaluation), so they cover it. -/
theorem cover0_6 (p0 : Vec F S512x2560 .fp8e4m3) (y : S512x2560.Idx) :
    ∃ pc ∈ ([⟨r0_0, p0⟩] : List (View.Piece (Elt F) S512x2560 .fp8e4m3)), y ∈ pc.1.set :=
  View.cover_of_tiled [⟨r0_0, p0⟩] S512x2560.size (by rfl) y

/-! ## The body's triple -/

set_option maxHeartbeats 1008000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S512x2560 .bf16) (harg1 : arg1.IsWhole) (arg2 : Memref sig .tc .vmem S3x16x160x2560 .fp8e4m3) (harg2 : arg2.IsWhole) (arg3 : Memref sig .tc .vmem S80x512 .f32) (harg3 : arg3.IsWhole) (arg4 : Memref sig .tc .vmem S80x512 .f32) (harg4 : arg4.IsWhole) (arg5 : Memref sig .tc .vmem S3x16x160x512 .bf16) (harg5 : arg5.IsWhole) (arg6 : Memref sig .tc .vmem S16x512x256 .bf16) (harg6 : arg6.IsWhole) (arg7 : Memref sig .tc .vmem S512x2560 .fp8e4m3) (harg7 : arg7.IsWhole)
    (x0 : Vec F S512x2560 .bf16) (x1 : Vec F S3x16x160x2560 .fp8e4m3) (x2 : Vec F S80x512 .f32) (x3 : Vec F S80x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_qkv_rope i arg1 harg1 arg2 harg2 arg3 harg3 arg4 harg4 arg5 harg5 arg6 harg6 arg7 harg7) K := by
  simp only [cc0_qkv_rope_eq_skeleton]; unfold cc0_qkv_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _ _ _ _ _ _ _ _ _ _ _ _ _ _ _ _ _ _ _ _ _ _ _ _ _ _ _ _ _ _ _ _ _ _ _ _ _ _ _ _ _)).trans ?_
    rfl
  isplitl [H5]
  · iexists _; isplitr
    swap; · iexact H5
    ipureintro
    refine (View.read_writes_eq_canon _ _ _ (cover0_5 _ _ _ _ _ _ _ _ _ _ _ _ _ _ _ _)).trans ?_
    rfl
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.OutRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-!
# The output call's body and proof data

At a parameter `V`, the contents of the core's buffers when the call is entered: each window's block, what the body
leaves in its output block, the body's triple, and the pipeline's proof data.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2_out_proj_postln` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2560x512 := Rect.unit (s := S2560x512) ![0, 0] S2560x512.size inb_S2560x512_S2560x512_0_0
abbrev r2_1 : Rect S2560x2560 := Rect.unit (s := S2560x2560) ![0, 0] S2560x2560.size inb_S2560x2560_S2560x2560_0_0
abbrev r2_2 : Rect S1x2560 := Rect.unit (s := S1x2560) ![0, 0] S1x2560.size inb_S1x2560_S1x2560_0_0
abbrev r2_3 : Rect S512x2560 := Rect.unit (s := S512x2560) ![0, 0] S512x2560.size inb_S512x2560_S512x2560_0_0

/-! ## What the body leaves in each output window's buffer -/

/-- Window 5's staging buffer after the body, from the input windows' blocks: its 1 store as pieces, LAST
    FIRST (Lib/Pipeline/FrameBody.lean `View.canon`; the payloads are the skeleton's). -/
def out2_5 (x0 : Vec F S2560x512 .fp8e4m3) (x1 : Vec F S2560x2560 .fp8e4m3) (x2 : Vec F S512x2560 .bf16) (x3 : Vec F S1x2560 .f32) (x4 : Vec F S1x2560 .f32) : Vec F S512x2560 .bf16 :=
  View.canon [⟨r2_3, k2_pay1 (k2_pay2 (View.ld x0 r2_0) (View.ld x1 r2_1) (View.ld x3 r2_2) (View.ld x4 r2_2)) (k2_pay3 (View.ld x2 r2_3)) (k2_pay4 (F := F))⟩]

/-- Its stores tile the buffer (checked by evaluation), so they cover it. -/
theorem cover2_5 (p0 : Vec F S512x2560 .bf16) (y : S512x2560.Idx) :
    ∃ pc ∈ ([⟨r2_3, p0⟩] : List (View.Piece (Elt F) S512x2560 .bf16)), y ∈ pc.1.set :=
  View.cover_of_tiled [⟨r2_3, p0⟩] S512x2560.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S2560x512 .fp8e4m3) (harg1 : arg1.IsWhole) (arg2 : Memref sig .tc .vmem S2560x2560 .fp8e4m3) (harg2 : arg2.IsWhole) (arg3 : Memref sig .tc .vmem S512x2560 .bf16) (harg3 : arg3.IsWhole) (arg4 : Memref sig .tc .vmem S1x2560 .f32) (harg4 : arg4.IsWhole) (arg5 : Memref sig .tc .vmem S1x2560 .f32) (harg5 : arg5.IsWhole) (arg6 : Memref sig .tc .vmem S512x2560 .bf16) (harg6 : arg6.IsWhole)
    (x0 : Vec F S2560x512 .fp8e4m3) (x1 : Vec F S2560x2560 .fp8e4m3) (x2 : Vec F S512x2560 .bf16) (x3 : Vec F S1x2560 .f32) (x4 : Vec F S1x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_out_proj_postln i arg1 harg1 arg2 harg2 arg3 harg3 arg4 harg4 arg5 harg5 arg6 harg6) K := by
  simp only [cc2_out_proj_postln_eq_skeleton]; unfold cc2_out_proj_postln_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.AttnBody.lean ====
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

/-!
# The attention kernel's body, with the values it leaves

`carry` is the triple (running maximum, running denominator, running output) that the kernel carries over the key
blocks of one query block, written over the blocks alone.  `body_run` says that one call of the body leaves exactly the
outputs computed from `carry`, and overwrites one row segment of the log-sum-exp block.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The triple carried over the key blocks: running maximum, denominator, unscaled output. -/
abbrev Carry (F : FTy → Type) [FloatOps F] [Named F] := FVec F S1x512 .f32 × FVec F S1x512 .f32 × FVec F S160x512 .f32

/-- Key block `b`: rows `512 b …` of a head's keys. -/
def kTile (x1 : Vec F S1x8192x256 .bf16) (b : ℕ) : Vec F S1x512x256 .bf16 :=
  fun j => x1 (ix3 (n0 := 1) (n1 := 8192) (n2 := 256) (j 0) ⟨(512 * b + (j 1).val) % 8192, Nat.mod_lt _ (by omega)⟩ (j 2))

/-- Value block `b`: lanes `512 b …` of a head's values. -/
def vTile (x2 : Vec F S1x1x160x8192 .bf16) (b : ℕ) : Vec F S1x1x160x512 .bf16 :=
  fun j => x2 (ix4 (n0 := 1) (n1 := 1) (n2 := 160) (n3 := 8192) (j 0) (j 1) (j 2) ⟨(512 * b + (j 3).val) % 8192, Nat.mod_lt _ (by omega)⟩)

/-- The carried triple after the masked diagonal block. -/
def first (x0 : Vec F S1x1x160x512 .bf16) (kt : Vec F S1x512x256 .bf16) (vt : Vec F S1x1x160x512 .bf16) : Carry F :=
  (k1_pay6 x0 kt, k1_pay10 (k1_pay8 x0 kt) (k1_pay9 x0 kt), k1_pay11 k1_pay4 (k1_pay7 x0 kt) (k1_pay8 x0 kt) vt)

/-- The carried triple after one more, unmasked, key block. -/
def step (x0 : Vec F S1x1x160x512 .bf16) (kt : Vec F S1x512x256 .bf16) (vt : Vec F S1x1x160x512 .bf16) (a : Carry F) : Carry F :=
  (k1_pay13 (k1_pay2 x0) a.1 kt, k1_pay16 (k1_pay2 x0) a.1 a.2.1 kt, k1_pay17 (k1_pay2 x0) a.1 a.2.2 kt vt)

/-- The carried triple of query block `b` after the diagonal block and the key blocks below `k`. -/
def carry (x0 : Vec F S1x1x160x512 .bf16) (x1 : Vec F S1x8192x256 .bf16) (x2 : Vec F S1x1x160x8192 .bf16) (b : ℕ) : ℕ → Carry F
  | 0 => first x0 (kTile x1 b) (vTile x2 b)
  | k + 1 => step x0 (kTile x1 k) (vTile x2 k) (carry x0 x1 x2 b k)

/-- The final triple of query block `b`. -/
def fin (x0 : Vec F S1x1x160x512 .bf16) (x1 : Vec F S1x8192x256 .bf16) (x2 : Vec F S1x1x160x8192 .bf16) (b : ℕ) : Carry F :=
  carry x0 x1 x2 b b

/-- The log-sum-exp row segment stored by query block `b`. -/
def lse (x0 : Vec F S1x1x160x512 .bf16) (x1 : Vec F S1x8192x256 .bf16) (x2 : Vec F S1x1x160x8192 .bf16) (b : ℕ) : FVec F S1x512 .f32 :=
  k1_pay1 (fin x0 x1 x2 b).1 (fin x0 x1 x2 b).2.1 (iota .tc S1x512 32 [1] iota_S1x512_d1_w32) (k1_pay27 (BitVec.ofNat 32 b))

theorem ld_kTile (x1 : Vec F S1x8192x256 .bf16) (b : ℕ) (hb : b < 16) {off : Fin 3 → ℕ} (h : off = ![0, 512 * b, 0])
    (inb : ∀ a, off a + S1x512x256.size a ≤ S1x8192x256.size a) :
    View.ld (Val := Elt F) (S := S1x8192x256) (e' := .bf16) x1 (Rect.unit (s := S1x8192x256) off S1x512x256.size inb) = kTile x1 b := by
  subst h
  funext j
  show x1 _ = x1 _
  congr 1
  funext a
  apply Fin.ext
  have h1 : (j 1).val < 512 := (j 1).isLt
  match a with
  | ⟨0, _⟩ => show 0 + 1 * (j 0).val = (j 0).val; omega
  | ⟨1, _⟩ => show 512 * b + 1 * (j 1).val = (512 * b + (j 1).val) % 8192; omega
  | ⟨2, _⟩ => show 0 + 1 * (j 2).val = (j 2).val; omega

theorem ld_vTile (x2 : Vec F S1x1x160x8192 .bf16) (b : ℕ) (hb : b < 16) {off : Fin 4 → ℕ} (h : off = ![0, 0, 0, 512 * b])
    (inb : ∀ a, off a + S1x1x160x512.size a ≤ S1x1x160x8192.size a) :
    View.ld (Val := Elt F) (S := S1x1x160x8192) (e' := .bf16) x2 (Rect.unit (s := S1x1x160x8192) off S1x1x160x512.size inb) = vTile x2 b := by
  subst h
  funext j
  show x2 _ = x2 _
  congr 1
  funext a
  apply Fin.ext
  have h1 : (j 3).val < 512 := (j 3).isLt
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 512 * b + 1 * (j 3).val = (512 * b + (j 3).val) % 8192; omega

/-- The first loop makes as many trips as the query block's number. -/
theorem trips1 : ∀ i : grid1.Coords, (k1_t1_loop i).trips = (i 1).val := by
  have h : ∀ b : Fin 16, ∀ i : grid1.Coords, (i 1).val = b.val → (k1_t1_loop i).trips = b.val := by
    intro b i hb
    have e : k1_t1_loop i = (fun (x : BitVec 32) => k1_t1_loop i) (BitVec.ofNat 32 (i 1).val) := rfl
    unfold k1_t1_loop
    rw [hb]
    clear e hb
    revert b
    decide +kernel
  intro i
  exact h ⟨(i 1).val, (i 1).isLt⟩ i rfl

/-- The second loop makes none. -/
theorem trips2 (i : grid1.Coords) : (k1_t2_loop i).trips = 0 := Nat.le_zero.1 (k1_t2_abs i).2.1

/-- One trip of the loop is `step` on the trip's key and value blocks. -/
theorem trip_eq (c : Dev nD) (i : grid1.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (arg1 : BitVec 32) (x0 : Vec F S1x1x160x512 .bf16) (v6 : FVec F S160x512 .f32) (v8 : BitVec 32) (v27 : FVec F S1x512 .f32) (v31 : FVec F S1x512 .f32) (v36 : FVec F S512x512 .f32) (v38 : FVec F S1x512 .f32)
    (x1 : Vec F S1x8192x256 .bf16) (x2 : Vec F S1x1x160x8192 .bf16) (k : Fin (k1_t1_loop i).trips) (a : Carry F) :
    tripR_k1_t1 (F := F) Variants.none c none i arg2 harg2 arg3 harg3 arg4 harg4 arg5 harg5 arg6 harg6 arg7 harg7 arg1 (k1_pay2 x0) v6 v8 v27 v31 v36 v38 (harg3.unread x1) (harg4.unread x2) k a
      = step x0 (kTile x1 k.val) (vTile x2 k.val) a := by
  have hk : k.val < 16 := by
    have h1 := k.isLt; have h2 := trips1 i; have h3 := (i 1).isLt
    have h4 : (i 1).val < 16 := h3
    omega
  rw [← ld_kTile x1 k.val hk (k1_off3_eq i k) (k1_off3_inb i k), ← ld_vTile x2 k.val hk (k1_off4_eq i k) (k1_off4_inb i k)]
  have e3 : View.readAt (Elt F) arg3.view (Rect.unit (s := S1x8192x256) (k1_off3 i k) S1x512x256.size (k1_off3_inb i k)).toLoadRect (harg3.unread x1)
      = View.ld x1 (Rect.unit (s := S1x8192x256) (k1_off3 i k) S1x512x256.size (k1_off3_inb i k)) := by
    rw [View.readAt_eq_ld, harg3.read_unread]
  have e4 : View.readAt (Elt F) arg4.view (Rect.unit (s := S1x1x160x8192) (k1_off4 i k) S1x1x160x512.size (k1_off4_inb i k)).toLoadRect (harg4.unread x2)
      = View.ld x2 (Rect.unit (s := S1x1x160x8192) (k1_off4 i k) S1x1x160x512.size (k1_off4_inb i k)) := by
    rw [View.readAt_eq_ld, harg4.read_unread]
  rw [← e3, ← e4]
  unfold tripR_k1_t1 trip_k1_t1 step
  rfl

/-- The state of the loop before trip `k` is `carry`. -/
theorem st_eq (c : Dev nD) (i : grid1.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (arg1 : BitVec 32) (x0 : Vec F S1x1x160x512 .bf16) (v6 : FVec F S160x512 .f32) (v8 : BitVec 32) (v27 : FVec F S1x512 .f32) (v31 : FVec F S1x512 .f32) (v36 : FVec F S512x512 .f32) (v38 : FVec F S1x512 .f32)
    (x1 : Vec F S1x8192x256 .bf16) (x2 : Vec F S1x1x160x8192 .bf16) (b : ℕ) (k : ℕ) (hk : k ≤ (k1_t1_loop i).trips) :
    st_k1_t1 (F := F) Variants.none c none i arg2 harg2 arg3 harg3 arg4 harg4 arg5 harg5 arg6 harg6 arg7 harg7 arg1 (k1_pay2 x0) v6 v8 v27 v31 v36 v38 (harg3.unread x1) (harg4.unread x2)
      (first x0 (kTile x1 b) (vTile x2 b)) k = carry x0 x1 x2 b k := by
  induction k with
  | zero => rfl
  | succ k ih =>
    rw [st_k1_t1_succ (k := ⟨k, hk⟩), ih (by omega), trip_eq]
    rfl

/-- The three loads before the loop. -/
theorem load2 (arg2 : Memref sig .tc .vmem S1x1x160x512 .bf16) (harg2 : arg2.IsWhole) (x0 : Vec F S1x1x160x512 .bf16) :
    View.readAt (Elt F) arg2.view (Rect.unit (s := S1x1x160x512) ![0, 0, 0, 0] S1x1x160x512.size inb_S1x1x160x512_S1x1x160x512_0_0_0_0).toLoadRect (harg2.unread x0) = x0 := by
  rw [View.readAt_eq_ld, harg2.read_unread]
  exact View.ld_unit_lit _ x0 (by decide)

theorem load3 (i : grid1.Coords) (arg3 : Memref sig .tc .vmem S1x8192x256 .bf16) (harg3 : arg3.IsWhole) (x1 : Vec F S1x8192x256 .bf16) :
    View.readAt (Elt F) arg3.view (Rect.unit (s := S1x8192x256) (k1_off1 i) S1x512x256.size (k1_off1_inb i)).toLoadRect (harg3.unread x1) = kTile x1 (i 1).val := by
  rw [View.readAt_eq_ld, harg3.read_unread]
  exact ld_kTile x1 (i 1).val (i 1).isLt (k1_off1_eq i) (k1_off1_inb i)

theorem load4 (i : grid1.Coords) (arg4 : Memref sig .tc .vmem S1x1x160x8192 .bf16) (harg4 : arg4.IsWhole) (x2 : Vec F S1x1x160x8192 .bf16) :
    View.readAt (Elt F) arg4.view (Rect.unit (s := S1x1x160x8192) (k1_off2 i) S1x1x160x512.size (k1_off2_inb i)).toLoadRect (harg4.unread x2) = vTile x2 (i 1).val := by
  rw [View.readAt_eq_ld, harg4.read_unread]
  exact ld_vTile x2 (i 1).val (i 1).isLt (k1_off2_eq i) (k1_off2_inb i)

/-- The state after the first loop, started from the values of the three loads, is `fin`. -/
theorem fin_eq (c : Dev nD) (i : grid1.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (arg1 : BitVec 32) (v6 : FVec F S160x512 .f32) (v8 : BitVec 32) (v27 : FVec F S1x512 .f32) (v31 : FVec F S1x512 .f32) (v36 : FVec F S512x512 .f32) (v38 : FVec F S1x512 .f32)
    (x0 : Vec F S1x1x160x512 .bf16) (x1 : Vec F S1x8192x256 .bf16) (x2 : Vec F S1x1x160x8192 .bf16)
    (a0 : Vec F S1x1x160x512 .bf16) (h0 : a0 = x0) (a1 : Vec F S1x512x256 .bf16) (h1 : a1 = kTile x1 (i 1).val)
    (a2 : Vec F S1x1x160x512 .bf16) (h2 : a2 = vTile x2 (i 1).val) :
    st_k1_t1 (F := F) Variants.none c none i arg2 harg2 arg3 harg3 arg4 harg4 arg5 harg5 arg6 harg6 arg7 harg7 arg1 (k1_pay2 a0) v6 v8 v27 v31 v36 v38 (harg3.unread x1) (harg4.unread x2)
      (k1_pay6 a0 a1, k1_pay10 (k1_pay8 a0 a1) (k1_pay9 a0 a1), k1_pay11 k1_pay4 (k1_pay7 a0 a1) (k1_pay8 a0 a1) a2)
      (Scf.trips (k1_t1_loop i).lb (k1_t1_loop i).ub (k1_t1_loop i).st) = fin x0 x1 x2 (i 1).val := by
  subst h0 h1 h2
  have ht : Scf.trips (k1_t1_loop i).lb (k1_t1_loop i).ub (k1_t1_loop i).st = (i 1).val := trips1 i
  rw [ht]
  exact st_eq c i arg2 harg2 arg3 harg3 arg4 harg4 arg5 harg5 arg6 harg6 arg7 harg7 arg1 a0 v6 v8 v27 v31 v36 v38 x1 x2 (i 1).val (i 1).val (le_of_eq (trips1 i).symm)

-- (the run's proof term is large: checking it walks past the default budget)
set_option maxHeartbeats 1000000 in
/-- One call of the body: from the input blocks `x0 x1 x2`, any contents of the first two output blocks and the contents
    `y` of the log-sum-exp block, it leaves the two outputs of `fin` and the log-sum-exp block with its own segment put in. -/
theorem body_run (c : Dev nD) (i : grid1.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (x0 : Vec F S1x1x160x512 .bf16) (x1 : Vec F S1x8192x256 .bf16) (x2 : Vec F S1x1x160x8192 .bf16) (y : Vec F S16x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare y
            ∗ (iprop(owns (c : Thread nD τ) arg2 fullShare x0 ∗ owns (c : Thread nD τ) arg3 fullShare x1 ∗ owns (c : Thread nD τ) arg4 fullShare x2
                ∗ owns (c : Thread nD τ) arg5 fullShare (k1_pay25 (fin x0 x1 x2 (i 1).val).2.1 (fin x0 x1 x2 (i 1).val).2.2)
                ∗ owns (c : Thread nD τ) arg6 fullShare (k1_pay26 (fin x0 x1 x2 (i 1).val).2.1 (fin x0 x1 x2 (i 1).val).2.2)
                ∗ owns (c : Thread nD τ) arg7 fullShare (VecWindow.put y (k1_off7 i) S1x512.size (lse x0 x1 x2 (i 1).val))) -∗ K ⟨⟩))
          ⊢ wp frame (wpE (defs₀ (F := F)) Variants.none c none) E (cc1_sqrt_softmax_attention i arg2 harg2 arg3 harg3 arg4 harg4 arg5 harg5 arg6 harg6 arg7 harg7) K := by
    intro E K
    simp only [cc1_sqrt_softmax_attention_eq_skeleton]; unfold cc1_sqrt_softmax_attention_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg2.eq_unread hf0; obtain rfl := harg3.eq_unread hf1; obtain rfl := harg4.eq_unread hf2
    sl_exec
    sl_step
    iapply Hk
    isplitl [H0]
    · iexists _; isplitr
      swap
      · iexact H0
      · ipureintro; exact hf0
    isplitl [H1]
    · iexists _; isplitr
      swap
      · iexact H1
      · ipureintro; exact hf1
    isplitl [H2]
    · iexists _; isplitr
      swap
      · iexact H2
      · ipureintro; exact hf2
    have hz : Scf.trips (k1_t2_loop i).lb (k1_t2_loop i).ub (k1_t2_loop i).st = 0 := trips2 i
    isplitl [H3]
    · iexists _; isplitr
      swap
      · iexact H3
      · ipureintro
        refine (View.read_writes_full ..).trans ?_
        rw [hz]
        simp only [st_k1_t2_zero]
        exact congrArg (fun a : Carry F => k1_pay25 a.2.1 a.2.2) (fin_eq c i arg2 harg2 arg3 harg3 arg4 harg4 arg5 harg5 arg6 harg6 arg7 harg7 _ _ _ _ _ _ _ x0 x1 x2 _ (load2 arg2 harg2 x0) _ (load3 i arg3 harg3 x1) _ (load4 i arg4 harg4 x2))
    isplitl [H4]
    · iexists _; isplitr
      swap
      · iexact H4
      · ipureintro
        refine (View.read_writes_full ..).trans ?_
        rw [hz]
        simp only [st_k1_t2_zero]
        exact congrArg (fun a : Carry F => k1_pay26 a.2.1 a.2.2) (fin_eq c i arg2 harg2 arg3 harg3 arg4 harg4 arg5 harg5 arg6 harg6 arg7 harg7 _ _ _ _ _ _ _ x0 x1 x2 _ (load2 arg2 harg2 x0) _ (load3 i arg3 harg3 x1) _ (load4 i arg4 harg4 x2))
    · iexists _; isplitr
      swap
      · iexact H5
      · ipureintro
        refine (View.read_writes_cons_put _ _ _ _ _ rfl).trans ?_
        rw [View.writes_nil, hf5]
        congr 1
        unfold body_run.sl.r_5 body_run.sl.r_6
        rw [hz]
        simp only [st_k1_t2_zero]
        exact congrArg (fun a : Carry F => k1_pay1 a.1 a.2.1 (iota .tc S1x512 32 [1] iota_S1x512_d1_w32) (k1_pay27 (BitVec.ofNat 32 (i 1).val))) (fin_eq c i arg2 harg2 arg3 harg3 arg4 harg4 arg5 harg5 arg6 harg6 arg7 harg7 _ _ _ _ _ _ _ x0 x1 x2 _ (load2 arg2 harg2 x0) _ (load3 i arg3 harg3 x1) _ (load4 i arg4 harg4 x2))
end Cert.KernelIdeal.Hand

end
-- ==== Proof.AttnRun.lean ====
module

public import proofs.«01_k».proof.Proof.AttnBody
public import Idealize.ShloMosaic.Lib.Claim
public import Idealize.ShloMosaic.Lib.Pipeline.Frame
public import Idealize.ShloMosaic.Lib.Pipeline.ArrRel

/-!
# The attention kernel's run

The pipeline's proof data: two outputs are named exactly at every grid point; the third, whose one block stays resident
for the whole grid, is related point by point to what the point found there.  `run_blocks` is the run with the final
contents of the three result arrays.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The carried triple at the end of point `t`. -/
def finAt (c : Dev nD) (t : Fin cfg1.N) : Carry F :=
  fin (iblk1 V c 0 t) (iblk1 V c 1 t) (iblk1 V c 2 t) ((grid1.coords t) 1).val

/-- The log-sum-exp row that point `t` stores. -/
def lseAt (c : Dev nD) (t : Fin cfg1.N) : FVec F S1x512 .f32 :=
  lse (iblk1 V c 0 t) (iblk1 V c 1 t) (iblk1 V c 2 t) ((grid1.coords t) 1).val

/-- The exact part of the pipeline's proof data. -/
def dats (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay25 (finAt V c t).2.1 (finAt V c t).2.2
    | ⟨4, _⟩ => k1_pay26 (finAt V c t).2.1 (finAt V c t).2.2
    | ⟨5, h⟩ => Pipeline.Dat.unnamed (cfg := cfg1) ⟨5, h⟩ t
  Φ _ := Pipeline.ΦA spec1 c
  q w := Pipeline.shareOf spec1 w
  owed _ := 0

/-- The resident block: what a point leaves is what it found, one row segment overwritten. -/
def ovr (c : Dev nD) (w : Fin cfg1.W) : Option (Fin cfg1.N → (Y X : (cfg1.win w).block.Idx → Elt F (cfg1.win w).elt) → Prop) :=
  match w with
  | ⟨0, _⟩ => none
  | ⟨1, _⟩ => none
  | ⟨2, _⟩ => none
  | ⟨3, _⟩ => none
  | ⟨4, _⟩ => none
  | ⟨5, _⟩ => some fun t Y X => X = VecWindow.put (s := S16x8192) Y (k1_off7 (grid1.coords t)) S1x512.size (lseAt V c t)

/-- The proof data. -/
def rdat (c : Dev nD) : RDat τ (Elt F) Unit ℕ (UR sig nD τ) ℕ cfg1 c := (dats V c).toR.override (ovr V c)

theorem A_eq (c : Dev nD) (w : Fin cfg1.W) : (dats V c).A w = V c (Pipeline.arrRef spec1 w) := by
  dsimp only [dats]
theorem rA_eq (c : Dev nD) (w : Fin cfg1.W) : (rdat V c).A w = V c (Pipeline.arrRef spec1 w) := A_eq V c w

theorem after1_0 (c : Dev nD) (t : Fin cfg1.N) : (dats V c).after 0 t = iblk1 V c 0 t := by dsimp only [dats]
theorem after1_1 (c : Dev nD) (t : Fin cfg1.N) : (dats V c).after 1 t = iblk1 V c 1 t := by dsimp only [dats]
theorem after1_2 (c : Dev nD) (t : Fin cfg1.N) : (dats V c).after 2 t = iblk1 V c 2 t := by dsimp only [dats]
theorem after1_3 (c : Dev nD) (t : Fin cfg1.N) : (dats V c).after 3 t = k1_pay25 (finAt V c t).2.1 (finAt V c t).2.2 := by dsimp only [dats]
theorem after1_4 (c : Dev nD) (t : Fin cfg1.N) : (dats V c).after 4 t = k1_pay26 (finAt V c t).2.1 (finAt V c t).2.2 := by dsimp only [dats]

/-- An input's buffer holds its block whenever the body runs. -/
theorem finds_0 (c : Dev nD) (t : Fin cfg1.N) (X) (h : (rdat V c).Finds 0 t X) : X = iblk1 V c 0 t := by
  obtain ⟨d, rfl⟩ := (dats V c).toR_finds 0 t X ((RDat.override_finds (rd := (dats V c).toR) (ovr := ovr V c) rfl t X).mp h)
  exact before1_0_of V (dats V c) (A_eq V c 0) (after1_0 V c) t d
theorem finds_1 (c : Dev nD) (t : Fin cfg1.N) (X) (h : (rdat V c).Finds 1 t X) : X = iblk1 V c 1 t := by
  obtain ⟨d, rfl⟩ := (dats V c).toR_finds 1 t X ((RDat.override_finds (rd := (dats V c).toR) (ovr := ovr V c) rfl t X).mp h)
  exact before1_1_of V (dats V c) (A_eq V c 1) (after1_1 V c) t d
theorem finds_2 (c : Dev nD) (t : Fin cfg1.N) (X) (h : (rdat V c).Finds 2 t X) : X = iblk1 V c 2 t := by
  obtain ⟨d, rfl⟩ := (dats V c).toR_finds 2 t X ((RDat.override_finds (rd := (dats V c).toR) (ovr := ovr V c) rfl t X).mp h)
  exact before1_2_of V (dats V c) (A_eq V c 2) (after1_2 V c) t d

theorem rafter_0 (c : Dev nD) (t : Fin cfg1.N) (Y X) : (rdat V c).after 0 t Y X ↔ X = iblk1 V c 0 t := Iff.rfl
theorem rafter_1 (c : Dev nD) (t : Fin cfg1.N) (Y X) : (rdat V c).after 1 t Y X ↔ X = iblk1 V c 1 t := Iff.rfl
theorem rafter_2 (c : Dev nD) (t : Fin cfg1.N) (Y X) : (rdat V c).after 2 t Y X ↔ X = iblk1 V c 2 t := Iff.rfl
theorem rafter_3 (c : Dev nD) (t : Fin cfg1.N) (Y X) : (rdat V c).after 3 t Y X ↔ X = k1_pay25 (finAt V c t).2.1 (finAt V c t).2.2 := Iff.rfl
theorem rafter_4 (c : Dev nD) (t : Fin cfg1.N) (Y X) : (rdat V c).after 4 t Y X ↔ X = k1_pay26 (finAt V c t).2.1 (finAt V c t).2.2 := Iff.rfl
theorem rafter_5 (c : Dev nD) (t : Fin cfg1.N) (Y X) :
    (rdat V c).after 5 t Y X ↔ X = VecWindow.put (s := S16x8192) Y (k1_off7 (grid1.coords t)) S1x512.size (lseAt V c t) := Iff.rfl

theorem defs₀_row1 (t : Fin cfg1.N) :
    defs₀ (F := F) .tc cfg1.body (cfg1.bodyArgs t (cfg1.slots t)) = bodyAt1 t := by
  unfold defs₀; rw [Defs.onTc_tc]

/-- The body meets the proof data at every point. -/
theorem body_obligation (c : Dev nD) : (rdat V c).BodyObligation (defs₀ (F := F)) Variants.none () Set.univ := by
  intro t Y hY
  rw [bigSep_W1, bigSep_W1, defs₀_row1]
  have e0 := finds_0 V c t _ (hY 0)
  have e1 := finds_1 V c t _ (hY 1)
  have e2 := finds_2 V c t _ (hY 2)
  rw [show (rdat V c).Φ t.succ = (rdat V c).Φ t.castSucc from rfl,
    show (rdat V c).owesAt () t.succ = (rdat V c).owesAt () t.castSucc from rfl]
  iintro ⟨HΦ, Ho, H0, H1, H2, H3, H4, H5⟩
  iapply ((body_run c (grid1.coords t) _ _ _ _ _ _ _ _ _ _ _ _ (Y 0) (Y 1) (Y 2) (Y 5)) Set.univ _)
  isplitl [H0]; · iexact H0
  isplitl [H1]; · iexact H1
  isplitl [H2]; · iexact H2
  isplitl [H3]; · iexists _; iexact H3
  isplitl [H4]; · iexists _; iexact H4
  isplitl [H5]; · iexact H5
  iintro ⟨H0, H1, H2, H3, H4, H5⟩
  isplitl [HΦ]; · iexact HΦ
  isplitl [Ho]; · iexact Ho
  isplitl [H0]
  · iexists _; isplitr; swap; · iexact H0
    ipureintro; exact (rafter_0 V c t _ _).mpr e0
  isplitl [H1]
  · iexists _; isplitr; swap; · iexact H1
    ipureintro; exact (rafter_1 V c t _ _).mpr e1
  isplitl [H2]
  · iexists _; isplitr; swap; · iexact H2
    ipureintro; exact (rafter_2 V c t _ _).mpr e2
  isplitl [H3]
  · iexists _; isplitr; swap; · iexact H3
    ipureintro; refine (rafter_3 V c t _ _).mpr ?_; rw [e0, e1, e2]; rfl
  isplitl [H4]
  · iexists _; isplitr; swap; · iexact H4
    ipureintro; refine (rafter_4 V c t _ _).mpr ?_; rw [e0, e1, e2]; rfl
  · iexists _; isplitr; swap; · iexact H5
    ipureintro; refine (rafter_5 V c t _ _).mpr ?_; rw [e0, e1, e2]; rfl

end Cert.KernelIdeal.Hand

end
-- ==== Proof.AttnArr.lean ====
module

public import proofs.«01_k».proof.Proof.AttnRun

/-!
# The attention kernel's result arrays

`run_value` is the run of the kernel with its three result arrays named as functions of the two argument arrays: the
value at (head, channel, position) is the carried triple of the query block that holds the position.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.Sem
open Idealize.ShloMosaic.Pipeline (Dat RDat Cfg Window BodyObligation cellOf)

variable {F : FTy → Type} [FloatOps F] [Named F]

/-- Query block `b` of head `h`. -/
def qBlk (a0 : Vec F S3x16x160x8192 .bf16) (h : Fin 16) (b : ℕ) : Vec F S1x1x160x512 .bf16 :=
  fun j => a0 (ix4 (n0 := 3) (n1 := 16) (n2 := 160) (n3 := 8192) 0 h (j 2) ⟨(512 * b + (j 3).val) % 8192, Nat.mod_lt _ (by omega)⟩)

/-- The keys of head `h`. -/
def kBlk (a1 : Vec F S16x8192x256 .bf16) (h : Fin 16) : Vec F S1x8192x256 .bf16 :=
  fun j => a1 (ix3 (n0 := 16) (n1 := 8192) (n2 := 256) h (j 1) (j 2))

/-- The values of head `h`. -/
def vBlk (a0 : Vec F S3x16x160x8192 .bf16) (h : Fin 16) : Vec F S1x1x160x8192 .bf16 :=
  fun j => a0 (ix4 (n0 := 3) (n1 := 16) (n2 := 160) (n3 := 8192) 2 h (j 2) (j 3))

/-- The carried triple of query block `b` of head `h`. -/
def finOf (a0 : Vec F S3x16x160x8192 .bf16) (a1 : Vec F S16x8192x256 .bf16) (h : Fin 16) (b : ℕ) : Carry F :=
  fin (qBlk a0 h b) (kBlk a1 h) (vBlk a0 h) b

/-- The log-sum-exp row of query block `b` of head `h`. -/
def lseOf (a0 : Vec F S3x16x160x8192 .bf16) (a1 : Vec F S16x8192x256 .bf16) (h : Fin 16) (b : ℕ) : FVec F S1x512 .f32 :=
  lse (qBlk a0 h b) (kBlk a1 h) (vBlk a0 h) b

/-- The three results. -/
def G3 (a0 : Vec F S3x16x160x8192 .bf16) (a1 : Vec F S16x8192x256 .bf16) : Vec F S16x160x8192 .bf16 := fun i =>
  k1_pay25 (finOf a0 a1 (i 0) ((i 2).val / 512)).2.1 (finOf a0 a1 (i 0) ((i 2).val / 512)).2.2
    (ix3 (n0 := 1) (n1 := 160) (n2 := 512) 0 (i 1) ⟨(i 2).val % 512, Nat.mod_lt _ (by omega)⟩)
def G4 (a0 : Vec F S3x16x160x8192 .bf16) (a1 : Vec F S16x8192x256 .bf16) : Vec F S16x160x8192 .fp8e4m3 := fun i =>
  k1_pay26 (finOf a0 a1 (i 0) ((i 2).val / 512)).2.1 (finOf a0 a1 (i 0) ((i 2).val / 512)).2.2
    (ix3 (n0 := 1) (n1 := 160) (n2 := 512) 0 (i 1) ⟨(i 2).val % 512, Nat.mod_lt _ (by omega)⟩)
def G5 (a0 : Vec F S3x16x160x8192 .bf16) (a1 : Vec F S16x8192x256 .bf16) : Vec F S16x8192 .f32 := fun i =>
  lseOf a0 a1 (i 0) ((i 1).val / 512) (ix2 (n0 := 1) (n1 := 512) 0 ⟨(i 1).val % 512, Nat.mod_lt _ (by omega)⟩)

variable (V : (c : Dev nD) → (b : Ref sig .tc) → Buf (Elt F) ((c : Thread nD τ).loc b))

theorem coord0 : ∀ t : Fin cfg1.N, ((grid1.coords t) 0).val = t.val / 16 := (by decide +kernel : ∀ t : Fin grid1.N, _)
theorem coord1 : ∀ t : Fin cfg1.N, ((grid1.coords t) 1).val = t.val % 16 := (by decide +kernel : ∀ t : Fin grid1.N, _)
theorem index0 : ∀ t : Fin cfg1.N, win1_0.index t = ![0, ((grid1.coords t) 0).val, 0, ((grid1.coords t) 1).val] := (by decide +kernel : ∀ t : Fin grid1.N, _)
theorem index1 : ∀ t : Fin cfg1.N, win1_1.index t = ![((grid1.coords t) 0).val, 0, 0] := (by decide +kernel : ∀ t : Fin grid1.N, _)
theorem index2 : ∀ t : Fin cfg1.N, win1_2.index t = ![2, ((grid1.coords t) 0).val, 0, 0] := (by decide +kernel : ∀ t : Fin grid1.N, _)
theorem index3 : ∀ t : Fin cfg1.N, win1_3.index t = ![((grid1.coords t) 0).val, 0, ((grid1.coords t) 1).val] := (by decide +kernel : ∀ t : Fin grid1.N, _)
theorem index4 : ∀ t : Fin cfg1.N, win1_4.index t = ![((grid1.coords t) 0).val, 0, ((grid1.coords t) 1).val] := (by decide +kernel : ∀ t : Fin grid1.N, _)

theorem iblk_0 (c : Dev nD) (t : Fin cfg1.N) :
    (iblk1 V c 0 t : Vec F S1x1x160x512 .bf16) = qBlk (V c main_v7_0) ((grid1.coords t) 0) ((grid1.coords t) 1).val := by
  funext y
  blk_simp [iblk1]
  unfold qBlk
  congr 1
  have h1 : ((grid1.coords t) 1).val < 16 := ((grid1.coords t) 1).isLt
  idx_bounds y
  blk_ext [index0]

theorem iblk_1 (c : Dev nD) (t : Fin cfg1.N) :
    (iblk1 V c 1 t : Vec F S1x8192x256 .bf16) = kBlk (V c main_v7_1) ((grid1.coords t) 0) := by
  funext y
  blk_simp [iblk1]
  unfold kBlk
  congr 1
  idx_bounds y
  blk_ext [index1]

theorem iblk_2 (c : Dev nD) (t : Fin cfg1.N) :
    (iblk1 V c 2 t : Vec F S1x1x160x8192 .bf16) = vBlk (V c main_v7_0) ((grid1.coords t) 0) := by
  funext y
  blk_simp [iblk1]
  unfold vBlk
  congr 1
  idx_bounds y
  blk_ext [index2]

theorem finAt_eq (c : Dev nD) (t : Fin cfg1.N) : finAt V c t = finOf (V c main_v7_0) (V c main_v7_1) ((grid1.coords t) 0) ((grid1.coords t) 1).val := by
  unfold finAt finOf
  exact congr (congr (congr rfl (iblk_0 V c t)) (iblk_1 V c t)) (iblk_2 V c t) |> fun h => congrFun h _

theorem lseAt_eq (c : Dev nD) (t : Fin cfg1.N) : lseAt V c t = lseOf (V c main_v7_0) (V c main_v7_1) ((grid1.coords t) 0) ((grid1.coords t) 1).val := by
  unfold lseAt lseOf
  exact congr (congr (congr rfl (iblk_0 V c t)) (iblk_1 V c t)) (iblk_2 V c t) |> fun h => congrFun h _

/-- What the body leaves in an exactly named output. -/
theorem leaves_3 (c : Dev nD) (t : Fin cfg1.N) (X) (h : (rdat V c).Leaves 3 t X) : X = k1_pay25 (finAt V c t).2.1 (finAt V c t).2.2 := by
  obtain ⟨Y, -, hX⟩ := h; exact (rafter_3 V c t Y X).mp hX
theorem leaves_4 (c : Dev nD) (t : Fin cfg1.N) (X) (h : (rdat V c).Leaves 4 t X) : X = k1_pay26 (finAt V c t).2.1 (finAt V c t).2.2 := by
  obtain ⟨Y, -, hX⟩ := h; exact (rafter_4 V c t Y X).mp hX

theorem G3_at (a0 : Vec F S3x16x160x8192 .bf16) (a1 : Vec F S16x8192x256 .bf16) (i : S16x160x8192.Idx) (y : S1x160x512.Idx) (h : Fin 16) (b : ℕ)
    (e0 : i 0 = h) (e1 : (i 1).val = (y 1).val) (e2 : (i 2).val = 512 * b + (y 2).val) :
    G3 a0 a1 i = k1_pay25 (finOf a0 a1 h b).2.1 (finOf a0 a1 h b).2.2 y := by
  idx_bounds y
  unfold G3
  rw [e0, show (i 2).val / 512 = b by omega]
  congr 1
  funext a
  match a with
  | ⟨0, _⟩ => exact Fin.ext (by show 0 = (y 0).val; omega)
  | ⟨1, _⟩ => exact Fin.ext e1
  | ⟨2, _⟩ => exact Fin.ext (by show (i 2).val % 512 = (y 2).val; omega)

theorem G4_at (a0 : Vec F S3x16x160x8192 .bf16) (a1 : Vec F S16x8192x256 .bf16) (i : S16x160x8192.Idx) (y : S1x160x512.Idx) (h : Fin 16) (b : ℕ)
    (e0 : i 0 = h) (e1 : (i 1).val = (y 1).val) (e2 : (i 2).val = 512 * b + (y 2).val) :
    G4 a0 a1 i = k1_pay26 (finOf a0 a1 h b).2.1 (finOf a0 a1 h b).2.2 y := by
  idx_bounds y
  unfold G4
  rw [e0, show (i 2).val / 512 = b by omega]
  congr 1
  funext a
  match a with
  | ⟨0, _⟩ => exact Fin.ext (by show 0 = (y 0).val; omega)
  | ⟨1, _⟩ => exact Fin.ext e1
  | ⟨2, _⟩ => exact Fin.ext (by show (i 2).val % 512 = (y 2).val; omega)

theorem G5_at (a0 : Vec F S3x16x160x8192 .bf16) (a1 : Vec F S16x8192x256 .bf16) (i : S16x8192.Idx) (y : S1x512.Idx) (h : Fin 16) (b : ℕ)
    (e0 : i 0 = h) (e1 : (i 1).val = 512 * b + (y 1).val) : G5 a0 a1 i = lseOf a0 a1 h b y := by
  idx_bounds y
  unfold G5
  rw [e0, show (i 1).val / 512 = b by omega]
  congr 1
  funext a
  match a with
  | ⟨0, _⟩ => exact Fin.ext (by show 0 = (y 0).val; omega)
  | ⟨1, _⟩ => exact Fin.ext (by show (i 1).val % 512 = (y 1).val; omega)

theorem final_3 (c : Dev nD) (after) (h : ∀ t, after 3 t = k1_pay25 (finAt V c t).2.1 (finAt V c t).2.2) :
    ((rdat V c).withAfter after).arrAt 3 cfg1.N
      = G3 (V c main_v7_0) (V c main_v7_1) := by
  refine ((rdat V c).withAfter after).arrAt_eq_of_covers 3 _ (by decide +kernel) fun t hf y => ?_
  blk_simp
  rw [RDat.withAfter_after, h t, finAt_eq]
  idx_bounds y
  refine (G3_at _ _ _ y _ _ ?_ ?_ ?_).symm
  · apply Fin.ext; blk_simp [index3]
  · blk_simp [index3]
  · blk_simp [index3]; omega

theorem final_4 (c : Dev nD) (after) (h : ∀ t, after 4 t = k1_pay26 (finAt V c t).2.1 (finAt V c t).2.2) :
    ((rdat V c).withAfter after).arrAt 4 cfg1.N
      = G4 (V c main_v7_0) (V c main_v7_1) := by
  refine ((rdat V c).withAfter after).arrAt_eq_of_covers 4 _ (by decide +kernel) fun t hf y => ?_
  blk_simp
  rw [RDat.withAfter_after, h t, finAt_eq]
  idx_bounds y
  refine (G4_at _ _ _ y _ _ ?_ ?_ ?_).symm
  · apply Fin.ext; blk_simp [index4]
  · blk_simp [index4]
  · blk_simp [index4]; omega

theorem fetch1_5 : ∀ t : Fin cfg1.N, (cfg1.win 5).fetch t = false := (by decide +kernel : ∀ t : Fin grid1.N, win1_5.fetch t = false)

/-- After point `t` the resident block holds the log-sum-exp values of every query block of the points up to `t`. -/
theorem leaves_5 (c : Dev nD) : ∀ (n : ℕ) (t : Fin cfg1.N), t.val = n → ∀ X : Vec F S16x8192 .f32, (rdat V c).Leaves 5 t X →
    ∀ y : S16x8192.Idx, 16 * (y 0).val + (y 1).val / 512 ≤ n →
      X y = G5 (V c main_v7_0) (V c main_v7_1) y := by
  intro n
  induction n with
  | zero => ?_
  | succ n ih => ?_
  all_goals
    intro t ht X hX y hy
    obtain ⟨Y, hY, hX⟩ := hX
    obtain rfl := (rafter_5 V c t Y X).mp hX
    idx_bounds y
    have c0 := coord0 t
    have c1 := coord1 t
    have hN : t.val < 256 := t.isLt
    unfold VecWindow.put
    rw [k1_off7_eq]
    split_ifs with hin
    · have h0 := hin 0
      have h1 := hin 1
      dsimp at h0 h1
      rw [lseAt_eq]
      refine (G5_at _ _ y _ _ _ (Fin.ext (by omega)) ?_).symm
      show (y 1).val = 512 * ((grid1.coords t) 1).val + ((y 1).val - 512 * ((grid1.coords t) 1).val)
      omega
    · have hlt : 16 * (y 0).val + (y 1).val / 512 ≠ t.val := fun e => hin fun a => by
        match a with
        | ⟨0, _⟩ => show ((grid1.coords t) 0).val ≤ (y 0).val ∧ (y 0).val < ((grid1.coords t) 0).val + 1; omega
        | ⟨1, _⟩ => show 512 * ((grid1.coords t) 1).val ≤ (y 1).val ∧ (y 1).val < 512 * ((grid1.coords t) 1).val + 512; omega
      first
        | omega
        | rcases ((rdat V c).finds_of_pos (fetch1_5 t) (by omega) Y).mp hY with hf | hl
          · have := (flush1_5 _).mp hf
            dsimp at this; omega
          · exact ih ⟨t.val - 1, by omega⟩ (by dsimp; omega) Y hl y (by omega)

/-- The call's arrays at the end, from what the proof data say of them. -/
theorem final_in (c : Dev nD) (w : Fin cfg1.W) (hw : (cfg1.win w).isOut = false) (f) (h : (rdat V c).ArrAt w cfg1.N f) :
    f = V c (Pipeline.arrRef spec1 w) := by
  rw [(rdat V c).ArrAt_in w hw] at h
  exact h.trans (rA_eq V c w)

theorem final_3R (c : Dev nD) (f) (h : (rdat V c).ArrAt 3 cfg1.N f) : f = G3 (V c main_v7_0) (V c main_v7_1) := by
  obtain ⟨X, hX, hA⟩ := h.exists_exact
  have e := hA (Function.update (fun _ _ _ => Classical.arbitrary _) 3 X) fun u _ _ => by rw [Function.update_self]
  refine e.trans (final_3 V c _ fun t => ?_)
  rw [Function.update_self]
  exact leaves_3 V c t _ (hX t t.isLt (flush1_3 t))

theorem final_4R (c : Dev nD) (f) (h : (rdat V c).ArrAt 4 cfg1.N f) : f = G4 (V c main_v7_0) (V c main_v7_1) := by
  obtain ⟨X, hX, hA⟩ := h.exists_exact
  have e := hA (Function.update (fun _ _ _ => Classical.arbitrary _) 4 X) fun u _ _ => by rw [Function.update_self]
  refine e.trans (final_4 V c _ fun t => ?_)
  rw [Function.update_self]
  exact leaves_4 V c t _ (hX t t.isLt (flush1_4 t))

theorem final_5 (c : Dev nD) (f) (h : (rdat V c).ArrAt 5 cfg1.N f) : f = G5 (V c main_v7_0) (V c main_v7_1) := by
  obtain ⟨X, hX, hG⟩ := h.emb_eq_of_wholeAt (t₀ := (⟨255, by decide⟩ : Fin grid1.N)) (by decide +kernel)
  funext j
  have hj := hG j
  idx_bounds j
  refine Eq.trans ?_ ((hj.trans rfl).trans (leaves_5 V c 255 _ rfl X hX j (by omega)))
  rfl

end Cert.KernelIdeal.Hand

end
-- ==== Proof.Run.lean ====
module

public import proofs.«01_k».proof.Proof.QkvRun
public import proofs.«01_k».proof.Proof.OutRun
public import proofs.«01_k».proof.Proof.AttnArr

/-!
# The run of the whole kernel

Between two calls, or two stretches of host operations, the core holds every unscoped buffer at contents named by a fold
from the launch: `W0` … `W5`.  `run` is the run of all the items, with the contents at the end.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its three result arrays at their values, every other buffer as entered. -/
def W3 (c : Dev nD) : Valuation τ sig (Elt F) :=
  Function.update (Function.update (Function.update (W2 m ρ c) main_v8_0 (G3 (V2 m ρ c main_v7_0) (V2 m ρ c main_v7_1)))
    main_v8_1 (G4 (V2 m ρ c main_v7_0) (V2 m ρ c main_v7_1))) main_v8_2 (G5 (V2 m ρ c main_v7_0) (V2 m ρ c main_v7_1))
theorem W3_of (c : Dev nD) (r : Ref sig .tc) (h : r ∉ ([main_v8_0, main_v8_1, main_v8_2] : List (Ref sig .tc))) :
    W3 m ρ c (Proc.devRef .tc r) = W2 m ρ c (Proc.devRef .tc r) := by
  simp only [W3, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1), Function.update_of_ne (StableHlo.devRef_ne_of_ne (List.ne_of_not_mem_cons (List.not_mem_of_not_mem_cons (List.not_mem_of_not_mem_cons h))) : (Proc.devRef .tc r : DevRef τ sig) ≠ Proc.devRef .tc main_v8_2)]
/-- The same read at the TensorCore's references. -/
abbrev V3 : (c : Dev nD) → (b : Ref sig .tc) → Buf (Elt F) ((c : Thread nD τ).loc b) := fun c b => W3 m ρ c b
theorem V3_0 (c : Dev nD) : V3 m ρ c main_v8_0 = G3 (V2 m ρ c main_v7_0) (V2 m ρ c main_v7_1) := by
  simp only [V3, W3]
  rw [Function.update_of_ne (StableHlo.devRef_ne_of_ne (by decide)), Function.update_of_ne (StableHlo.devRef_ne_of_ne (by decide)), Function.update_self]
theorem V3_1 (c : Dev nD) : V3 m ρ c main_v8_1 = G4 (V2 m ρ c main_v7_0) (V2 m ρ c main_v7_1) := by
  simp only [V3, W3]
  rw [Function.update_of_ne (StableHlo.devRef_ne_of_ne (by decide)), Function.update_self]
theorem V3_2 (c : Dev nD) : V3 m ρ c main_v8_2 = G5 (V2 m ρ c main_v7_0) (V2 m ρ c main_v7_1) := by
  simp only [V3, W3]
  rw [Function.update_self]
theorem W3_args (c : Dev nD) : ∀ a ∈ argRefs, W3 m ρ c (Proc.devRef .tc a) = m ((c : Thread nD τ).loc a) :=
  fun a ha => (W3_of m ρ c a ((ListAll.forall_mem_of_all_decide (by decide +kernel) :
    ∀ a ∈ argRefs, a ∉ ([main_v8_0, main_v8_1, main_v8_2] : List (Ref sig .tc))) a ha)).trans (W2_args m ρ c a ha)
/-- What the call leaves in its arrays is what the next stretch finds there. -/
theorem hF1 (c : Dev nD) (w : Fin cfg1.W) (f : Buf (Elt F) ((cfg1.win w).arr.view.loc (c.tc : Thread nD τ)))
    (h : (rdat (V2 m ρ) c).ArrAt w cfg1.N f) : f = V3 m ρ c (Pipeline.arrRef spec1 w) := by
  match w with
  | ⟨0, _⟩ => exact (final_in (V2 m ρ) c 0 rfl _ h).trans (W3_of m ρ c _ (by decide)).symm
  | ⟨1, _⟩ => exact (final_in (V2 m ρ) c 1 rfl _ h).trans (W3_of m ρ c _ (by decide)).symm
  | ⟨2, _⟩ => exact (final_in (V2 m ρ) c 2 rfl _ h).trans (W3_of m ρ c _ (by decide)).symm
  | ⟨3, _⟩ => exact (final_3R (V2 m ρ) c _ h).trans (V3_0 m ρ c).symm
  | ⟨4, _⟩ => exact (final_4R (V2 m ρ) c _ h).trans (V3_1 m ρ c).symm
  | ⟨5, _⟩ => exact (final_5 (V2 m ρ) c _ h).trans (V3_2 m ρ c).symm
theorem hrest1 (c : Dev nD) : ∀ b, b ∉ Finset.univ.image (Pipeline.arrRef spec1) → V3 m ρ c b = V2 m ρ c b := by
  intro b hb
  refine W3_of m ρ c b fun hm => hb ?_
  simp only [List.mem_cons, List.not_mem_nil, or_false] at hm
  rcases hm with rfl | rfl | rfl
  · exact Finset.mem_image.mpr ⟨3, Finset.mem_univ _, rfl⟩
  · exact Finset.mem_image.mpr ⟨4, Finset.mem_univ _, rfl⟩
  · exact Finset.mem_image.mpr ⟨5, Finset.mem_univ _, rfl⟩

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dats (V2 m ρ) c
  | ⟨2, _⟩ => fun c => dat2 (V4 m ρ) c
/-- The same family with the attention call's resident block related point by point. -/
def rdats : (p : Fin 3) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => rdat (V2 m ρ) c
  | ⟨2, _⟩ => fun c => (dat2 (V4 m ρ) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The arrays at some contents that the proof data allow are the arrays at the contents named. -/
theorem exact_arrays (c : Dev nD) : (rdats m ρ 1 c).arraysAt cfg1.N
    ⊢ ((pdats m ρ 1 c).arrays (fun w => V3 m ρ c (Pipeline.arrRef spec1 w)) : sProp 𝕄) := by
  show (rdat (V2 m ρ) c).arraysAt cfg1.N ⊢ ((dats (V2 m ρ) c).arrays (fun w => V3 m ρ c (Pipeline.arrRef spec1 w)) : sProp 𝕄)
  unfold RDat.arraysAt Dat.arrays
  refine BI.bigSep_mono fun w _ => ?_
  have h1 : iprop(∃ f, ⌜(rdat (V2 m ρ) c).ArrAt w cfg1.N f⌝ ∗ (cfg1.win w).arr.view.loc (c.tc : Thread nD τ) ↦[(cfg1.win w).arr.view.set]{(rdat (V2 m ρ) c).share w} f)
      ⊢ ((cfg1.win w).arr.view.loc (c.tc : Thread nD τ) ↦[(cfg1.win w).arr.view.set]{(dats (V2 m ρ) c).share w} V3 m ρ c (Pipeline.arrRef spec1 w) : sProp 𝕄) := by
    iintro ⟨%f, %hf, H⟩
    rw [hF1 m ρ c w f hf]
    iexact H
  exact h1

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RDat.RegionSeg (pcfgs (F := F)) adm (rdats m ρ) () defs₀ 𝒱₀ L lv 1 where
  win := launch₀1.win
  block_pos := launch₀1.block_pos
  stage_whole := launch₀1.stage_whole
  K := PEmpty
  osem k := k.elim
  ho := Pipeline.OwnSemFacts.none _
  hbody c := body_obligation (V2 m ρ) c
  hwaits := Pipeline.RDat.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((rdats m ρ 1 c).arrays (rdats m ρ 1 c).A ∗ Pipeline.unscopedRest (Ix := Unit) (Name := ℕ) (U := UR sig nD τ) (Lvl := ℕ) spec1 c (V2 m ρ c)) :=
      Pipeline.arrays_of_unscopedBufs_shared (p := 1) (pcfgs (F := F)) adm (pdats m ρ) launch₀1.win launch₀1.sharedIn launch₀1.arr_whole c
      (fun _ _ => rfl) (V2 m ρ c) (A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((rdats m ρ 1 c).arraysAt cfg1.N ∗ Pipeline.unscopedRest (Ix := Unit) (Name := ℕ) (U := UR sig nD τ) (Lvl := ℕ) spec1 c (V2 m ρ c))
        ⊢ (unscopedBufs c (V3 m ρ c) : sProp 𝕄) := by
      refine (sep_mono (exact_arrays m ρ c) .rfl).trans ?_
      exact Pipeline.unscopedBufs_of_arrays_shared (p := 1) (pcfgs (F := F)) adm (Ix := Unit) (Name := ℕ) (U := UR sig nD τ) (Lvl := ℕ)
        launch₀1.win launch₀1.sharedIn launch₀1.arr_whole c (pdats m ρ) (fun _ _ => rfl)
        (V2 m ρ c) (V3 m ρ c) (fun w => V3 m ρ c (Pipeline.arrRef spec1 w)) (fun _ => rfl) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- A region of exact proof data as one of the family's. -/
def rreg0 : Pipeline.RDat.RegionSeg (pcfgs (F := F)) adm (rdats m ρ) () defs₀ 𝒱₀ L lv 0 :=
  let R := (reg0 m ρ).toR (pcfgs (F := F)) adm (pdats m ρ) () defs₀ 𝒱₀ L lv
  { win := R.win, block_pos := R.block_pos, stage_whole := R.stage_whole, K := R.K, fK := R.fK, osem := R.osem, ho := R.ho
    hbody := R.hbody, hwaits := Pipeline.RDat.hwaits_of_owed_zero _ _ _ _ L lv 0 fun _ _ => rfl
    pre := R.pre, post := R.post, X := R.X, Y := R.Y, Z := R.Z, hentry := R.hentry, hin := R.hin, hout := R.hout, hexit := R.hexit }
def rreg2 : Pipeline.RDat.RegionSeg (pcfgs (F := F)) adm (rdats m ρ) () defs₀ 𝒱₀ L lv 2 :=
  let R := (reg2 m ρ).toR (pcfgs (F := F)) adm (pdats m ρ) () defs₀ 𝒱₀ L lv
  { win := R.win, block_pos := R.block_pos, stage_whole := R.stage_whole, K := R.K, fK := R.fK, osem := R.osem, ho := R.ho
    hbody := R.hbody, hwaits := Pipeline.RDat.hwaits_of_owed_zero _ _ _ _ L lv 2 fun _ _ => rfl
    pre := R.pre, post := R.post, X := R.X, Y := R.Y, Z := R.Z, hentry := R.hentry, hin := R.hin, hout := R.hout, hexit := R.hexit }

/-! ## @main as segments, and the launch -/

/-- @main's 5 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .region (rreg0 m ρ),
    .region (reg1 m ρ),
    .host (hseg hostOps2 hostOps2_sub hostOps2_fresh (W3 m ρ)),
    .region (rreg2 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole kernel: every execution ends, every unscoped buffer at the last boundary's contents, and every
    semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.KernelIdeal.Hand

end
-- ==== Proof.Orig.lean ====
module

public import proofs.«01_k».proof.Defs
public import proofs.«01_k».proof.Proof.Gen.Kernel
public import proofs.«01_k».proof.Proof.Run

/-!
# The frame of the kernel as printed

The idealized program differs from the printed one in its named constants alone.  Read with every named constant
standing for its literal, it is the printed program, so its run is the printed program's run.
-/

@[expose] public section

noncomputable section

namespace Cert.KernelIdeal.Hand

open Idealize.ShloMosaic Idealize.ShloMosaic.TcCoe Idealize.SL.Sem

/-- The three calls run to the end, keep the arguments, and leave every semaphore at zero. -/
theorem run_kept {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W5_main_arg0 m ρ c), (h.1 c _ (mem_uc main_arg1 (by decide))).trans (W5_main_arg1 m ρ c),
      (h.1 c _ (mem_uc main_arg2 (by decide))).trans (W5_main_arg2 m ρ c), (h.1 c _ (mem_uc main_arg3 (by decide))).trans (W5_main_arg3 m ρ c),
      (h.1 c _ (mem_uc main_arg4 (by decide))).trans (W5_main_arg4 m ρ c), (h.1 c _ (mem_uc main_arg5 (by decide))).trans (W5_main_arg5 m ρ c),
      (h.1 c _ (mem_uc main_arg6 (by decide))).trans (W5_main_arg6 m ρ c)⟩, h.2⟩) (run m ρ)

end Cert.KernelIdeal.Hand

namespace Cert.Proof

open Idealize.ShloMosaic Idealize.ShloMosaic.TcCoe

/-- Every named constant read as its literal. -/
abbrev literals : Named Bits where
  named _ _ φ b := FloatOps.ofBits φ b

attribute [local instance] literals

set_option maxHeartbeats 4000000 in
/-- The two tables of kernel bodies are the same. -/
theorem orig_defs₀ : @Cert.Kernel.defs₀ Bits _ _ = @Cert.KernelIdeal.defs₀ Bits _ _ _ := by
  unfold Cert.Kernel.defs₀ Cert.KernelIdeal.defs₀
  refine congrArg Defs.onTc ?_
  funext l a
  match l, a with
  | 0, (t, s) => rfl
  | 1, (t, s) => rfl
  | 2, (t, s) => rfl
  | ⟨_ + 3, h⟩, _ => exact absurd h (Nat.not_lt.2 (Nat.le_add_left _ _))

/-- The two tables of all bodies are the same. -/
theorem orig_defs : @Cert.Kernel.defs Bits _ _ = @Cert.KernelIdeal.defs Bits _ _ _ := congrArg (Pipeline.defs _) orig_defs₀

/-- The printed kernel runs to the end, keeps its arguments, and leaves every semaphore at zero. -/
theorem orig_frame : Cert.quiescent_Kernel := fun m ρ _ =>
  Eq.mpr (congrArg (fun D => θ_run D (onTc (τ := Cert.KernelIdeal.τ) (Cert.KernelIdeal.main (F := Bits))) ⟨m, fun _ => 0, ρ⟩ _) orig_defs)
    (Cert.KernelIdeal.Hand.run_kept (F := Bits) m ρ)

end Cert.Proof

end
-- ==== Proof.QkvBody.lean ====
module

public import proofs.«01_k».proof.Proof.QkvRun
public import Idealize.ShloMosaic.Lib.Pipeline.ValueKit
public import Idealize.ShloMosaic.Lib.Pointwise

/-!
# The projection with the rotary embedding: what the body stores for one block of 512 tokens

The body multiplies the codes with the weights of four heads at a time and stores head by head: 48 stores of the
rotated queries, rotated keys and values, and 16 stores of the padded transposed keys. `stored_eq` and `keys_eq` say
that together they hold one function of (part, head, channel, token).
-/

@[expose] public section

set_option maxRecDepth 16384

noncomputable section

namespace Cert.KernelIdeal.Qkv

open Idealize.ShloMosaic Idealize.ShloMosaic.TcCoe Idealize.ShloMosaic.Tactic
open Cert.KernelIdeal Cert.KernelIdeal.Gen Cert.KernelIdeal.Hand

/-- The scale of the projection, a single-precision literal. -/
def cS : EReal := Ideal.ofBits .f32 0x3CA1E89B#32

/-- One channel of the projection: the product of a row of weights with a row of codes, scaled. -/
def prj (w c : Fin 2560 → EReal) : EReal := (∑ k, w k * c k) * cS

/-- The rotary embedding of one head at one token: the two halves of the channels turned by the token's angles. -/
def rot (v : Fin 160 → EReal) (c s : Fin 80 → EReal) (e : Fin 160) : EReal :=
  if he : e.val < 80 then v e * c ⟨e.val, he⟩ - v ⟨e.val + 80, by omega⟩ * s ⟨e.val, he⟩
  else v e * c ⟨e.val - 80, by omega⟩ + v ⟨e.val - 80, by omega⟩ * s ⟨e.val - 80, by omega⟩

/-- Queries and keys (parts 0 and 1) are rotated, values (part 2) are not. -/
def chan (pt : Fin 3) (v : Fin 160 → EReal) (c s : Fin 80 → EReal) (e : Fin 160) : EReal := if pt.val < 2 then rot v c s e else v e

section Pieces

variable (w : Vec Ideal S1x4x160x2560 .fp8e4m3) (c : FVec Ideal S512x2560 .fp8e4m3) (cos sin : FVec Ideal S80x512 .f32)

/-- The product of four heads' weights with the codes. -/
def acc : FVec Ideal S640x512 .f32 :=
  matmul dot_S640x2560_S512x2560_S640x512_1_1_0_0_n_n none
    (shapeCast S640x2560 (shapeCast S4x160x2560 w shapeCasts_S1x4x160x2560_S4x160x2560 : FVec Ideal S4x160x2560 .fp8e4m3)
      shapeCasts_S4x160x2560_S640x2560 : FVec Ideal S640x2560 .fp8e4m3) c (constant S640x512 .f32 0x00000000#32)

/-- Row `r` of the product is channel `r % 160` of head `r / 160` of the four. -/
theorem acc_at (r : Fin 640) (p : Fin 512) :
    acc w c (ix2 r p) = ∑ k : Fin 2560, w (ix4 0 ⟨r.val / 160, by omega⟩ ⟨r.val % 160, Nat.mod_lt _ (by omega)⟩ k) * c (ix2 p k) := by
  unfold acc
  pointwise

/-- The rows of one of the four heads, scaled. -/
def head (i : Fin 4) (a : FVec Ideal S640x512 .f32) : FVec Ideal S160x512 .f32 :=
  mulf (match i with
    | ⟨0, _⟩ => extractStridedSlice S160x512 ![0, 0] a slices_S640x512_o0_0_S160x512
    | ⟨1, _⟩ => extractStridedSlice S160x512 ![160, 0] a slices_S640x512_o160_0_S160x512
    | ⟨2, _⟩ => extractStridedSlice S160x512 ![320, 0] a slices_S640x512_o320_0_S160x512
    | ⟨3, _⟩ => extractStridedSlice S160x512 ![480, 0] a slices_S640x512_o480_0_S160x512) (broadcast S160x512 (Scalar.ofBits .f32 0x3CA1E89B#32))

/-- A head's rows are the scaled products of that head's weights with the codes. -/
theorem head_at (i : Fin 4) (e : Fin 160) (p : Fin 512) :
    head i (acc w c) (ix2 e p) = prj (fun k => w (ix4 0 i e k)) (fun k => c (ix2 p k)) := by
  have key : ∀ (r : Fin 640), r.val = 160 * i.val + e.val → acc w c (ix2 r p) = ∑ k : Fin 2560, w (ix4 0 i e k) * c (ix2 p k) := by
    intro r hr
    rw [acc_at]
    refine Finset.sum_congr rfl fun k _ => ?_
    rw [show (⟨r.val / 160, by omega⟩ : Fin 4) = i from Fin.ext (by show r.val / 160 = i.val; omega),
      show (⟨r.val % 160, Nat.mod_lt _ (by omega)⟩ : Fin 160) = e from Fin.ext (by show r.val % 160 = e.val; omega)]
  unfold prj cS
  match i, key with
  | ⟨0, _⟩, key => unfold head; pointwise; rw [key _ (by first | rfl | (dsimp; omega))]; rfl
  | ⟨1, _⟩, key => unfold head; pointwise; rw [key _ (by first | rfl | (dsimp; omega))]; rfl
  | ⟨2, _⟩, key => unfold head; pointwise; rw [key _ (by first | rfl | (dsimp; omega))]; rfl
  | ⟨3, _⟩, key => unfold head; pointwise; rw [key _ (by first | rfl | (dsimp; omega))]; rfl

/-- The rotary embedding of one head's rows. -/
def turn (v : FVec Ideal S160x512 .f32) : FVec Ideal S160x512 .f32 :=
  concatenate S160x512 0
    [⟨S80x512, subf (mulf (extractStridedSlice S80x512 ![0, 0] v slices_S160x512_o0_0_S80x512) cos) (mulf (extractStridedSlice S80x512 ![80, 0] v slices_S160x512_o80_0_S80x512) sin)⟩,
      ⟨S80x512, addf (mulf (extractStridedSlice S80x512 ![80, 0] v slices_S160x512_o80_0_S80x512) cos) (mulf (extractStridedSlice S80x512 ![0, 0] v slices_S160x512_o0_0_S80x512) sin)⟩]
    concatenates_S80x512_S80x512_S160x512_d0

/-- The turned rows are the rotary embedding, channel by channel. -/
theorem turn_at (v : FVec Ideal S160x512 .f32) (e : Fin 160) (p : Fin 512) :
    turn cos sin v (ix2 e p) = rot (fun e => v (ix2 e p)) (fun e => cos (ix2 e p)) (fun e => sin (ix2 e p)) e := by
  unfold turn rot
  pointwise
  refine dite_congr rfl (fun h => ?_) (fun h => ?_)
  · have e1 : (⟨80 + e.val, by omega⟩ : Fin 160) = ⟨e.val + 80, by omega⟩ := Fin.ext (Nat.add_comm _ _)
    rw [← e1]
  · have e1 : (⟨80 + (e.val - 80), by omega⟩ : Fin 160) = e := Fin.ext (by dsimp; omega)
    rw [e1]

/-- What is stored for one head in the array of queries, keys and values. -/
def put4 (v : FVec Ideal S160x512 .f32) : FVec Ideal S1x1x160x512 .bf16 :=
  shapeCast S1x1x160x512 (truncf .bf16 v bitsLt_bf16_f32) shapeCasts_S160x512_S1x1x160x512

/-- A store reads back the head's channel. -/
theorem put4_at (v : FVec Ideal S160x512 .f32) (e : Fin 160) (p : Fin 512) : put4 v (ix4 0 0 e p) = v (ix2 e p) := by
  unfold put4; pointwise

/-- What is stored for one head in the array of padded keys. -/
def put5 (v : FVec Ideal S160x512 .f32) : FVec Ideal S1x512x256 .bf16 :=
  shapeCast S1x512x256 (transpose S512x256 [1, 0] (concatenate S256x512 0
    [⟨S160x512, truncf .bf16 v bitsLt_bf16_f32⟩, ⟨S96x512, broadcast S96x512 (Scalar.ofBits .bf16 0x0000#16)⟩]
    concatenates_S160x512_S96x512_S256x512_d0) transposes_S256x512_p1_0_S512x256) shapeCasts_S512x256_S1x512x256

/-- A store of keys reads back the head's channel, and zero beyond its 160 channels. -/
theorem put5_at (v : FVec Ideal S160x512 .f32) (p : Fin 512) (e : Fin 256) :
    put5 v (ix3 0 p e) = if he : e.val < 160 then v (ix2 ⟨e.val, he⟩ p) else 0 := by
  unfold put5
  pointwise

end Pieces

section Block

variable (x0 : Vec Ideal S512x2560 .bf16) (x1 : Vec Ideal S3x16x160x2560 .fp8e4m3) (x2 x3 : Vec Ideal S80x512 .f32)

/-- The codes, the cosines and the sines of the block, as the body loads them. -/
abbrev cod : FVec Ideal S512x2560 .fp8e4m3 := k0_pay3 (F := Ideal) (View.ld x0 r0_0)
abbrev cosB : FVec Ideal S80x512 .f32 := k0_pay4 (F := Ideal) (View.ld x2 r0_1)
abbrev sinB : FVec Ideal S80x512 .f32 := k0_pay5 (F := Ideal) (View.ld x3 r0_1)

/-- Part `pt`, head `h`, channel `e` of token `p` of the block. -/
def B (pt : Fin 3) (h : Fin 16) (e : Fin 160) (p : Fin 512) : EReal :=
  chan pt (fun e => prj (fun k => x1 (ix4 pt h e k)) (fun k => cod x0 (ix2 p k))) (fun e => x2 (ix2 e p)) (fun e => x3 (ix2 e p)) e

/-- The body reads the tables of angles as they are. -/
theorem cos_at (e : Fin 80) (p : Fin 512) : cosB x2 (ix2 e p) = x2 (ix2 e p) := by
  unfold cosB k0_pay4; pointwise; try rfl
theorem sin_at (e : Fin 80) (p : Fin 512) : sinB x3 (ix2 e p) = x3 (ix2 e p) := by
  unfold sinB k0_pay5; pointwise; try rfl

variable (w : Vec Ideal S1x4x160x2560 .fp8e4m3)

/-- A turned head is `B` of that part and head, given that the loaded weights are that part's and head's. -/
theorem turned (pt : Fin 3) (h : Fin 16) (i : Fin 4) (hw : ∀ e k, w (ix4 0 i e k) = x1 (ix4 pt h e k)) (hpt : pt.val < 2) (e : Fin 160) (p : Fin 512) :
    turn (cosB x2) (sinB x3) (head i (acc w (cod x0))) (ix2 e p) = B x0 x1 x2 x3 pt h e p := by
  rw [turn_at]
  unfold B chan
  rw [if_pos hpt]
  simp only [head_at, hw, cos_at, sin_at]

/-- The same for the values. -/
theorem straight (pt : Fin 3) (h : Fin 16) (i : Fin 4) (hw : ∀ e k, w (ix4 0 i e k) = x1 (ix4 pt h e k)) (hpt : ¬ pt.val < 2) (e : Fin 160) (p : Fin 512) :
    head i (acc w (cod x0)) (ix2 e p) = B x0 x1 x2 x3 pt h e p := by
  unfold B chan
  rw [if_neg hpt]
  simp only [head_at, hw]

/-- A store at part `pt` and head `h` agrees with `B` everywhere on its tile. -/
theorem tile4 (v : FVec Ideal S160x512 .f32) (pt : Fin 3) (h : Fin 16) (hv : ∀ e p, v (ix2 e p) = B x0 x1 x2 x3 pt h e p)
    (x : S1x1x160x512.Idx) (y : S3x16x160x512.Idx) (h0 : y 0 = pt) (h1 : y 1 = h) (h2 : (y 2).val = (x 2).val) (h3 : (y 3).val = (x 3).val) :
    put4 v x = B x0 x1 x2 x3 (y 0) (y 1) (y 2) (y 3) := by
  rw [h0, h1, show y 2 = x 2 from Fin.ext h2, show y 3 = x 3 from Fin.ext h3]
  have ex : x = ix4 (n0 := 1) (n1 := 1) (n2 := 160) (n3 := 512) 0 0 (x 2) (x 3) := by
    have a0 : (x 0).val < 1 := (x 0).isLt
    have a1 : (x 1).val < 1 := (x 1).isLt
    funext k
    match k with
    | ⟨0, _⟩ => exact Fin.ext (by show (x 0).val = 0; omega)
    | ⟨1, _⟩ => exact Fin.ext (by show (x 1).val = 0; omega)
    | ⟨2, _⟩ => rfl
    | ⟨3, _⟩ => rfl
  rw [ex]
  exact (put4_at v (x 2) (x 3)).trans (hv (x 2) (x 3))

/-- The padded key row of head `h` at token `p`. -/
def K (h : Fin 16) (p : Fin 512) (e : Fin 256) : EReal := if he : e.val < 160 then B x0 x1 x2 x3 1 h ⟨e.val, he⟩ p else 0

/-- A store of keys at head `h` agrees with `K` everywhere on its tile. -/
theorem tile5 (v : FVec Ideal S160x512 .f32) (h : Fin 16) (hv : ∀ e p, v (ix2 e p) = B x0 x1 x2 x3 1 h e p)
    (x : S1x512x256.Idx) (y : S16x512x256.Idx) (h0 : y 0 = h) (h1 : (y 1).val = (x 1).val) (h2 : (y 2).val = (x 2).val) :
    put5 v x = K x0 x1 x2 x3 (y 0) (y 1) (y 2) := by
  rw [h0, show y 1 = x 1 from Fin.ext h1, show y 2 = x 2 from Fin.ext h2]
  have ex : x = ix3 (n0 := 1) (n1 := 512) (n2 := 256) 0 (x 1) (x 2) := by
    have a0 : (x 0).val < 1 := (x 0).isLt
    funext k
    match k with
    | ⟨0, _⟩ => exact Fin.ext (by show (x 0).val = 0; omega)
    | ⟨1, _⟩ => rfl
    | ⟨2, _⟩ => rfl
  rw [ex]
  refine (put5_at v (x 1) (x 2)).trans ?_
  exact dite_congr rfl (fun he => hv _ _) (fun _ => rfl)

/-! The twelve loads of weights: part `pt`, heads `g` to `g + 3`. -/

theorem w_0_0 (i : Fin 4) (e : Fin 160) (k : Fin 2560) : View.ld x1 r0_2 (ix4 0 i e k) = x1 (ix4 0 ⟨0 + i.val, by omega⟩ e k) := by
  pointwise
theorem w_0_4 (i : Fin 4) (e : Fin 160) (k : Fin 2560) : View.ld x1 r0_21 (ix4 0 i e k) = x1 (ix4 0 ⟨4 + i.val, by omega⟩ e k) := by
  pointwise
theorem w_0_8 (i : Fin 4) (e : Fin 160) (k : Fin 2560) : View.ld x1 r0_40 (ix4 0 i e k) = x1 (ix4 0 ⟨8 + i.val, by omega⟩ e k) := by
  pointwise
theorem w_0_12 (i : Fin 4) (e : Fin 160) (k : Fin 2560) : View.ld x1 r0_59 (ix4 0 i e k) = x1 (ix4 0 ⟨12 + i.val, by omega⟩ e k) := by
  pointwise
theorem w_1_0 (i : Fin 4) (e : Fin 160) (k : Fin 2560) : View.ld x1 r0_7 (ix4 0 i e k) = x1 (ix4 1 ⟨0 + i.val, by omega⟩ e k) := by
  pointwise
theorem w_1_4 (i : Fin 4) (e : Fin 160) (k : Fin 2560) : View.ld x1 r0_26 (ix4 0 i e k) = x1 (ix4 1 ⟨4 + i.val, by omega⟩ e k) := by
  pointwise
theorem w_1_8 (i : Fin 4) (e : Fin 160) (k : Fin 2560) : View.ld x1 r0_45 (ix4 0 i e k) = x1 (ix4 1 ⟨8 + i.val, by omega⟩ e k) := by
  pointwise
theorem w_1_12 (i : Fin 4) (e : Fin 160) (k : Fin 2560) : View.ld x1 r0_64 (ix4 0 i e k) = x1 (ix4 1 ⟨12 + i.val, by omega⟩ e k) := by
  pointwise
theorem w_2_0 (i : Fin 4) (e : Fin 160) (k : Fin 2560) : View.ld x1 r0_16 (ix4 0 i e k) = x1 (ix4 2 ⟨0 + i.val, by omega⟩ e k) := by
  pointwise
theorem w_2_4 (i : Fin 4) (e : Fin 160) (k : Fin 2560) : View.ld x1 r0_35 (ix4 0 i e k) = x1 (ix4 2 ⟨4 + i.val, by omega⟩ e k) := by
  pointwise
theorem w_2_8 (i : Fin 4) (e : Fin 160) (k : Fin 2560) : View.ld x1 r0_54 (ix4 0 i e k) = x1 (ix4 2 ⟨8 + i.val, by omega⟩ e k) := by
  pointwise
theorem w_2_12 (i : Fin 4) (e : Fin 160) (k : Fin 2560) : View.ld x1 r0_73 (ix4 0 i e k) = x1 (ix4 2 ⟨12 + i.val, by omega⟩ e k) := by
  pointwise

/-- A store of one rotated head. -/
theorem piece_turned (pt : Fin 3) (h : Fin 16) (i : Fin 4) (hw : ∀ e k, w (ix4 0 i e k) = x1 (ix4 pt h e k)) (hpt : pt.val < 2)
    (x : S1x1x160x512.Idx) (y : S3x16x160x512.Idx) (h0 : y 0 = pt) (h1 : y 1 = h) (h2 : (y 2).val = (x 2).val) (h3 : (y 3).val = (x 3).val) :
    put4 (turn (cosB x2) (sinB x3) (head i (acc w (cod x0)))) x = B x0 x1 x2 x3 (y 0) (y 1) (y 2) (y 3) :=
  tile4 x0 x1 x2 x3 _ pt h (turned x0 x1 x2 x3 w pt h i hw hpt) x y h0 h1 h2 h3

/-- A store of one head of the values. -/
theorem piece_straight (h : Fin 16) (i : Fin 4) (hw : ∀ e k, w (ix4 0 i e k) = x1 (ix4 2 h e k))
    (x : S1x1x160x512.Idx) (y : S3x16x160x512.Idx) (h0 : y 0 = (2 : Fin 3)) (h1 : y 1 = h) (h2 : (y 2).val = (x 2).val) (h3 : (y 3).val = (x 3).val) :
    put4 (head i (acc w (cod x0))) x = B x0 x1 x2 x3 (y 0) (y 1) (y 2) (y 3) :=
  tile4 x0 x1 x2 x3 _ 2 h (straight x0 x1 x2 x3 w 2 h i hw (by decide)) x y h0 h1 h2 h3

/-- A store of one head of the padded keys. -/
theorem piece_key (h : Fin 16) (i : Fin 4) (hw : ∀ e k, w (ix4 0 i e k) = x1 (ix4 1 h e k))
    (x : S1x512x256.Idx) (y : S16x512x256.Idx) (h0 : y 0 = h) (h1 : (y 1).val = (x 1).val) (h2 : (y 2).val = (x 2).val) :
    put5 (turn (cosB x2) (sinB x3) (head i (acc w (cod x0)))) x = K x0 x1 x2 x3 (y 0) (y 1) (y 2) :=
  tile5 x0 x1 x2 x3 _ h (turned x0 x1 x2 x3 w 1 h i hw (by decide)) x y h0 h1 h2

/-- The 48 stores of queries, keys and values. -/
theorem stored_eq (y : S3x16x160x512.Idx) : out0_4 (F := Ideal) x0 x1 x2 x3 y = B x0 x1 x2 x3 (y 0) (y 1) (y 2) (y 3) := by
  unfold out0_4
  canon_tiles x h
  case piece0 => exact piece_straight x0 x1 x2 x3 (View.ld x1 r0_73) 15 3 (w_2_12 x1 3) x y (Fin.ext (by dsimp; omega)) (Fin.ext (by dsimp; omega)) h2 h3
  case piece1 => exact piece_straight x0 x1 x2 x3 (View.ld x1 r0_73) 14 2 (w_2_12 x1 2) x y (Fin.ext (by dsimp; omega)) (Fin.ext (by dsimp; omega)) h2 h3
  case piece2 => exact piece_straight x0 x1 x2 x3 (View.ld x1 r0_73) 13 1 (w_2_12 x1 1) x y (Fin.ext (by dsimp; omega)) (Fin.ext (by dsimp; omega)) h2 h3
  case piece3 => exact piece_straight x0 x1 x2 x3 (View.ld x1 r0_73) 12 0 (w_2_12 x1 0) x y (Fin.ext (by dsimp; omega)) (Fin.ext (by dsimp; omega)) h2 h3
  case piece4 => exact piece_turned x0 x1 x2 x3 (View.ld x1 r0_64) 1 15 3 (w_1_12 x1 3) (by decide) x y (Fin.ext (by dsimp; omega)) (Fin.ext (by dsimp; omega)) h2 h3
  case piece5 => exact piece_turned x0 x1 x2 x3 (View.ld x1 r0_64) 1 14 2 (w_1_12 x1 2) (by decide) x y (Fin.ext (by dsimp; omega)) (Fin.ext (by dsimp; omega)) h2 h3
  case piece6 => exact piece_turned x0 x1 x2 x3 (View.ld x1 r0_64) 1 13 1 (w_1_12 x1 1) (by decide) x y (Fin.ext (by dsimp; omega)) (Fin.ext (by dsimp; omega)) h2 h3
  case piece7 => exact piece_turned x0 x1 x2 x3 (View.ld x1 r0_64) 1 12 0 (w_1_12 x1 0) (by decide) x y (Fin.ext (by dsimp; omega)) (Fin.ext (by dsimp; omega)) h2 h3
  case piece8 => exact piece_turned x0 x1 x2 x3 (View.ld x1 r0_59) 0 15 3 (w_0_12 x1 3) (by decide) x y (Fin.ext (by dsimp; omega)) (Fin.ext (by dsimp; omega)) h2 h3
  case piece9 => exact piece_turned x0 x1 x2 x3 (View.ld x1 r0_59) 0 14 2 (w_0_12 x1 2) (by decide) x y (Fin.ext (by dsimp; omega)) (Fin.ext (by dsimp; omega)) h2 h3
  case piece10 => exact piece_turned x0 x1 x2 x3 (View.ld x1 r0_59) 0 13 1 (w_0_12 x1 1) (by decide) x y (Fin.ext (by dsimp; omega)) (Fin.ext (by dsimp; omega)) h2 h3
  case piece11 => exact piece_turned x0 x1 x2 x3 (View.ld x1 r0_59) 0 12 0 (w_0_12 x1 0) (by decide) x y (Fin.ext (by dsimp; omega)) (Fin.ext (by dsimp; omega)) h2 h3
  case piece12 => exact piece_straight x0 x1 x2 x3 (View.ld x1 r0_54) 11 3 (w_2_8 x1 3) x y (Fin.ext (by dsimp; omega)) (Fin.ext (by dsimp; omega)) h2 h3
  case piece13 => exact piece_straight x0 x1 x2 x3 (View.ld x1 r0_54) 10 2 (w_2_8 x1 2) x y (Fin.ext (by dsimp; omega)) (Fin.ext (by dsimp; omega)) h2 h3
  case piece14 => exact piece_straight x0 x1 x2 x3 (View.ld x1 r0_54) 9 1 (w_2_8 x1 1) x y (Fin.ext (by dsimp; omega)) (Fin.ext (by dsimp; omega)) h2 h3
  case piece15 => exact piece_straight x0 x1 x2 x3 (View.ld x1 r0_54) 8 0 (w_2_8 x1 0) x y (Fin.ext (by dsimp; omega)) (Fin.ext (by dsimp; omega)) h2 h3
  case piece16 => exact piece_turned x0 x1 x2 x3 (View.ld x1 r0_45) 1 11 3 (w_1_8 x1 3) (by decide) x y (Fin.ext (by dsimp; omega)) (Fin.ext (by dsimp; omega)) h2 h3
  case piece17 => exact piece_turned x0 x1 x2 x3 (View.ld x1 r0_45) 1 10 2 (w_1_8 x1 2) (by decide) x y (Fin.ext (by dsimp; omega)) (Fin.ext (by dsimp; omega)) h2 h3
  case piece18 => exact piece_turned x0 x1 x2 x3 (View.ld x1 r0_45) 1 9 1 (w_1_8 x1 1) (by decide) x y (Fin.ext (by dsimp; omega)) (Fin.ext (by dsimp; omega)) h2 h3
  case piece19 => exact piece_turned x0 x1 x2 x3 (View.ld x1 r0_45) 1 8 0 (w_1_8 x1 0) (by decide) x y (Fin.ext (by dsimp; omega)) (Fin.ext (by dsimp; omega)) h2 h3
  case piece20 => exact piece_turned x0 x1 x2 x3 (View.ld x1 r0_40) 0 11 3 (w_0_8 x1 3) (by decide) x y (Fin.ext (by dsimp; omega)) (Fin.ext (by dsimp; omega)) h2 h3
  case piece21 => exact piece_turned x0 x1 x2 x3 (View.ld x1 r0_40) 0 10 2 (w_0_8 x1 2) (by decide) x y (Fin.ext (by dsimp; omega)) (Fin.ext (by dsimp; omega)) h2 h3
  case piece22 => exact piece_turned x0 x1 x2 x3 (View.ld x1 r0_40) 0 9 1 (w_0_8 x1 1) (by decide) x y (Fin.ext (by dsimp; omega)) (Fin.ext (by dsimp; omega)) h2 h3
  case piece23 => exact piece_turned x0 x1 x2 x3 (View.ld x1 r0_40) 0 8 0 (w_0_8 x1 0) (by decide) x y (Fin.ext (by dsimp; omega)) (Fin.ext (by dsimp; omega)) h2 h3
  case piece24 => exact piece_straight x0 x1 x2 x3 (View.ld x1 r0_35) 7 3 (w_2_4 x1 3) x y (Fin.ext (by dsimp; omega)) (Fin.ext (by dsimp; omega)) h2 h3
  case piece25 => exact piece_straight x0 x1 x2 x3 (View.ld x1 r0_35) 6 2 (w_2_4 x1 2) x y (Fin.ext (by dsimp; omega)) (Fin.ext (by dsimp; omega)) h2 h3
  case piece26 => exact piece_straight x0 x1 x2 x3 (View.ld x1 r0_35) 5 1 (w_2_4 x1 1) x y (Fin.ext (by dsimp; omega)) (Fin.ext (by dsimp; omega)) h2 h3
  case piece27 => exact piece_straight x0 x1 x2 x3 (View.ld x1 r0_35) 4 0 (w_2_4 x1 0) x y (Fin.ext (by dsimp; omega)) (Fin.ext (by dsimp; omega)) h2 h3
  case piece28 => exact piece_turned x0 x1 x2 x3 (View.ld x1 r0_26) 1 7 3 (w_1_4 x1 3) (by decide) x y (Fin.ext (by dsimp; omega)) (Fin.ext (by dsimp; omega)) h2 h3
  case piece29 => exact piece_turned x0 x1 x2 x3 (View.ld x1 r0_26) 1 6 2 (w_1_4 x1 2) (by decide) x y (Fin.ext (by dsimp; omega)) (Fin.ext (by dsimp; omega)) h2 h3
  case piece30 => exact piece_turned x0 x1 x2 x3 (View.ld x1 r0_26) 1 5 1 (w_1_4 x1 1) (by decide) x y (Fin.ext (by dsimp; omega)) (Fin.ext (by dsimp; omega)) h2 h3
  case piece31 => exact piece_turned x0 x1 x2 x3 (View.ld x1 r0_26) 1 4 0 (w_1_4 x1 0) (by decide) x y (Fin.ext (by dsimp; omega)) (Fin.ext (by dsimp; omega)) h2 h3
  case piece32 => exact piece_turned x0 x1 x2 x3 (View.ld x1 r0_21) 0 7 3 (w_0_4 x1 3) (by decide) x y (Fin.ext (by dsimp; omega)) (Fin.ext (by dsimp; omega)) h2 h3
  case piece33 => exact piece_turned x0 x1 x2 x3 (View.ld x1 r0_21) 0 6 2 (w_0_4 x1 2) (by decide) x y (Fin.ext (by dsimp; omega)) (Fin.ext (by dsimp; omega)) h2 h3
  case piece34 => exact piece_turned x0 x1 x2 x3 (View.ld x1 r0_21) 0 5 1 (w_0_4 x1 1) (by decide) x y (Fin.ext (by dsimp; omega)) (Fin.ext (by dsimp; omega)) h2 h3
  case piece35 => exact piece_turned x0 x1 x2 x3 (View.ld x1 r0_21) 0 4 0 (w_0_4 x1 0) (by decide) x y (Fin.ext (by dsimp; omega)) (Fin.ext (by dsimp; omega)) h2 h3
  case piece36 => exact piece_straight x0 x1 x2 x3 (View.ld x1 r0_16) 3 3 (w_2_0 x1 3) x y (Fin.ext (by dsimp; omega)) (Fin.ext (by dsimp; omega)) h2 h3
  case piece37 => exact piece_straight x0 x1 x2 x3 (View.ld x1 r0_16) 2 2 (w_2_0 x1 2) x y (Fin.ext (by dsimp; omega)) (Fin.ext (by dsimp; omega)) h2 h3
  case piece38 => exact piece_straight x0 x1 x2 x3 (View.ld x1 r0_16) 1 1 (w_2_0 x1 1) x y (Fin.ext (by dsimp; omega)) (Fin.ext (by dsimp; omega)) h2 h3
  case piece39 => exact piece_straight x0 x1 x2 x3 (View.ld x1 r0_16) 0 0 (w_2_0 x1 0) x y (Fin.ext (by dsimp; omega)) (Fin.ext (by dsimp; omega)) h2 h3
  case piece40 => exact piece_turned x0 x1 x2 x3 (View.ld x1 r0_7) 1 3 3 (w_1_0 x1 3) (by decide) x y (Fin.ext (by dsimp; omega)) (Fin.ext (by dsimp; omega)) h2 h3
  case piece41 => exact piece_turned x0 x1 x2 x3 (View.ld x1 r0_7) 1 2 2 (w_1_0 x1 2) (by decide) x y (Fin.ext (by dsimp; omega)) (Fin.ext (by dsimp; omega)) h2 h3
  case piece42 => exact piece_turned x0 x1 x2 x3 (View.ld x1 r0_7) 1 1 1 (w_1_0 x1 1) (by decide) x y (Fin.ext (by dsimp; omega)) (Fin.ext (by dsimp; omega)) h2 h3
  case piece43 => exact piece_turned x0 x1 x2 x3 (View.ld x1 r0_7) 1 0 0 (w_1_0 x1 0) (by decide) x y (Fin.ext (by dsimp; omega)) (Fin.ext (by dsimp; omega)) h2 h3
  case piece44 => exact piece_turned x0 x1 x2 x3 (View.ld x1 r0_2) 0 3 3 (w_0_0 x1 3) (by decide) x y (Fin.ext (by dsimp; omega)) (Fin.ext (by dsimp; omega)) h2 h3
  case piece45 => exact piece_turned x0 x1 x2 x3 (View.ld x1 r0_2) 0 2 2 (w_0_0 x1 2) (by decide) x y (Fin.ext (by dsimp; omega)) (Fin.ext (by dsimp; omega)) h2 h3
  case piece46 => exact piece_turned x0 x1 x2 x3 (View.ld x1 r0_2) 0 1 1 (w_0_0 x1 1) (by decide) x y (Fin.ext (by dsimp; omega)) (Fin.ext (by dsimp; omega)) h2 h3
  case piece47 => exact piece_turned x0 x1 x2 x3 (View.ld x1 r0_2) 0 0 0 (w_0_0 x1 0) (by decide) x y (Fin.ext (by dsimp; omega)) (Fin.ext (by dsimp; omega)) h2 h3

/-- The 16 stores of padded keys. -/
theorem keys_eq (y : S16x512x256.Idx) : out0_5 (F := Ideal) x0 x1 x2 x3 y = K x0 x1 x2 x3 (y 0) (y 1) (y 2) := by
  unfold out0_5
  canon_tiles x h
  case piece0 => exact piece_key x0 x1 x2 x3 (View.ld x1 r0_64) 15 3 (w_1_12 x1 3) x y (Fin.ext (by dsimp; omega)) h1 h2
  case piece1 => exact piece_key x0 x1 x2 x3 (View.ld x1 r0_64) 14 2 (w_1_12 x1 2) x y (Fin.ext (by dsimp; omega)) h1 h2
  case piece2 => exact piece_key x0 x1 x2 x3 (View.ld x1 r0_64) 13 1 (w_1_12 x1 1) x y (Fin.ext (by dsimp; omega)) h1 h2
  case piece3 => exact piece_key x0 x1 x2 x3 (View.ld x1 r0_64) 12 0 (w_1_12 x1 0) x y (Fin.ext (by dsimp; omega)) h1 h2
  case piece4 => exact piece_key x0 x1 x2 x3 (View.ld x1 r0_45) 11 3 (w_1_8 x1 3) x y (Fin.ext (by dsimp; omega)) h1 h2
  case piece5 => exact piece_key x0 x1 x2 x3 (View.ld x1 r0_45) 10 2 (w_1_8 x1 2) x y (Fin.ext (by dsimp; omega)) h1 h2
  case piece6 => exact piece_key x0 x1 x2 x3 (View.ld x1 r0_45) 9 1 (w_1_8 x1 1) x y (Fin.ext (by dsimp; omega)) h1 h2
  case piece7 => exact piece_key x0 x1 x2 x3 (View.ld x1 r0_45) 8 0 (w_1_8 x1 0) x y (Fin.ext (by dsimp; omega)) h1 h2
  case piece8 => exact piece_key x0 x1 x2 x3 (View.ld x1 r0_26) 7 3 (w_1_4 x1 3) x y (Fin.ext (by dsimp; omega)) h1 h2
  case piece9 => exact piece_key x0 x1 x2 x3 (View.ld x1 r0_26) 6 2 (w_1_4 x1 2) x y (Fin.ext (by dsimp; omega)) h1 h2
  case piece10 => exact piece_key x0 x1 x2 x3 (View.ld x1 r0_26) 5 1 (w_1_4 x1 1) x y (Fin.ext (by dsimp; omega)) h1 h2
  case piece11 => exact piece_key x0 x1 x2 x3 (View.ld x1 r0_26) 4 0 (w_1_4 x1 0) x y (Fin.ext (by dsimp; omega)) h1 h2
  case piece12 => exact piece_key x0 x1 x2 x3 (View.ld x1 r0_7) 3 3 (w_1_0 x1 3) x y (Fin.ext (by dsimp; omega)) h1 h2
  case piece13 => exact piece_key x0 x1 x2 x3 (View.ld x1 r0_7) 2 2 (w_1_0 x1 2) x y (Fin.ext (by dsimp; omega)) h1 h2
  case piece14 => exact piece_key x0 x1 x2 x3 (View.ld x1 r0_7) 1 1 (w_1_0 x1 1) x y (Fin.ext (by dsimp; omega)) h1 h2
  case piece15 => exact piece_key x0 x1 x2 x3 (View.ld x1 r0_7) 0 0 (w_1_0 x1 0) x y (Fin.ext (by dsimp; omega)) h1 h2

end Block

end Cert.KernelIdeal.Qkv

end
-- ==== Proof.QkvValue.lean ====
module

public import proofs.«01_k».proof.Proof.QkvBody

/-!
# The projection: the arrays that the blocks make up

`GQ`, `GK` and `GC` are the three result arrays as functions of the arrays that the call finds: the rotated queries, keys
and values, the padded transposed keys, and the codes. The kernel's sixteen blocks make them up, and the reference
computes them.
-/

@[expose] public section

set_option maxRecDepth 16384

noncomputable section

namespace Cert.KernelIdeal.Qkv

open Idealize.ShloMosaic Idealize.ShloMosaic.TcCoe Idealize.ShloMosaic.Tactic
open Cert.KernelIdeal Cert.KernelIdeal.Gen Cert.KernelIdeal.Hand

/-- One value clipped to the range of the codes. -/
def clip (v : EReal) : EReal := min (Ideal.ofBits .f32 0x43E00000#32) (max (Ideal.ofBits .f32 0xC3E00000#32) v)

/-- Rotated queries, rotated keys and values, by (part, head, channel, token). -/
def GQ (X : Vec Ideal S8192x2560 .bf16) (W : Vec Ideal S3x16x160x2560 .fp8e4m3) (C S : Vec Ideal S80x8192 .f32) : Vec Ideal S3x16x160x8192 .bf16 :=
  fun i => chan (i 0) (fun e => prj (fun k => W (ix4 (n0 := 3) (n1 := 16) (n2 := 160) (n3 := 2560) (i 0) (i 1) e k)) (fun k => clip (X (ix2 (n0 := 8192) (n1 := 2560) (i 3) k))))
    (fun e => C (ix2 (n0 := 80) (n1 := 8192) e (i 3))) (fun e => S (ix2 (n0 := 80) (n1 := 8192) e (i 3))) (i 2)

/-- Rotated keys, by (head, token, channel), padded with zeros to 256 channels. -/
def GK (X : Vec Ideal S8192x2560 .bf16) (W : Vec Ideal S3x16x160x2560 .fp8e4m3) (C S : Vec Ideal S80x8192 .f32) : Vec Ideal S16x8192x256 .bf16 :=
  fun i => if he : (i 2).val < 160 then GQ X W C S (ix4 (n0 := 3) (n1 := 16) (n2 := 160) (n3 := 8192) 1 (i 0) ⟨(i 2).val, he⟩ (i 1)) else (0 : EReal)

/-- The codes. -/
def GC (X : Vec Ideal S8192x2560 .bf16) : Vec Ideal S8192x2560 .fp8e4m3 := fun i => clip (X i)

/-- The body clips each value. -/
theorem codes_at (x0 : Vec Ideal S512x2560 .bf16) (j : S512x2560.Idx) : k0_pay3 (F := Ideal) x0 j = clip (x0 j) := by
  unfold clip k0_pay3
  pointwise

/-- The codes that the body loads and clips. -/
theorem cod_at (x0 : Vec Ideal S512x2560 .bf16) (j : S512x2560.Idx) : cod x0 j = clip (x0 j) := by
  unfold cod clip k0_pay3
  pointwise

section Blocks

variable (x0 : Vec Ideal S512x2560 .bf16) (x2 x3 : Vec Ideal S80x512 .f32)
  (X : Vec Ideal S8192x2560 .bf16) (W : Vec Ideal S3x16x160x2560 .fp8e4m3) (C S : Vec Ideal S80x8192 .f32)

/-- A channel of a block is the channel of the whole arrays at the token that the block holds there. -/
theorem B_eq (pt : Fin 3) (h : Fin 16) (e : Fin 160) (p : Fin 512) (P : Fin 8192) (hX : ∀ k : Fin 2560, x0 (ix2 p k) = X (ix2 P k))
    (hC : ∀ e : Fin 80, x2 (ix2 e p) = C (ix2 e P)) (hS : ∀ e : Fin 80, x3 (ix2 e p) = S (ix2 e P)) :
    B x0 W x2 x3 pt h e p = GQ X W C S (ix4 pt h e P) := by
  unfold B GQ
  simp only [cod_at, hX, hC, hS]
  rfl

/-- The 48 stores of a block hold `GQ` at the tokens of the block. -/
theorem GQ_at (y : S3x16x160x512.Idx) (i : S3x16x160x8192.Idx) (h0 : (i 0).val = (y 0).val) (h1 : (i 1).val = (y 1).val) (h2 : (i 2).val = (y 2).val)
    (hX : ∀ k : Fin 2560, x0 (ix2 (n0 := 512) (n1 := 2560) (y 3) k) = X (ix2 (n0 := 8192) (n1 := 2560) (i 3) k))
    (hC : ∀ e : Fin 80, x2 (ix2 (n0 := 80) (n1 := 512) e (y 3)) = C (ix2 (n0 := 80) (n1 := 8192) e (i 3)))
    (hS : ∀ e : Fin 80, x3 (ix2 (n0 := 80) (n1 := 512) e (y 3)) = S (ix2 (n0 := 80) (n1 := 8192) e (i 3))) :
    out0_4 (F := Ideal) x0 W x2 x3 y = GQ X W C S i := by
  rw [stored_eq]
  refine (B_eq x0 x2 x3 X W C S _ _ _ _ (i 3) hX hC hS).trans (congrArg _ ?_)
  funext k
  match k with
  | ⟨0, _⟩ => exact Fin.ext h0.symm
  | ⟨1, _⟩ => exact Fin.ext h1.symm
  | ⟨2, _⟩ => exact Fin.ext h2.symm
  | ⟨3, _⟩ => rfl

/-- The 16 stores of keys hold `GK` at the tokens of the block. -/
theorem GK_at (y : S16x512x256.Idx) (i : S16x8192x256.Idx) (h0 : (i 0).val = (y 0).val) (h2 : (i 2).val = (y 2).val)
    (hX : ∀ k : Fin 2560, x0 (ix2 (n0 := 512) (n1 := 2560) (y 1) k) = X (ix2 (n0 := 8192) (n1 := 2560) (i 1) k))
    (hC : ∀ e : Fin 80, x2 (ix2 (n0 := 80) (n1 := 512) e (y 1)) = C (ix2 (n0 := 80) (n1 := 8192) e (i 1)))
    (hS : ∀ e : Fin 80, x3 (ix2 (n0 := 80) (n1 := 512) e (y 1)) = S (ix2 (n0 := 80) (n1 := 8192) e (i 1))) :
    out0_5 (F := Ideal) x0 W x2 x3 y = GK X W C S i := by
  rw [keys_eq]
  have e0 : i 0 = y 0 := Fin.ext h0
  have e2 : i 2 = y 2 := Fin.ext h2
  unfold K GK
  rw [e0, e2]
  exact dite_congr rfl (fun he => B_eq x0 x2 x3 X W C S _ _ _ _ (i 1) hX hC hS) (fun _ => rfl)

/-- The store of codes holds `GC`. -/
theorem GC_at (x1 : Vec Ideal S3x16x160x2560 .fp8e4m3) (y : S512x2560.Idx) (i : S8192x2560.Idx) (hX : x0 y = X i) :
    out0_6 (F := Ideal) x0 x1 x2 x3 y = GC X i := by
  frame_out
  exact (codes_at x0 y).trans (congrArg clip hX)

end Blocks

section Kernel

open Idealize.ShloMosaic.Pipeline (Dat)

variable (V : (c : Dev nD) → (b : Ref sig .tc) → Buf (Elt Ideal) ((c : Thread nD τ).loc b))

/-- The block of each window at each grid point. -/
theorem idx : ∀ t : Fin cfg0.N, win0_0.index t = ![t.val, 0] ∧ win0_1.index t = ![0, 0, 0, 0] ∧ win0_2.index t = ![0, t.val]
    ∧ win0_3.index t = ![0, t.val] ∧ win0_4.index t = ![0, 0, 0, t.val] ∧ win0_5.index t = ![0, t.val, 0] ∧ win0_6.index t = ![t.val, 0] :=
  (by decide +kernel : ∀ t : Fin grid0.N, _)

/-- This window holds its whole array at every grid point. -/
theorem blk1 (c : Dev nD) (t : Fin cfg0.N) : iblk0 V c 1 t = V c main_v1 := by
  blk_ext! [iblk0, idx t]

/-- The array of queries, keys and values after the run, from the arrays that the call finds. -/
theorem entry4 (c : Dev nD) : (dat0 V c).arrAt 4 cfg0.N = GQ (V c main_v0) (V c main_v1) (V c main_v3) (V c main_v5) := by
  refine (dat0 V c).arrAt_eq_of_covers 4 _ (by decide +kernel) fun t _ y => ?_
  blk_simp
  rw [after0_4, blk1]
  refine GQ_at _ _ _ _ _ _ _ _ _ ?_ ?_ ?_ (fun k => ?_) (fun e => ?_) (fun e => ?_)
  · blk_simp [idx t]
  · blk_simp [idx t]
  · blk_simp [idx t]
  · blk_ext! [iblk0, idx t]
  · blk_ext! [iblk0, idx t]
  · blk_ext! [iblk0, idx t]

/-- The array of padded keys after the run. -/
theorem entry5 (c : Dev nD) : (dat0 V c).arrAt 5 cfg0.N = GK (V c main_v0) (V c main_v1) (V c main_v3) (V c main_v5) := by
  refine (dat0 V c).arrAt_eq_of_covers 5 _ (by decide +kernel) fun t _ y => ?_
  blk_simp
  rw [after0_5, blk1]
  refine GK_at _ _ _ _ _ _ _ _ _ ?_ ?_ (fun k => ?_) (fun e => ?_) (fun e => ?_)
  · blk_simp [idx t]
  · blk_simp [idx t]
  · blk_ext! [iblk0, idx t]
  · blk_ext! [iblk0, idx t]
  · blk_ext! [iblk0, idx t]

/-- The array of codes after the run. -/
theorem entry6 (c : Dev nD) : (dat0 V c).arrAt 6 cfg0.N = GC (V c main_v0) := by
  refine (dat0 V c).arrAt_eq_of_covers 6 _ (by decide +kernel) fun t _ y => ?_
  blk_simp
  rw [after0_6]
  refine GC_at _ _ _ _ _ _ _ ?_
  blk_ext! [iblk0, idx t]

end Kernel

end Cert.KernelIdeal.Qkv

end
-- ==== Proof.OutValue.lean ====
module

public import proofs.«01_k».proof.Proof.OutRun
public import Idealize.ShloMosaic.Lib.Pipeline.ValueKit
public import Idealize.ShloMosaic.Lib.Pointwise

/-!
# The output projection: the array that the blocks make up

One grid point computes 512 rows of the result. `G` is the result array as a function of the arrays that the call finds:
the product with the weights, scaled, the layer norm of each row, and the weighted sum with the residual.
-/

@[expose] public section

set_option maxRecDepth 16384

noncomputable section

namespace Cert.KernelIdeal.Out

open Idealize.ShloMosaic Idealize.ShloMosaic.TcCoe Idealize.ShloMosaic.Tactic
open Cert.KernelIdeal Cert.KernelIdeal.Gen Cert.KernelIdeal.Hand

/-- The mean of a row. -/
def mean (z : Fin 2560 → EReal) : EReal := Ideal.div (∑ k, z k) (Ideal.ofBits .f32 0x45200000#32)

/-- The deviation of a row. -/
def dev (z : Fin 2560 → EReal) : EReal :=
  Ideal.sqrt (mean (fun k => (z k - mean z) * (z k - mean z)) + Ideal.ofBits .f32 0x3727C5AC#32)

/-- The layer norm of a row at one column, with the column's gain and offset. -/
def norm (z : Fin 2560 → EReal) (g b : EReal) (j : Fin 2560) : EReal :=
  (z j - mean z) * Ideal.div (Ideal.ofBits .f32 0x3F800000#32) (dev z) * g + b

/-- The sum of the residual and the branch. -/
def mix (x y : EReal) : EReal := Ideal.ofBits .f32 0x3F64F92E#32 * x + Ideal.ofBits .f32 0x3EE4F92E#32 * y

/-- A row of the product with the weights, scaled. -/
def row (a : Fin 2560 → EReal) (w : Vec Ideal S2560x2560 .fp8e4m3) (j : Fin 2560) : EReal :=
  (∑ k : Fin 2560, a k * w (ix2 k j)) * Ideal.ofBits .f32 0x3CA1E89B#32

/-- The result array. -/
def G (A : Vec Ideal S2560x8192 .fp8e4m3) (w : Vec Ideal S2560x2560 .fp8e4m3) (X : Vec Ideal S8192x2560 .bf16)
    (g b : Vec Ideal S1x2560 .f32) : Vec Ideal S8192x2560 .bf16 :=
  fun i => mix (X i) (norm (row (fun k => A (ix2 (n0 := 2560) (n1 := 8192) k (i 0))) w)
    (g (ix2 (n0 := 1) (n1 := 2560) 0 (i 1))) (b (ix2 (n0 := 1) (n1 := 2560) 0 (i 1))) (i 1))

section Rows

variable (a : Vec Ideal S2560x512 .fp8e4m3) (w : Vec Ideal S2560x2560 .fp8e4m3) (x : Vec Ideal S512x2560 .bf16) (g b : Vec Ideal S1x2560 .f32)

/-- The layer norm of the block, at one row and column. -/
theorem branch_at (r : Fin 512) (j : Fin 2560) :
    k2_pay2 (F := Ideal) a w g b (ix2 r j) = norm (row (fun k => a (ix2 k r)) w) (g (ix2 0 j)) (b (ix2 0 j)) j := by
  unfold k2_pay2 norm dev mean row
  pointwise

/-- The stored value at one row and column. -/
theorem stored_at (r : Fin 512) (j : Fin 2560) :
    k2_pay1 (F := Ideal) (k2_pay2 a w g b) (k2_pay3 x) k2_pay4 (ix2 r j)
      = mix (x (ix2 r j)) (norm (row (fun k => a (ix2 k r)) w) (g (ix2 0 j)) (b (ix2 0 j)) j) := by
  rw [← branch_at]
  unfold k2_pay1 k2_pay3 k2_pay4 mix
  pointwise

/-- The block's value is `G` at the row that the block holds there. -/
theorem G_at (A : Vec Ideal S2560x8192 .fp8e4m3) (X : Vec Ideal S8192x2560 .bf16)
    (y : S512x2560.Idx) (i : S8192x2560.Idx) (e1 : (i 1).val = (y 1).val)
    (hA : ∀ k : Fin 2560, a (ix2 (n0 := 2560) (n1 := 512) k (y 0)) = A (ix2 (n0 := 2560) (n1 := 8192) k (i 0))) (hX : x y = X i) :
    k2_pay1 (F := Ideal) (k2_pay2 a w g b) (k2_pay3 x) k2_pay4 y = G A w X g b i := by
  have ey : y = ix2 (n0 := 512) (n1 := 2560) (y 0) (y 1) := by funext k; match k with | ⟨0, _⟩ => rfl | ⟨1, _⟩ => rfl
  have e1' : i 1 = y 1 := Fin.ext e1
  unfold G
  rw [e1', ← hX]
  simp only [← hA]
  have h := stored_at a w x g b (y 0) (y 1)
  rw [← ey] at h
  exact h

end Rows

section Kernel

variable (V : (c : Dev nD) → (b : Ref sig .tc) → Buf (Elt Ideal) ((c : Thread nD τ).loc b))

/-- The block of each window at each grid point. -/
theorem idx : ∀ t : Fin cfg2.N, win2_0.index t = ![0, t.val] ∧ win2_1.index t = ![0, 0] ∧ win2_2.index t = ![t.val, 0]
    ∧ win2_3.index t = ![0, 0] ∧ win2_4.index t = ![0, 0] ∧ win2_5.index t = ![t.val, 0] := (by decide +kernel : ∀ t : Fin grid2.N, _)

/-- This window holds its whole array at every grid point. -/
theorem blk1 (c : Dev nD) (t : Fin cfg2.N) : iblk2 V c 1 t = V c main_v6 := by
  blk_ext! [iblk2, idx t]
/-- This window holds its whole array at every grid point. -/
theorem blk3 (c : Dev nD) (t : Fin cfg2.N) : iblk2 V c 3 t = V c main_v10 := by
  blk_ext! [iblk2, idx t]
/-- This window holds its whole array at every grid point. -/
theorem blk4 (c : Dev nD) (t : Fin cfg2.N) : iblk2 V c 4 t = V c main_v11 := by
  blk_ext! [iblk2, idx t]

/-- The array after the run, from the arrays that the call finds. -/
theorem entry5 (c : Dev nD) : (dat2 V c).arrAt 5 cfg2.N = G (V c main_v9) (V c main_v6) (V c main_v0) (V c main_v10) (V c main_v11) := by
  refine (dat2 V c).arrAt_eq_of_covers 5 _ (by decide +kernel) fun t _ y => ?_
  blk_simp
  rw [after2_5]; frame_out
  rw [blk1, blk3, blk4]
  refine G_at _ _ _ _ _ _ _ _ _ ?_ (fun k => ?_) ?_
  · blk_simp [idx t]
  · blk_ext! [iblk2, idx t]
  · blk_ext! [iblk2, idx t]

end Kernel

end Cert.KernelIdeal.Out

end
-- ==== Proof.KernelValue.lean ====
module

public import proofs.«01_k».proof.Proof.QkvValue
public import proofs.«01_k».proof.Proof.OutValue
public import proofs.«01_k».proof.Proof.Run

/-!
# The six results, from the seven arguments

`RQ`, `RC`, `RO`, `RA`, `RL` and `RY` are the results as functions of the arguments. `W5_y` and the theorems after
it read each result array at the end of the run of the three calls: it is its function.
-/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Cert.KernelIdeal.Qkv (GQ GK GC)

/-- The weights of the projection by (part, head, channel, row). -/
abbrev wT (a1 : Vec Ideal S2560x3x16x160 .fp8e4m3) : Vec Ideal S3x16x160x2560 .fp8e4m3 :=
  transpose S3x16x160x2560 [1, 2, 3, 0] a1 transposes_S2560x3x16x160_S3x16x160x2560_1_2_3_0
/-- A table of angles by (channel, token). -/
abbrev tT (a : Vec Ideal S1x8192x80 .f32) : Vec Ideal S80x8192 .f32 :=
  transpose S80x8192 [1, 0] (shapeCast S8192x80 a shapeCasts_S1x8192x80_S8192x80 : Vec Ideal S8192x80 .f32) transposes_S8192x80_S80x8192_1_0
/-- The tokens as rows. -/
abbrev xR (a0 : Vec Ideal S1x8192x2560 .bf16) : Vec Ideal S8192x2560 .bf16 := shapeCast S8192x2560 a0 shapeCasts_S1x8192x2560_S8192x2560
/-- The weights of the output projection as a matrix. -/
abbrev wO (a2 : Vec Ideal S16x160x2560 .fp8e4m3) : Vec Ideal S2560x2560 .fp8e4m3 := shapeCast S2560x2560 a2 shapeCasts_S16x160x2560_S2560x2560
/-- A gain or an offset as a row. -/
abbrev gR (a : Vec Ideal S2560 .f32) : Vec Ideal S1x2560 .f32 := shapeCast S1x2560 a shapeCasts_S2560_S1x2560
/-- The codes of the attention output by (head and channel, token). -/
abbrev cR (a : Vec Ideal S16x160x8192 .fp8e4m3) : Vec Ideal S2560x8192 .fp8e4m3 := shapeCast S2560x8192 a shapeCasts_S16x160x8192_S2560x8192

section Results

variable (a0 : Vec Ideal S1x8192x2560 .bf16) (a1 : Vec Ideal S2560x3x16x160 .fp8e4m3) (a2 : Vec Ideal S16x160x2560 .fp8e4m3)
  (a3 a4 : Vec Ideal S2560 .f32) (a5 a6 : Vec Ideal S1x8192x80 .f32)

/-- Rotated queries, rotated keys and values. -/
def RQ : Vec Ideal S3x16x160x8192 .bf16 := GQ (xR a0) (wT a1) (tT a5) (tT a6)
/-- Rotated keys, padded with zeros to 256 channels. -/
def RK : Vec Ideal S16x8192x256 .bf16 := GK (xR a0) (wT a1) (tT a5) (tT a6)
/-- Codes of the tokens. -/
def RC : Vec Ideal S8192x2560 .fp8e4m3 := GC (xR a0)
/-- Attention output. -/
def RO : Vec Ideal S16x160x8192 .bf16 := G3 (F := Ideal) (RQ a0 a1 a5 a6) (RK a0 a1 a5 a6)
/-- Codes of the attention output. -/
def RA : Vec Ideal S16x160x8192 .fp8e4m3 := G4 (F := Ideal) (RQ a0 a1 a5 a6) (RK a0 a1 a5 a6)
/-- Logarithms of the normalizers. -/
def RL : Vec Ideal S16x8192 .f32 := G5 (F := Ideal) (RQ a0 a1 a5 a6) (RK a0 a1 a5 a6)
/-- The layer's output. -/
def RY : Vec Ideal S8192x2560 .bf16 := Out.G (cR (RA a0 a1 a5 a6)) (wO a2) (xR a0) (gR a3) (gR a4)

/-- The padded keys at the first 160 channels are the keys. -/
theorem RK_at (h : Fin 16) (r : Fin 8192) (d : Fin 160) :
    RK a0 a1 a5 a6 (ix3 h r ⟨d.val, by omega⟩) = RQ a0 a1 a5 a6 (ix4 1 h d r) := by
  unfold RK RQ GK
  exact dif_pos d.isLt

end Results

variable (m : (ℓ : Loc nD τ sig) → Buf (Elt Ideal) ℓ) (ρ : Dev nD → PrngReg) (c : Dev nD)

/-! ### The arrays that each call finds and leaves -/

theorem V1_v0 : V1 m ρ c main_v0 = xR (m ((c : Thread nD τ).loc main_arg0)) := by
  unfold V1 W1
  entry_read
  rfl
theorem V1_v1 : V1 m ρ c main_v1 = wT (m ((c : Thread nD τ).loc main_arg1)) := by
  unfold V1 W1
  entry_read
  rfl
theorem V1_v3 : V1 m ρ c main_v3 = tT (m ((c : Thread nD τ).loc main_arg5)) := by
  unfold V1 W1
  entry_read
  rfl
theorem V1_v5 : V1 m ρ c main_v5 = tT (m ((c : Thread nD τ).loc main_arg6)) := by
  unfold V1 W1
  entry_read
  rfl
theorem V1_v6 : V1 m ρ c main_v6 = wO (m ((c : Thread nD τ).loc main_arg2)) := by
  unfold V1 W1
  entry_read
  rfl

theorem V2_q : V2 m ρ c main_v7_0 = RQ (m ((c : Thread nD τ).loc main_arg0)) (m ((c : Thread nD τ).loc main_arg1)) (m ((c : Thread nD τ).loc main_arg5)) (m ((c : Thread nD τ).loc main_arg6)) := by
  refine (W2_arr m ρ c 4).trans ((Qkv.entry4 (V1 m ρ) c).trans ?_)
  rw [V1_v0, V1_v1, V1_v3, V1_v5]; rfl
theorem V2_k : V2 m ρ c main_v7_1 = RK (m ((c : Thread nD τ).loc main_arg0)) (m ((c : Thread nD τ).loc main_arg1)) (m ((c : Thread nD τ).loc main_arg5)) (m ((c : Thread nD τ).loc main_arg6)) := by
  refine (W2_arr m ρ c 5).trans ((Qkv.entry5 (V1 m ρ) c).trans ?_)
  rw [V1_v0, V1_v1, V1_v3, V1_v5]; rfl
theorem V2_c : V2 m ρ c main_v7_2 = RC (m ((c : Thread nD τ).loc main_arg0)) := by
  refine (W2_arr m ρ c 6).trans ((Qkv.entry6 (V1 m ρ) c).trans ?_)
  rw [V1_v0]; rfl
theorem V3_o : V3 m ρ c main_v8_0 = RO (m ((c : Thread nD τ).loc main_arg0)) (m ((c : Thread nD τ).loc main_arg1)) (m ((c : Thread nD τ).loc main_arg5)) (m ((c : Thread nD τ).loc main_arg6)) := by
  rw [V3_0, V2_q, V2_k]; rfl
theorem V3_a : V3 m ρ c main_v8_1 = RA (m ((c : Thread nD τ).loc main_arg0)) (m ((c : Thread nD τ).loc main_arg1)) (m ((c : Thread nD τ).loc main_arg5)) (m ((c : Thread nD τ).loc main_arg6)) := by
  rw [V3_1, V2_q, V2_k]; rfl
theorem V3_l : V3 m ρ c main_v8_2 = RL (m ((c : Thread nD τ).loc main_arg0)) (m ((c : Thread nD τ).loc main_arg1)) (m ((c : Thread nD τ).loc main_arg5)) (m ((c : Thread nD τ).loc main_arg6)) := by
  rw [V3_2, V2_q, V2_k]; rfl

/-- The attention call and the reshapes after it keep what the first reshapes wrote. -/
theorem V4_v0 : V4 m ρ c main_v0 = xR (m ((c : Thread nD τ).loc main_arg0)) :=
  (W4_of m ρ c main_v0 (by decide)).trans ((W3_of m ρ c main_v0 (by decide)).trans ((W2_of m ρ c main_v0 (by decide +kernel)).trans (V1_v0 m ρ c)))
theorem V4_v6 : V4 m ρ c main_v6 = wO (m ((c : Thread nD τ).loc main_arg2)) :=
  (W4_of m ρ c main_v6 (by decide)).trans ((W3_of m ρ c main_v6 (by decide)).trans ((W2_of m ρ c main_v6 (by decide +kernel)).trans (V1_v6 m ρ c)))
theorem V4_v9 : V4 m ρ c main_v9 = cR (V3 m ρ c main_v8_1) := by
  unfold V4 W4
  entry_read
  rfl
theorem V4_v10 : V4 m ρ c main_v10 = gR (m ((c : Thread nD τ).loc main_arg3)) := by
  rw [← W3_args m ρ c main_arg3 (by decide)]
  unfold V4 W4
  entry_read
  rfl
theorem V4_v11 : V4 m ρ c main_v11 = gR (m ((c : Thread nD τ).loc main_arg4)) := by
  rw [← W3_args m ρ c main_arg4 (by decide)]
  unfold V4 W4
  entry_read
  rfl

/-! ### The results after the last call -/

theorem W5_y : W5 m ρ c main_v12 = RY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W5_arr m ρ c 5).trans ((Out.entry5 (V4 m ρ) c).trans ?_)
  rw [V4_v9, V4_v6, V4_v0, V4_v10, V4_v11, V3_a]; rfl
theorem W5_o : W5 m ρ c main_v8_0 = RO (m ((c : Thread nD τ).loc main_arg0)) (m ((c : Thread nD τ).loc main_arg1)) (m ((c : Thread nD τ).loc main_arg5)) (m ((c : Thread nD τ).loc main_arg6)) :=
  (W5_of m ρ c main_v8_0 (by decide +kernel)).trans ((W4_of m ρ c main_v8_0 (by decide)).trans (V3_o m ρ c))
theorem W5_a : W5 m ρ c main_v8_1 = RA (m ((c : Thread nD τ).loc main_arg0)) (m ((c : Thread nD τ).loc main_arg1)) (m ((c : Thread nD τ).loc main_arg5)) (m ((c : Thread nD τ).loc main_arg6)) :=
  (W5_of m ρ c main_v8_1 (by decide +kernel)).trans ((W4_of m ρ c main_v8_1 (by decide)).trans (V3_a m ρ c))
theorem W5_l : W5 m ρ c main_v8_2 = RL (m ((c : Thread nD τ).loc main_arg0)) (m ((c : Thread nD τ).loc main_arg1)) (m ((c : Thread nD τ).loc main_arg5)) (m ((c : Thread nD τ).loc main_arg6)) :=
  (W5_of m ρ c main_v8_2 (by decide +kernel)).trans ((W4_of m ρ c main_v8_2 (by decide)).trans (V3_l m ρ c))
theorem W5_q : W5 m ρ c main_v7_0 = RQ (m ((c : Thread nD τ).loc main_arg0)) (m ((c : Thread nD τ).loc main_arg1)) (m ((c : Thread nD τ).loc main_arg5)) (m ((c : Thread nD τ).loc main_arg6)) :=
  (W5_of m ρ c main_v7_0 (by decide +kernel)).trans ((W4_of m ρ c main_v7_0 (by decide)).trans ((W3_of m ρ c main_v7_0 (by decide)).trans (V2_q m ρ c)))
theorem W5_c : W5 m ρ c main_v7_2 = RC (m ((c : Thread nD τ).loc main_arg0)) :=
  (W5_of m ρ c main_v7_2 (by decide +kernel)).trans ((W4_of m ρ c main_v7_2 (by decide)).trans ((W3_of m ρ c main_v7_2 (by decide)).trans (V2_c m ρ c)))

end Cert.KernelIdeal.Hand

end
-- ==== Proof.RefProj.lean ====
module

public import proofs.«01_k».proof.Proof.QkvValue
public import proofs.«01_k».proof.Proof.Gen.ReferenceIdeal.Skeleton

/-!
# The reference's projection

The reference computes the codes and the rotated queries, keys and values that the kernel's first call computes.
-/

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.KernelIdeal.Qkv (GQ GK GC clip prj rot chan cS)

variable (X : Vec Ideal S8192x2560 .bf16) (W : Vec Ideal S2560x7680 .fp8e4m3) (C S : Vec Ideal S80x8192 .f32)

/-- The reference clips each value. -/
theorem codes_at (j : S8192x2560.Idx) : k0_pay3 (F := Ideal) X j = clip (X j) := by
  unfold clip k0_pay3 k0_pay2
  pointwise

/-- The reference's codes. -/
theorem codes_eq : k0_pay3 (F := Ideal) X = GC X := funext fun i => codes_at X i

variable (W4 : Vec Ideal KernelIdeal.S3x16x160x2560 .fp8e4m3)

/-- The reference's arithmetic, at one channel. `W4` is the weights by (part, head, channel, row). -/
theorem body_at (hW : ∀ (pt : Fin 3) (h : Fin 16) (e : Fin 160) (k : Fin 2560),
      W (ix2 k ⟨pt.val * 2560 + h.val * 160 + e.val, by omega⟩) = W4 (ix4 pt h e k))
    (pt : Fin 3) (h : Fin 16) (e : Fin 160) (P : Fin 8192) : k0_pay4 (F := Ideal) X W C S (ix4 pt h e P) = GQ X W4 C S (ix4 pt h e P) := by
  obtain ⟨M, hM⟩ : ∃ M : Fin 7680 → EReal, ∀ n, (∑ x : Fin 2560, k0_pay3 (F := Ideal) X (ix2 P x) * W (ix2 x n)) * Ideal.ofBits .f32 0x3CA1E89B#32 = M n :=
    ⟨_, fun _ => rfl⟩
  have key : ∀ (e' : Fin 160) (n : Fin 7680), n.val = pt.val * 2560 + h.val * 160 + e'.val →
      M n = prj (fun k => W4 (ix4 pt h e' k)) (fun k => clip (X (ix2 P k))) := by
    intro e' n hn
    have en : n = ⟨pt.val * 2560 + h.val * 160 + e'.val, by omega⟩ := Fin.ext hn
    rw [← hM]
    unfold prj cS
    rw [en]
    refine congrArg (· * _) (Finset.sum_congr rfl fun k _ => ?_)
    rw [hW, codes_at, mul_comm]
  have hQ : GQ X W4 C S (ix4 pt h e P) = chan pt (fun e => prj (fun k => W4 (ix4 pt h e k)) (fun k => clip (X (ix2 P k))))
      (fun e => C (ix2 e P)) (fun e => S (ix2 e P)) e := rfl
  rw [hQ]
  unfold chan rot k0_pay4
  pointwise
  simp only [hM]
  by_cases h1 : pt.val < 2
  · refine (dif_pos h1).trans (Eq.trans ?_ (if_pos h1).symm)
    by_cases h2 : e.val < 80
    · refine (dif_pos h2).trans (Eq.trans ?_ (dif_pos h2).symm)
      exact congrArg₂ (· - ·) (congrArg (· * C _) (key e _ rfl)) (congrArg (· * S _) (key ⟨e.val + 80, by omega⟩ _ (by dsimp only; omega)))
    · refine (dif_neg h2).trans (Eq.trans ?_ (dif_neg h2).symm)
      exact congrArg₂ (· + ·) (congrArg (· * C _) (key e _ (by dsimp only; omega))) (congrArg (· * S _) (key ⟨e.val - 80, by omega⟩ _ rfl))
  · refine (dif_neg h1).trans (Eq.trans ?_ (if_neg h1).symm)
    exact key e _ (by dsimp only; omega)

/-- The reference's queries, keys and values. -/
theorem body_eq (hW : ∀ (pt : Fin 3) (h : Fin 16) (e : Fin 160) (k : Fin 2560),
      W (ix2 k ⟨pt.val * 2560 + h.val * 160 + e.val, by omega⟩) = W4 (ix4 pt h e k)) : k0_pay4 (F := Ideal) X W C S = GQ X W4 C S := by
  funext i
  have ei : i = ix4 (n0 := 3) (n1 := 16) (n2 := 160) (n3 := 8192) (i 0) (i 1) (i 2) (i 3) := by
    funext k; match k with | ⟨0, _⟩ => rfl | ⟨1, _⟩ => rfl | ⟨2, _⟩ => rfl | ⟨3, _⟩ => rfl
  rw [ei]
  exact body_at X W C S W4 hW (i 0) (i 1) (i 2) (i 3)

end Cert.ReferenceIdeal.Hand

end
-- ==== Proof.Consts.lean ====
module

public import Idealize.ShloMosaic.PureOps.Ideal

/-!
# The float constants of the programs, as the extended reals that they denote
-/

@[expose] public section

noncomputable section

namespace Cert.Consts

open Idealize.ShloMosaic

theorem ofBits_zero : Ideal.ofBits .f32 0x00000000#32 = 0 := by
  simp [Ideal.ofBits, Ideal.ieee, -EReal.coe_mul]
theorem ofBits_zero_bf16 : Ideal.ofBits .bf16 0x0000#16 = 0 := by
  simp [Ideal.ofBits, Ideal.ieee, -EReal.coe_mul]
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_160 : Ideal.ofBits .f32 0x43200000#32 = ((160 : ℝ) : EReal) := by
  simp [Ideal.ofBits, Ideal.ieee, -EReal.coe_mul]; norm_num
theorem ofBits_neginf : Ideal.ofBits .f32 0xFF800000#32 = ⊥ := by
  simp [Ideal.ofBits, Ideal.ieee, -EReal.coe_mul]

end Cert.Consts

end
-- ==== Proof.Softmax.lean ====
module

public import Idealize.ShloMosaic.PureOps.Ideal
public import Mathlib.Analysis.SpecialFunctions.Pow.Real
public import Mathlib.Data.EReal.Operations

/-!
# A running softmax over the extended reals

For scores `s r` over a finite set of keys: the reference exponent `mx`, the weights `wt`, the sum `den` of squared
weights and the weighted sum `acc`.  `mx_union`, `den_union` and `acc_union` say that extending the set of keys by a
further block, with the old sums rescaled by one weight, gives the sums over the larger set.  No score needs to be
finite.
-/

@[expose] public section

noncomputable section

namespace Cert.Softmax

open Idealize.ShloMosaic

/-- One half. -/
abbrev half : EReal := ((1 / 2 : ℝ) : EReal)

/-- The least even integer above `x`. -/
def up (x : EReal) : EReal := ((2 : ℝ) : EReal) * Ideal.liftRound Int.ceil (half * x)

/-- The weight of score `s` under the reference exponent `m`: two to the power `(s - m) / 2`. -/
def wt (m s : EReal) : EReal := Ideal.exp2 ((s - m) * half)

theorem half_bot : half * ⊥ = ⊥ := EReal.coe_mul_bot_of_pos (by norm_num)
theorem half_top : half * ⊤ = ⊤ := EReal.coe_mul_top_of_pos (by norm_num)
theorem bot_half : (⊥ : EReal) * half = ⊥ := EReal.bot_mul_coe_of_pos (by norm_num)

theorem up_bot : up ⊥ = ⊥ := by
  unfold up; rw [half_bot]; exact EReal.coe_mul_bot_of_pos (by norm_num)
theorem up_top : up ⊤ = ⊤ := by
  unfold up; rw [half_top]; exact EReal.coe_mul_top_of_pos (by norm_num)
theorem up_coe (x : ℝ) : up (x : EReal) = ((2 * (⌈1 / 2 * x⌉ : ℝ) : ℝ) : EReal) := by
  unfold up half; rw [← EReal.coe_mul]; show ((2 : ℝ) : EReal) * (((⌈1 / 2 * x⌉ : ℤ) : ℝ) : EReal) = _; rw [← EReal.coe_mul]

theorem le_up (x : EReal) : x ≤ up x := by
  induction x using EReal.rec with
  | bot => exact bot_le
  | top => rw [up_top]
  | coe x =>
    rw [up_coe, EReal.coe_le_coe_iff]
    have := Int.le_ceil (1 / 2 * x)
    linarith

theorem up_mono : Monotone up := by
  intro x y h
  induction x using EReal.rec with
  | bot => rw [up_bot]; exact bot_le
  | top => rw [top_le_iff.mp h]
  | coe x =>
    induction y using EReal.rec with
    | bot => exact absurd h (by simp)
    | top => rw [up_top]; exact le_top
    | coe y =>
      rw [up_coe, up_coe, EReal.coe_le_coe_iff]
      have h' : x ≤ y := EReal.coe_le_coe_iff.mp h
      have : ⌈1 / 2 * x⌉ ≤ ⌈1 / 2 * y⌉ := Int.ceil_mono (by linarith)
      have : (⌈1 / 2 * x⌉ : ℝ) ≤ ⌈1 / 2 * y⌉ := by exact_mod_cast this
      linarith

theorem wt_bot (m : EReal) : wt m ⊥ = 0 := by
  unfold wt; rw [show (⊥ : EReal) - m = ⊥ from by rw [sub_eq_add_neg, EReal.bot_add], bot_half]; rfl

theorem wt_top (s : EReal) : wt ⊤ s = 0 := by
  unfold wt; rw [show s - ⊤ = ⊥ from by rw [sub_eq_add_neg, EReal.neg_top, EReal.add_bot], bot_half]; rfl

theorem wt_coe (m s : ℝ) : wt (m : EReal) (s : EReal) = ((Real.rpow 2 ((s - m) * (1 / 2)) : ℝ) : EReal) := by
  unfold wt half; rw [← EReal.coe_sub, ← EReal.coe_mul]; rfl

/-- A weight of a score at most the exponent is a real number, at least zero. -/
theorem wt_real {m s : EReal} (h : s ≤ m) : ∃ t : ℝ, 0 ≤ t ∧ wt m s = (t : EReal) := by
  induction s using EReal.rec with
  | bot => exact ⟨0, le_rfl, wt_bot m⟩
  | top => rw [top_le_iff.mp h]; exact ⟨0, le_rfl, wt_top _⟩
  | coe s =>
    induction m using EReal.rec with
    | bot => exact absurd h (by simp)
    | top => exact ⟨0, le_rfl, wt_top _⟩
    | coe m => exact ⟨_, Real.rpow_nonneg (by norm_num) _, wt_coe m s⟩

/-- Rescaling: a weight under a greater exponent is the product of two weights. -/
theorem wt_mul {m m' s : EReal} (h : s ≤ m) (h' : m ≤ m') : wt m' s = wt m s * wt m' m := by
  induction s using EReal.rec with
  | bot => rw [wt_bot, wt_bot, zero_mul]
  | top => obtain rfl := top_le_iff.mp h; obtain rfl := top_le_iff.mp h'; rw [wt_top, zero_mul]
  | coe s =>
    induction m using EReal.rec with
    | bot => exact absurd h (by simp)
    | top => obtain rfl := top_le_iff.mp h'; rw [wt_top, wt_top, zero_mul]
    | coe m =>
      induction m' using EReal.rec with
      | bot => exact absurd h' (by simp)
      | top => rw [wt_top, wt_top, mul_zero]
      | coe m' =>
        rw [wt_coe, wt_coe, wt_coe, ← EReal.coe_mul]
        congr 1
        refine Eq.trans ?_ (Real.rpow_add (by norm_num) _ _)
        show Real.rpow 2 _ = Real.rpow 2 _
        congr 1; ring

/-- Multiplying by a real number that is at least zero distributes over any finite sum. -/
theorem sum_mul_coe {ι : Type} (S : Finset ι) (f : ι → EReal) {t : ℝ} (ht : 0 ≤ t) :
    (∑ r ∈ S, f r) * (t : EReal) = ∑ r ∈ S, f r * (t : EReal) := by
  classical
  induction S using Finset.induction_on with
  | empty => simp
  | insert a S ha ih =>
    rw [Finset.sum_insert ha, Finset.sum_insert ha, ← ih]
    exact EReal.right_distrib_of_nonneg_of_ne_top (EReal.coe_nonneg.mpr ht) (EReal.coe_ne_top t) _ _

variable (S T : Finset ℕ) (s v : ℕ → EReal)

/-- The reference exponent over `S`. -/
def mx : EReal := up (S.sup s)
/-- The sum of squared weights over `S`. -/
def den : EReal := ∑ r ∈ S, wt (mx S s) (s r) * wt (mx S s) (s r)
/-- The weighted sum of `v` over `S`. -/
def acc : EReal := ∑ r ∈ S, v r * wt (mx S s) (s r)

theorem le_mx {r : ℕ} (hr : r ∈ S) : s r ≤ mx S s := (Finset.le_sup hr).trans (le_up _)

theorem mx_empty : mx ∅ s = ⊥ := up_bot
theorem den_empty : den ∅ s = 0 := rfl
theorem acc_empty : acc ∅ s v = 0 := rfl

theorem mx_union : max (mx S s) (up (T.sup s)) = mx (S ∪ T) s := by
  unfold mx; rw [Finset.sup_union]; exact (up_mono.map_sup _ _).symm

theorem mx_le_union : mx S s ≤ mx (S ∪ T) s := by rw [← mx_union]; exact le_max_left _ _

variable {S T}

theorem den_union (h : Disjoint S T) :
    den S s * (wt (mx (S ∪ T) s) (mx S s) * wt (mx (S ∪ T) s) (mx S s))
      + ∑ r ∈ T, wt (mx (S ∪ T) s) (s r) * wt (mx (S ∪ T) s) (s r) = den (S ∪ T) s := by
  obtain ⟨t, ht, e⟩ := wt_real (mx_le_union S T s)
  unfold den
  rw [Finset.sum_union h, e, ← EReal.coe_mul, sum_mul_coe _ _ (mul_nonneg ht ht)]
  congr 1
  refine Finset.sum_congr rfl fun r hr => ?_
  rw [wt_mul (le_mx S s hr) (mx_le_union S T s), e, EReal.coe_mul]
  exact mul_mul_mul_comm _ _ _ _

theorem acc_union (h : Disjoint S T) :
    acc S s v * wt (mx (S ∪ T) s) (mx S s) + ∑ r ∈ T, v r * wt (mx (S ∪ T) s) (s r) = acc (S ∪ T) s v := by
  obtain ⟨t, ht, e⟩ := wt_real (mx_le_union S T s)
  unfold acc
  rw [Finset.sum_union h, e, sum_mul_coe _ _ ht]
  congr 1
  refine Finset.sum_congr rfl fun r hr => ?_
  rw [wt_mul (le_mx S s hr) (mx_le_union S T s), e, mul_assoc]

/-- Keys whose score is `⊥` do not count. -/
theorem mx_subset (h : S ⊆ T) (h' : ∀ r ∈ T, r ∉ S → s r = ⊥) : mx T s = mx S s := by
  unfold mx
  congr 1
  refine le_antisymm (Finset.sup_le fun r hr => ?_) (Finset.sup_mono h)
  by_cases hs : r ∈ S
  · exact Finset.le_sup hs
  · rw [h' r hr hs]; exact bot_le
theorem den_subset (h : S ⊆ T) (h' : ∀ r ∈ T, r ∉ S → s r = ⊥) : den T s = den S s := by
  unfold den
  rw [mx_subset s h h']
  refine (Finset.sum_subset h fun r hr hs => ?_).symm
  rw [h' r hr hs, wt_bot, zero_mul]
theorem acc_subset (h : S ⊆ T) (h' : ∀ r ∈ T, r ∉ S → s r = ⊥) : acc T s v = acc S s v := by
  unfold acc
  rw [mx_subset s h h']
  refine (Finset.sum_subset h fun r hr hs => ?_).symm
  rw [h' r hr hs, wt_bot, mul_zero]

/-! ## Key blocks -/

/-- The keys `512 b, …, 512 b + 511`. -/
def blk (b : ℕ) : Finset ℕ := (Finset.univ : Finset (Fin 512)).map ⟨fun x => 512 * b + x.val, fun x y h => Fin.ext (by simpa using h)⟩

theorem mem_blk {b r : ℕ} : r ∈ blk b ↔ r / 512 = b := by
  unfold blk
  simp only [Finset.mem_map, Finset.mem_univ, true_and, Function.Embedding.coeFn_mk]
  constructor
  · rintro ⟨x, rfl⟩; have := x.isLt; show (512 * b + x.val) / 512 = b; omega
  · intro h; exact ⟨⟨r % 512, Nat.mod_lt _ (by omega)⟩, by show 512 * b + r % 512 = r; omega⟩

theorem sum_blk (b : ℕ) (f : ℕ → EReal) : ∑ r ∈ blk b, f r = ∑ x : Fin 512, f (512 * b + x.val) := Finset.sum_map ..
theorem sup_blk (b : ℕ) (f : ℕ → EReal) : (blk b).sup f = (Finset.univ : Finset (Fin 512)).sup fun x => f (512 * b + x.val) := Finset.sup_map ..

/-- The keys visited for query block `b` after the diagonal block and `n` further blocks. -/
def seen (b : ℕ) : ℕ → Finset ℕ
  | 0 => ∅ ∪ blk b
  | n + 1 => seen b n ∪ blk n

theorem mem_seen {b n r : ℕ} : r ∈ seen b n ↔ r / 512 = b ∨ r / 512 < n := by
  induction n with
  | zero => simp [seen, mem_blk]
  | succ n ih => rw [seen, Finset.mem_union, ih, mem_blk]; omega

theorem seen_disjoint {b n : ℕ} (h : n < b) : Disjoint (seen b n) (blk n) := by
  rw [Finset.disjoint_left]; intro r; rw [mem_seen, mem_blk]; omega

end Cert.Softmax

end
-- ==== Proof.AttnCarry.lean ====
module

public import proofs.«01_k».proof.Proof.AttnArr
public import proofs.«01_k».proof.Proof.Consts
public import proofs.«01_k».proof.Proof.Softmax

/-!
# The carried triple over the extended reals

`carry_at`: after the diagonal block and `n` further blocks, the triple that the kernel carries is the reference
exponent, the sum of squared weights and the weighted sum of the values over the keys seen so far.  `fin_at` states it
for all keys up to the query's position.
-/

@[expose] public section

set_option maxRecDepth 16384

noncomputable section

namespace Cert.KernelIdeal.Hand

open Cert.KernelIdeal.Gen
open Idealize.ShloMosaic
open Cert.Consts Cert.Softmax

/-- The factor that turns a dot product into a base-two exponent: one over the root of 160 and over the logarithm of 2. -/
def s2c : EReal := (((Real.sqrt 160)⁻¹ * (Real.log 2)⁻¹ : ℝ) : EReal)

theorem s2_scale : Named.named (F := Ideal) κ "s2_scale" (φ := .f32) 0x3DE995B3#32 = s2c :=
  IdealRules.named_const.ideal_named_scalar _ _ _ _ rfl
theorem ln2 : Named.named (F := Ideal) κ "ln2" (φ := .f32) 0x3F317218#32 = ((Real.log 2 : ℝ) : EReal) :=
  IdealRules.named_const.ideal_named_scalar _ _ _ _ rfl

/-- The signed comparison of two small word-encoded numbers, as a choice. -/
theorem select_sle {α : Type} {x y : ℕ} (hx : x < 2 ^ 31) (hy : y < 2 ^ 31) (a b : α) :
    Scalar.select (IntOp.cmpi .sle (BitVec.ofNat 32 x) (BitVec.ofNat 32 y)) a b = if x ≤ y then a else b := by
  have hx' : (BitVec.ofNat 32 x).toInt = x := by
    rw [BitVec.toInt_eq_toNat_of_lt (by rw [BitVec.toNat_ofNat]; omega), BitVec.toNat_ofNat, Nat.mod_eq_of_lt (by omega)]
  have hy' : (BitVec.ofNat 32 y).toInt = y := by
    rw [BitVec.toInt_eq_toNat_of_lt (by rw [BitVec.toNat_ofNat]; omega), BitVec.toNat_ofNat, Nat.mod_eq_of_lt (by omega)]
  unfold Scalar.select IntOp.cmpi
  simp only [BitVec.sle, hx', hy', Nat.cast_le]
  by_cases h : x ≤ y <;> simp [h]

variable (a0 : Vec Ideal S3x16x160x8192 .bf16) (a1 : Vec Ideal S16x8192x256 .bf16)

/-- The scaled score of key `r` for the query at position `p` of head `h`. -/
def score (h : Fin 16) (p : Fin 8192) (r : ℕ) : EReal :=
  (∑ d : Fin 160, a1 (ix3 (n0 := 16) (n1 := 8192) (n2 := 256) h ⟨r % 8192, Nat.mod_lt _ (by omega)⟩ ⟨d.val, by omega⟩)
    * a0 (ix4 (n0 := 3) (n1 := 16) (n2 := 160) (n3 := 8192) 0 h d p)) * s2c

/-- The same with the keys after the query masked out. -/
def masked (h : Fin 16) (p : Fin 8192) (r : ℕ) : EReal := if r ≤ p.val then score a0 a1 h p r else ⊥

/-- Channel `d` of the value of key `r`. -/
def val (h : Fin 16) (d : Fin 160) (r : ℕ) : EReal :=
  a0 (ix4 (n0 := 3) (n1 := 16) (n2 := 160) (n3 := 8192) 2 h d ⟨r % 8192, Nat.mod_lt _ (by omega)⟩)

/-- Position `512 b + j`. -/
def pos (b : Fin 16) (j : Fin 512) : Fin 8192 := ⟨512 * b.val + j.val, by omega⟩

/-! ## One block, read at an index -/

theorem fold_max (f : Fin 512 → EReal) : Finset.fold max (⊥ : EReal) f Finset.univ = Finset.univ.sup f := rfl

section Block

variable (h : Fin 16) (b : Fin 16) (n : ℕ) (hn : n < 16)

/-- An unmasked block of scores. -/
theorem pay12_at (x j : Fin 512) :
    k1_pay12 (F := Ideal) (k1_pay2 (qBlk a0 h b.val)) (kTile (kBlk a1 h) n) (ix2 x j) = score a0 a1 h (pos b j) (512 * n + x.val) := by
  unfold k1_pay12 k1_pay2
  pointwise
  rw [s2_scale]
  simp only [ofBits_zero_bf16, mul_zero, Finset.sum_const_zero, add_zero]
  unfold score kTile kBlk qBlk
  congr 1
  refine Finset.sum_congr rfl fun d _ => ?_
  congr 2
  show ix4 0 h d ⟨(512 * b.val + j.val) % 8192, _⟩ = ix4 0 h d ⟨512 * b.val + j.val, _⟩
  simp only [Nat.mod_eq_of_lt (show 512 * b.val + j.val < 8192 by omega)]

/-- The masked diagonal block of scores. -/
theorem pay5_at (x j : Fin 512) :
    k1_pay5 (F := Ideal) (qBlk a0 h b.val) (kTile (kBlk a1 h) b.val) (ix2 x j) = masked a0 a1 h (pos b j) (512 * b.val + x.val) := by
  have e := pay12_at a0 a1 h b b.val x j
  revert e
  unfold k1_pay12 k1_pay5 masked
  pointwise
  intro e
  rw [select_sle (by omega) (by omega), ofBits_neginf, e]
  by_cases hx : x.val ≤ j.val
  · rw [if_pos hx, if_pos (by show 512 * b.val + x.val ≤ 512 * b.val + j.val; omega)]
  · rw [if_neg hx, if_neg (by show ¬ 512 * b.val + x.val ≤ 512 * b.val + j.val; omega)]

/-- A block of values. -/
theorem vTile_at (hn : n < 16) (d : Fin 160) (x : Fin 512) : vTile (vBlk a0 h) n (ix4 0 0 d x) = val a0 h d (512 * n + x.val) := rfl

end Block

section Pay

variable (q : Vec Ideal S256x512 .bf16) (m d : FVec Ideal S1x512 .f32) (o : FVec Ideal S160x512 .f32)
  (x0 : Vec Ideal S1x1x160x512 .bf16) (kt : Vec Ideal S1x512x256 .bf16) (vt : Vec Ideal S1x1x160x512 .bf16)

theorem pay13_at (j : Fin 512) :
    k1_pay13 (F := Ideal) q m kt (ix2 0 j) = max (m (ix2 0 j)) (up (Finset.univ.sup fun x => k1_pay12 q kt (ix2 x j))) := by
  unfold k1_pay13; pointwise; rw [ofBits_two, ofBits_half, ofBits_neginf]; rfl
theorem pay14_at (j : Fin 512) : k1_pay14 (F := Ideal) q m kt (ix2 0 j) = wt (k1_pay13 q m kt (ix2 0 j)) (m (ix2 0 j)) := by
  unfold k1_pay14; pointwise; rw [ofBits_half]; rfl
theorem pay15_at (x j : Fin 512) : k1_pay15 (F := Ideal) q m kt (ix2 x j) = wt (k1_pay13 q m kt (ix2 0 j)) (k1_pay12 q kt (ix2 x j)) := by
  unfold k1_pay15; pointwise; rw [ofBits_half]; rfl
theorem pay16_at (j : Fin 512) :
    k1_pay16 (F := Ideal) q m d kt (ix2 0 j) = d (ix2 0 j) * (k1_pay14 q m kt (ix2 0 j) * k1_pay14 q m kt (ix2 0 j))
      + ∑ x, k1_pay15 q m kt (ix2 x j) * k1_pay15 q m kt (ix2 x j) := by
  unfold k1_pay16; pointwise
theorem pay17_at (e : Fin 160) (j : Fin 512) :
    k1_pay17 (F := Ideal) q m o kt vt (ix2 e j) = o (ix2 e j) * k1_pay14 q m kt (ix2 0 j) + ∑ x, vt (ix4 0 0 e x) * k1_pay15 q m kt (ix2 x j) := by
  unfold k1_pay17; pointwise

theorem pay6_at (j : Fin 512) :
    k1_pay6 (F := Ideal) x0 kt (ix2 0 j) = max ⊥ (up (Finset.univ.sup fun x => k1_pay5 x0 kt (ix2 x j))) := by
  unfold k1_pay6 k1_pay3; pointwise; rw [ofBits_two, ofBits_half, ofBits_neginf]; rfl
theorem pay7_at (j : Fin 512) : k1_pay7 (F := Ideal) x0 kt (ix2 0 j) = wt (k1_pay6 x0 kt (ix2 0 j)) ⊥ := by
  unfold k1_pay7 k1_pay3; pointwise; rw [ofBits_half, ofBits_neginf]; rfl
theorem pay8_at (x j : Fin 512) : k1_pay8 (F := Ideal) x0 kt (ix2 x j) = wt (k1_pay6 x0 kt (ix2 0 j)) (k1_pay5 x0 kt (ix2 x j)) := by
  unfold k1_pay8; pointwise; rw [ofBits_half]; rfl
theorem pay10_at (j : Fin 512) :
    k1_pay10 (F := Ideal) (k1_pay8 x0 kt) (k1_pay9 x0 kt) (ix2 0 j) = 0 * (k1_pay7 x0 kt (ix2 0 j) * k1_pay7 x0 kt (ix2 0 j))
      + ∑ x, k1_pay8 x0 kt (ix2 x j) * k1_pay8 x0 kt (ix2 x j) := by
  unfold k1_pay10 k1_pay9; pointwise; try rw [ofBits_zero]
theorem pay11_at (e : Fin 160) (j : Fin 512) :
    k1_pay11 (F := Ideal) k1_pay4 (k1_pay7 x0 kt) (k1_pay8 x0 kt) vt (ix2 e j) = 0 * k1_pay7 x0 kt (ix2 0 j)
      + ∑ x, vt (ix4 0 0 e x) * k1_pay8 x0 kt (ix2 x j) := by
  unfold k1_pay11 k1_pay4; pointwise; try rw [ofBits_zero]

end Pay

/-! ## The recursion over the key blocks -/

/-- The triple holds the three quantities over the keys `S`, in every column. -/
def Holds (h : Fin 16) (b : Fin 16) (S : Finset ℕ) (a : Carry Ideal) : Prop :=
  ∀ j : Fin 512, a.1 (ix2 0 j) = mx S (masked a0 a1 h (pos b j)) ∧ a.2.1 (ix2 0 j) = den S (masked a0 a1 h (pos b j))
    ∧ ∀ e : Fin 160, a.2.2 (ix2 e j) = acc S (masked a0 a1 h (pos b j)) (val a0 h e)

theorem first_holds (h b : Fin 16) :
    Holds a0 a1 h b (seen b.val 0) (first (qBlk a0 h b.val) (kTile (kBlk a1 h) b.val) (vTile (vBlk a0 h) b.val)) := by
  intro j
  have hm : k1_pay6 (F := Ideal) (qBlk a0 h b.val) (kTile (kBlk a1 h) b.val) (ix2 0 j) = mx (seen b.val 0) (masked a0 a1 h (pos b j)) := by
    rw [pay6_at, ← mx_empty (masked a0 a1 h (pos b j))]
    simp only [pay5_at]
    rw [← sup_blk b.val (masked a0 a1 h (pos b j)), mx_union]; rfl
  refine ⟨hm, ?_, fun e => ?_⟩
  · refine (pay10_at ..).trans ?_
    simp only [pay7_at, pay8_at, pay5_at, hm]
    rw [← sum_blk b.val (fun r => wt (mx (seen b.val 0) (masked a0 a1 h (pos b j))) (masked a0 a1 h (pos b j) r) * wt (mx (seen b.val 0) (masked a0 a1 h (pos b j))) (masked a0 a1 h (pos b j) r)),
      ← mx_empty (masked a0 a1 h (pos b j)), ← den_empty (masked a0 a1 h (pos b j))]
    exact den_union _ (Finset.disjoint_empty_left _)
  · refine (pay11_at ..).trans ?_
    simp only [pay7_at, pay8_at, pay5_at, hm, vTile_at a0 h b.val b.isLt]
    rw [← sum_blk b.val (fun r => val a0 h e r * wt (mx (seen b.val 0) (masked a0 a1 h (pos b j))) (masked a0 a1 h (pos b j) r)),
      ← mx_empty (masked a0 a1 h (pos b j)), ← acc_empty (masked a0 a1 h (pos b j)) (val a0 h e)]
    exact acc_union _ _ (Finset.disjoint_empty_left _)

theorem step_holds (h b : Fin 16) (n : ℕ) (hn : n < b.val) (a : Carry Ideal) (ha : Holds a0 a1 h b (seen b.val n) a) :
    Holds a0 a1 h b (seen b.val (n + 1)) (step (qBlk a0 h b.val) (kTile (kBlk a1 h) n) (vTile (vBlk a0 h) n) a) := by
  intro j
  obtain ⟨h1, h2, h3⟩ := ha j
  have hs : ∀ x : Fin 512, k1_pay12 (F := Ideal) (k1_pay2 (qBlk a0 h b.val)) (kTile (kBlk a1 h) n) (ix2 x j) = masked a0 a1 h (pos b j) (512 * n + x.val) := fun x => by
    rw [pay12_at]; unfold masked; rw [if_pos (by show 512 * n + x.val ≤ 512 * b.val + j.val; omega)]
  have hm : k1_pay13 (F := Ideal) (k1_pay2 (qBlk a0 h b.val)) a.1 (kTile (kBlk a1 h) n) (ix2 0 j) = mx (seen b.val (n + 1)) (masked a0 a1 h (pos b j)) := by
    rw [pay13_at, h1]
    simp only [hs]
    rw [← sup_blk n (masked a0 a1 h (pos b j)), mx_union]; rfl
  refine ⟨hm, ?_, fun e => ?_⟩
  · refine (pay16_at ..).trans ?_
    simp only [pay14_at, pay15_at, hs, hm, h1, h2]
    rw [← sum_blk n (fun r => wt (mx (seen b.val (n + 1)) (masked a0 a1 h (pos b j))) (masked a0 a1 h (pos b j) r) * wt (mx (seen b.val (n + 1)) (masked a0 a1 h (pos b j))) (masked a0 a1 h (pos b j) r))]
    exact den_union _ (seen_disjoint hn)
  · refine (pay17_at ..).trans ?_
    simp only [pay14_at, pay15_at, hs, hm, h1, h3, vTile_at a0 h n (by omega)]
    rw [← sum_blk n (fun r => val a0 h e r * wt (mx (seen b.val (n + 1)) (masked a0 a1 h (pos b j))) (masked a0 a1 h (pos b j) r))]
    exact acc_union _ _ (seen_disjoint hn)

theorem carry_at (h b : Fin 16) : ∀ n ≤ b.val,
    Holds a0 a1 h b (seen b.val n) (carry (qBlk a0 h b.val) (kBlk a1 h) (vBlk a0 h) b.val n)
  | 0, _ => first_holds a0 a1 h b
  | n + 1, hn => step_holds a0 a1 h b n (by omega) _ (carry_at h b n (by omega))

/-- At the end the triple holds the three quantities over all 8192 keys, those after the query masked out. -/
theorem fin_at (h b : Fin 16) : Holds a0 a1 h b (Finset.range 8192) (finOf a0 a1 h b.val) := by
  intro j
  obtain ⟨h1, h2, h3⟩ := carry_at a0 a1 h b b.val le_rfl j
  have hsub : seen b.val b.val ⊆ Finset.range 8192 := fun r hr => by
    rw [mem_seen] at hr; rw [Finset.mem_range]; omega
  have hbot : ∀ r ∈ Finset.range 8192, r ∉ seen b.val b.val → masked a0 a1 h (pos b j) r = ⊥ := fun r _ hr => by
    rw [mem_seen] at hr
    exact if_neg (by show ¬ r ≤ 512 * b.val + j.val; omega)
  exact ⟨h1.trans (mx_subset _ hsub hbot).symm, h2.trans (den_subset _ hsub hbot).symm, fun e => (h3 e).trans (acc_subset _ _ hsub hbot).symm⟩

/-! ## The three results, read at an index -/

/-- The attention output, channel `d` at position `p` of head `h`. -/
def outv (h : Fin 16) (d : Fin 160) (p : Fin 8192) : EReal :=
  Ideal.div (acc (Finset.range 8192) (masked a0 a1 h p) (val a0 h d)) (Ideal.sqrt (den (Finset.range 8192) (masked a0 a1 h p)))

theorem pos_div (p : Fin 8192) : pos ⟨p.val / 512, by omega⟩ ⟨p.val % 512, Nat.mod_lt _ (by omega)⟩ = p :=
  Fin.ext (by show 512 * (p.val / 512) + p.val % 512 = p.val; omega)

theorem fin_pos (h : Fin 16) (p : Fin 8192) :
    (finOf a0 a1 h (p.val / 512)).1 (ix2 0 ⟨p.val % 512, Nat.mod_lt _ (by omega)⟩) = mx (Finset.range 8192) (masked a0 a1 h p)
    ∧ (finOf a0 a1 h (p.val / 512)).2.1 (ix2 0 ⟨p.val % 512, Nat.mod_lt _ (by omega)⟩) = den (Finset.range 8192) (masked a0 a1 h p)
    ∧ ∀ e : Fin 160, (finOf a0 a1 h (p.val / 512)).2.2 (ix2 e ⟨p.val % 512, Nat.mod_lt _ (by omega)⟩) = acc (Finset.range 8192) (masked a0 a1 h p) (val a0 h e) := by
  have := fin_at a0 a1 h ⟨p.val / 512, by omega⟩ ⟨p.val % 512, Nat.mod_lt _ (by omega)⟩
  rwa [pos_div] at this

theorem pay25_at (d : FVec Ideal S1x512 .f32) (o : FVec Ideal S160x512 .f32) (e : Fin 160) (j : Fin 512) :
    k1_pay25 (F := Ideal) d o (ix3 0 e j) = Ideal.div (o (ix2 e j)) (Ideal.sqrt (d (ix2 0 j))) := by
  unfold k1_pay25 k1_pay24; pointwise
theorem pay26_at (d : FVec Ideal S1x512 .f32) (o : FVec Ideal S160x512 .f32) (e : Fin 160) (j : Fin 512) :
    k1_pay26 (F := Ideal) d o (ix3 0 e j)
      = min (Ideal.ofBits .f32 0x43E00000#32) (max (Ideal.ofBits .f32 0xC3E00000#32) (Ideal.div (o (ix2 e j)) (Ideal.sqrt (d (ix2 0 j))))) := by
  unfold k1_pay26 k1_pay24; pointwise
theorem lse_at (m d : FVec Ideal S1x512 .f32) (b : Fin 16) (j : Fin 512) :
    k1_pay1 (F := Ideal) m d (iota .tc S1x512 32 [1] iota_S1x512_d1_w32) (k1_pay27 (BitVec.ofNat 32 b.val)) (ix2 0 j)
      = (m (ix2 0 j) + Ideal.div (Ideal.log (d (ix2 0 j))) (Ideal.log ((2 : ℝ) : EReal))) * ((Real.log 2 : ℝ) : EReal)
        - Ideal.log (FloatOps.sitofp (F := Ideal) .f32 (BitVec.ofNat 32 ((pos b j).val + 1))) := by
  unfold k1_pay1 k1_pay27
  pointwise
  rw [ln2, ofBits_two]
  have e : IntOp.addi (Scalar.addi (Scalar.muli (BitVec.ofNat 32 b.val) 512#32) 1#32) (BitVec.ofNat 32 j.val) = BitVec.ofNat 32 ((pos b j).val + 1) := by
    apply BitVec.eq_of_toNat_eq
    have hb := b.isLt
    have hj := j.isLt
    show ((BitVec.ofNat 32 b.val * 512#32 + 1#32) + BitVec.ofNat 32 j.val).toNat = (BitVec.ofNat 32 (512 * b.val + j.val + 1)).toNat
    simp only [BitVec.toNat_add, BitVec.toNat_mul, BitVec.toNat_ofNat]
    omega
  rw [e]; rfl

theorem G3_val (h : Fin 16) (d : Fin 160) (p : Fin 8192) : G3 (F := Ideal) a0 a1 (ix3 h d p) = outv a0 a1 h d p := by
  obtain ⟨h1, h2, h3⟩ := fin_pos a0 a1 h p
  refine (pay25_at _ _ d ⟨p.val % 512, Nat.mod_lt _ (by omega)⟩).trans ?_
  exact congr (congrArg Ideal.div (h3 d)) (congrArg Ideal.sqrt h2)

theorem G4_val (h : Fin 16) (d : Fin 160) (p : Fin 8192) :
    G4 (F := Ideal) a0 a1 (ix3 h d p) = min (Ideal.ofBits .f32 0x43E00000#32) (max (Ideal.ofBits .f32 0xC3E00000#32) (outv a0 a1 h d p)) := by
  obtain ⟨h1, h2, h3⟩ := fin_pos a0 a1 h p
  refine (pay26_at _ _ d ⟨p.val % 512, Nat.mod_lt _ (by omega)⟩).trans ?_
  exact congrArg (fun x => min (Ideal.ofBits .f32 0x43E00000#32) (max (Ideal.ofBits .f32 0xC3E00000#32) x))
    (congr (congrArg Ideal.div (h3 d)) (congrArg Ideal.sqrt h2))

/-- The log-sum-exp relative to the position. -/
def lsev (h : Fin 16) (p : Fin 8192) : EReal :=
  (mx (Finset.range 8192) (masked a0 a1 h p) + Ideal.div (Ideal.log (den (Finset.range 8192) (masked a0 a1 h p))) (Ideal.log ((2 : ℝ) : EReal))) * ((Real.log 2 : ℝ) : EReal)
    - Ideal.log (FloatOps.sitofp (F := Ideal) .f32 (BitVec.ofNat 32 (p.val + 1)))

theorem G5_val (h : Fin 16) (p : Fin 8192) : G5 (F := Ideal) a0 a1 (ix2 h p) = lsev a0 a1 h p := by
  obtain ⟨h1, h2, h3⟩ := fin_pos a0 a1 h p
  refine (lse_at _ _ ⟨p.val / 512, by omega⟩ ⟨p.val % 512, Nat.mod_lt _ (by omega)⟩).trans ?_
  rw [pos_div]
  unfold lsev
  rw [← h1, ← h2]; rfl

end Cert.KernelIdeal.Hand

end
-- ==== Proof.RefAttn.lean ====
module

public import proofs.«01_k».proof.Proof.AttnCarry
public import proofs.«01_k».proof.Proof.Gen.ReferenceIdeal.Skeleton

/-!
# The reference's attention

The reference's stages (masked scores, reference exponent, weights, quotient), each read at an index: they are the
kernel's second call on the rotated queries, keys and values and the padded keys.
-/

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.Consts Cert.Softmax
open Cert.KernelIdeal.Hand (masked score val s2c outv lsev select_sle G3 G4 G5 G3_val G4_val G5_val)

theorem r_scale : Named.named (F := Ideal) κ "r_scale" (φ := .f32) 0x3DA1E89B#32 = (((Real.sqrt 160)⁻¹ : ℝ) : EReal) :=
  IdealRules.named_const.ideal_named_scalar _ _ _ _ rfl
theorem r_log2e : Named.named (F := Ideal) κ "r_log2e" (φ := .f32) 0x3FB8AA3B#32 = (((Real.log 2)⁻¹ : ℝ) : EReal) :=
  IdealRules.named_const.ideal_named_scalar _ _ _ _ rfl
theorem r_ln2 : Named.named (F := Ideal) κ "r_ln2" (φ := .f32) 0x3F317218#32 = ((Real.log 2 : ℝ) : EReal) :=
  IdealRules.named_const.ideal_named_scalar _ _ _ _ rfl

/-- A supremum over the positions, as one over their numbers. -/
theorem sup_fin {n : ℕ} (f : ℕ → EReal) : (Finset.univ.sup fun k : Fin n => f k.val) = (Finset.range n).sup f :=
  le_antisymm (Finset.sup_le fun k _ => Finset.le_sup (Finset.mem_range.mpr k.isLt))
    (Finset.sup_le fun k hk => Finset.le_sup (f := fun k : Fin n => f k.val) (Finset.mem_univ ⟨k, Finset.mem_range.mp hk⟩))

theorem fold_sup {n : ℕ} (f : Fin n → EReal) : Finset.univ.fold max (⊥ : EReal) f = Finset.univ.sup f := rfl

/-- A channel of a head is a channel of the padded keys. -/
theorem lt_pad (d : Fin 160) : d.val < 256 := by omega

variable (A : Vec Ideal S3x16x160x8192 .bf16) (K : Vec Ideal KernelIdeal.S16x8192x256 .bf16)
  (hK : ∀ (h : Fin 16) (r : Fin 8192) (d : Fin 160), K (ix3 (n0 := 16) (n1 := 8192) (n2 := 256) h r ⟨d.val, lt_pad d⟩) = A (ix4 1 h d r))

/-! ## The stages, one from another -/

/-- The greatest score of each row. -/
def rX (s : FVec Ideal S16x8192x8192 .f32) : FVec Ideal S16x8192 .f32 :=
  multiReduction .maximumf [2] S16x8192 s 0xFF800000#32 reduces_S16x8192x8192_S16x8192 (.inl rfl) rfl
/-- The reference exponent. -/
def rM (x : FVec Ideal S16x8192 .f32) : FVec Ideal S16x8192x1 .f32 :=
  mulf (broadcast S16x8192x1 (Scalar.ofBits .f32 0x40000000#32)) (ceil (mulf (broadcast S16x8192x1 (Scalar.ofBits .f32 0x3F000000#32))
    (shapeCast S16x8192x1 x shapeCasts_S16x8192_S16x8192x1)))
theorem rX_at (s : FVec Ideal S16x8192x8192 .f32) (h : Fin 16) (p : Fin 8192) : rX s (ix2 h p) = Finset.univ.sup fun r : Fin 8192 => s (ix3 h p r) := by
  unfold rX
  pointwise
  rw [ofBits_neginf, fold_sup]
theorem rM_at (x : FVec Ideal S16x8192 .f32) (h : Fin 16) (p : Fin 8192) : rM x (ix3 h p 0) = up (x (ix2 h p)) := by
  unfold rM; pointwise; rw [ofBits_two, ofBits_half]; rfl
theorem pay7_eq : k0_pay7 (F := Ideal) A = rM (rX (k0_pay6 A)) := by unfold k0_pay7 rM rX; rfl
theorem pay7_at (h : Fin 16) (p : Fin 8192) : k0_pay7 (F := Ideal) A (ix3 h p 0) = up (Finset.univ.sup fun r : Fin 8192 => k0_pay6 (F := Ideal) A (ix3 h p r)) := by
  rw [pay7_eq, rM_at, rX_at]
theorem pay8_at (h : Fin 16) (p r : Fin 8192) : k0_pay8 (F := Ideal) A (ix3 h p r) = wt (k0_pay7 (F := Ideal) A (ix3 h p 0)) (k0_pay6 (F := Ideal) A (ix3 h p r)) := by
  unfold k0_pay8
  generalize k0_pay6 (F := Ideal) A = s
  generalize k0_pay7 (F := Ideal) A = m
  pointwise
  rw [ofBits_half]
  rfl
theorem pay9_at (h : Fin 16) (p : Fin 8192) : k0_pay9 (F := Ideal) A (ix2 h p) = ∑ x : Fin 8192, k0_pay8 (F := Ideal) A (ix3 h p x) * k0_pay8 (F := Ideal) A (ix3 h p x) := by
  unfold k0_pay9
  generalize k0_pay8 (F := Ideal) A = e
  pointwise
theorem pay10_at (h : Fin 16) (p : Fin 8192) (k : Fin 160) :
    k0_pay10 (F := Ideal) A (ix3 h p k) = Ideal.div (∑ x : Fin 8192, k0_pay8 (F := Ideal) A (ix3 h p x) * A (ix4 2 h k x)) (Idealize.ShloMosaic.Ideal.sqrt (k0_pay9 (F := Ideal) A (ix2 h p))) := by
  unfold k0_pay10
  generalize k0_pay8 (F := Ideal) A = e
  generalize k0_pay9 (F := Ideal) A = d
  pointwise
theorem pay15_at (o : FVec Ideal S16x8192x160 .f32) (h : Fin 16) (p : Fin 8192) (k : Fin 160) : k0_pay15 (F := Ideal) o (ix3 h k p) = o (ix3 h p k) := by
  unfold k0_pay15; pointwise
theorem pay16_at (o : FVec Ideal S16x8192x160 .f32) (h : Fin 16) (p : Fin 8192) (k : Fin 160) :
    k0_pay16 (F := Ideal) o (ix3 h k p) = min (Ideal.ofBits .f32 0x43E00000#32) (max (Ideal.ofBits .f32 0xC3E00000#32) (o (ix3 h p k))) := by
  unfold k0_pay16; pointwise
theorem cast_at (m : FVec Ideal S16x8192x1 .f32) (h : Fin 16) (p : Fin 8192) :
    (shapeCast S16x8192 m shapeCasts_S16x8192x1_S16x8192 : FVec Ideal S16x8192 .f32) (ix2 h p) = m (ix3 h p 0) := by pointwise
theorem pay5_at (h : Fin 16) (p : Fin 8192) : k0_pay5 (F := Ideal) (ix2 h p) = Idealize.ShloMosaic.Ideal.log ((2 : ℝ) : EReal) := by
  unfold k0_pay5
  pointwise
  rw [ofBits_two]
theorem pay11_at (h : Fin 16) (p : Fin 8192) : k0_pay11 (F := Ideal) (ix2 h p) = FloatOps.sitofp (F := Ideal) .f32 (BitVec.ofNat 32 (p.val + 1)) := by
  unfold k0_pay11
  pointwise
  have e : IntOp.addi (BitVec.ofNat 32 p.val) 1#32 = BitVec.ofNat 32 (p.val + 1) := by
    apply BitVec.eq_of_toNat_eq
    show (BitVec.ofNat 32 p.val + 1#32).toNat = (BitVec.ofNat 32 (p.val + 1)).toNat
    have := p.isLt
    simp only [BitVec.toNat_add, BitVec.toNat_ofNat]
    omega
  rw [e]
theorem pay12_at (h : Fin 16) (p : Fin 8192) : k0_pay12 (F := Ideal) A (ix2 h p) = k0_pay7 (F := Ideal) A (ix3 h p 0) := cast_at (k0_pay7 A) h p
theorem log_at (d : FVec Ideal S16x8192 .f32) (i : S16x8192.Idx) : log d i = Idealize.ShloMosaic.Ideal.log (d i) := rfl
theorem pay13_at (h : Fin 16) (p : Fin 8192) : k0_pay13 (F := Ideal) A (ix2 h p) = Idealize.ShloMosaic.Ideal.log (k0_pay9 (F := Ideal) A (ix2 h p)) := log_at (k0_pay9 A) (ix2 h p)
theorem sum_at (a b c d : FVec Ideal S16x8192 .f32) (h : Fin 16) (p : Fin 8192) :
    k0_pay14 (F := Ideal) a b c d (ix2 h p) = (c (ix2 h p) + Ideal.div (d (ix2 h p)) (a (ix2 h p))) * ((Real.log 2 : ℝ) : EReal) - Idealize.ShloMosaic.Ideal.log (b (ix2 h p)) := by
  unfold k0_pay14
  pointwise
  rw [r_ln2]
theorem pay14_at (h : Fin 16) (p : Fin 8192) :
    k0_pay14 (F := Ideal) k0_pay5 k0_pay11 (k0_pay12 A) (k0_pay13 A) (ix2 h p)
      = (k0_pay7 (F := Ideal) A (ix3 h p 0) + Ideal.div (Idealize.ShloMosaic.Ideal.log (k0_pay9 (F := Ideal) A (ix2 h p))) (Idealize.ShloMosaic.Ideal.log ((2 : ℝ) : EReal))) * ((Real.log 2 : ℝ) : EReal)
        - Idealize.ShloMosaic.Ideal.log (FloatOps.sitofp (F := Ideal) .f32 (BitVec.ofNat 32 (p.val + 1))) := by
  rw [sum_at, pay5_at, pay11_at, pay12_at, pay13_at]

/-! ## The stages as the softmax over all keys -/

include hK

theorem s_at (h : Fin 16) (p r : Fin 8192) : k0_pay6 (F := Ideal) A (ix3 h p r) = masked A K h p r.val := by
  unfold k0_pay6; pointwise
  rw [select_sle (by omega) (by omega), ofBits_neginf, r_scale, r_log2e, mul_assoc, ← EReal.coe_mul]
  unfold masked score s2c
  congr 1
  · congr 1
    refine Finset.sum_congr rfl fun d _ => ?_
    rw [mul_comm]
    simp only [Nat.mod_eq_of_lt r.isLt]
    rw [hK]
theorem m_at (h : Fin 16) (p : Fin 8192) : k0_pay7 (F := Ideal) A (ix3 h p 0) = mx (Finset.range 8192) (masked A K h p) := by
  unfold mx
  rw [pay7_at, ← sup_fin]
  simp only [s_at A K hK]
theorem e_at (h : Fin 16) (p r : Fin 8192) :
    k0_pay8 (F := Ideal) A (ix3 h p r) = wt (mx (Finset.range 8192) (masked A K h p)) (masked A K h p r.val) := by
  rw [pay8_at, m_at A K hK, s_at A K hK]
theorem d_at (h : Fin 16) (p : Fin 8192) : k0_pay9 (F := Ideal) A (ix2 h p) = den (Finset.range 8192) (masked A K h p) := by
  unfold den
  rw [pay9_at, Finset.sum_range]
  simp only [e_at A K hK]
theorem o_at (h : Fin 16) (p : Fin 8192) (d : Fin 160) : k0_pay10 (F := Ideal) A (ix3 h p d) = outv A K h d p := by
  unfold outv acc
  rw [pay10_at, d_at A K hK, Finset.sum_range]
  congr 1
  refine Finset.sum_congr rfl fun r _ => ?_
  rw [e_at A K hK, mul_comm]
  congr 1
  unfold val
  simp only [Nat.mod_eq_of_lt r.isLt]

/-! ## The results are the kernel's -/

/-- The reference's attention output is the kernel's. -/
theorem o_G3 : k0_pay15 (F := Ideal) (k0_pay10 A) = G3 (F := Ideal) A K := by
  funext y
  obtain ⟨h, d, p, rfl⟩ : ∃ (h : Fin 16) (d : Fin 160) (p : Fin 8192), y = ix3 h d p := ⟨y 0, y 1, y 2, by funext b; fin_cases b <;> rfl⟩
  exact ((pay15_at _ h p d).trans (o_at A K hK h p d)).trans (G3_val _ _ h d p).symm
/-- The reference's output codes are the kernel's. -/
theorem oc_G4 : k0_pay16 (F := Ideal) (k0_pay10 A) = G4 (F := Ideal) A K := by
  funext y
  obtain ⟨h, d, p, rfl⟩ : ∃ (h : Fin 16) (d : Fin 160) (p : Fin 8192), y = ix3 h d p := ⟨y 0, y 1, y 2, by funext b; fin_cases b <;> rfl⟩
  refine (pay16_at _ h p d).trans ?_
  rw [o_at A K hK h p d]
  exact (G4_val _ _ h d p).symm
/-- The reference's log-sum-exp is the kernel's. -/
theorem lse_G5 : k0_pay14 (F := Ideal) k0_pay5 k0_pay11 (k0_pay12 A) (k0_pay13 A) = G5 (F := Ideal) A K := by
  funext y
  obtain ⟨h, p, rfl⟩ : ∃ (h : Fin 16) (p : Fin 8192), y = ix2 h p := ⟨y 0, y 1, by funext b; fin_cases b <;> rfl⟩
  refine (pay14_at A h p).trans ?_
  rw [m_at A K hK h p, d_at A K hK h p]
  exact (G5_val _ _ h p).symm

end Cert.ReferenceIdeal.Hand

end
-- ==== Proof.RefOut.lean ====
module

public import proofs.«01_k».proof.Proof.OutValue
public import proofs.«01_k».proof.Proof.Gen.ReferenceIdeal.Skeleton

/-!
# The reference's output projection

The reference's stages (product with the weights, mean, deviation, mix with the residual), each read at an index: they are
the kernel's third call on the codes of the attention output.
-/

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.KernelIdeal.Out (mean dev norm mix row G)

/-- The product with the weights, scaled. -/
def fRow (A : FVec Ideal S2560x8192 .fp8e4m3) (w : Vec Ideal S2560x2560 .fp8e4m3) : FVec Ideal S8192x2560 .f32 :=
  mulf (matmul dot_S2560x8192_S2560x2560_S8192x2560_0_0_1_1_n_n none A
    (shapeCast S2560x2560 w shapeCasts_S2560x2560_S2560x2560 : FVec Ideal S2560x2560 .fp8e4m3) (constant S8192x2560 .f32 0x00000000#32))
    (broadcast S8192x2560 (Scalar.ofBits .f32 0x3CA1E89B#32))
/-- The mean of each row. -/
def fMean (z : FVec Ideal S8192x2560 .f32) : FVec Ideal S8192x1 .f32 :=
  divf (shapeCast S8192x1 (multiReduction .add [1] S8192 z 0x00000000#32 reduces_S8192x2560_S8192 (.inl rfl) rfl : FVec Ideal S8192 .f32) shapeCasts_S8192_S8192x1)
    (broadcast S8192x1 (Scalar.ofBits .f32 0x45200000#32))
/-- The squared distances of each row from its mean. -/
def fSq (z : FVec Ideal S8192x2560 .f32) (m : FVec Ideal S8192x1 .f32) : FVec Ideal S8192x2560 .f32 :=
  mulf (subf z (broadcastTo S8192x2560 m broadcasts_S8192x1_S8192x2560)) (subf z (broadcastTo S8192x2560 m broadcasts_S8192x1_S8192x2560))
/-- The deviation of each row, from its mean squared distance. -/
def fDev (v : FVec Ideal S8192x1 .f32) : FVec Ideal S8192x1 .f32 := sqrt (addf v (broadcast S8192x1 (Scalar.ofBits .f32 0x3727C5AC#32)))

section Stages

variable (A : FVec Ideal S2560x8192 .fp8e4m3) (w : Vec Ideal S2560x2560 .fp8e4m3) (z v2 : FVec Ideal S8192x2560 .f32) (m v : FVec Ideal S8192x1 .f32)
  (g b : Vec Ideal S1x2560 .f32) (R : Fin 8192) (j : Fin 2560)

theorem fRow_at : fRow A w (ix2 R j) = row (fun k => A (ix2 k R)) w j := by
  unfold fRow row
  pointwise
theorem fMean_at : fMean z (ix2 R 0) = mean (fun k => z (ix2 R k)) := by
  unfold fMean mean
  pointwise
theorem fSq_at : fSq z m (ix2 R j) = (z (ix2 R j) - m (ix2 R 0)) * (z (ix2 R j) - m (ix2 R 0)) := by
  unfold fSq
  pointwise
theorem fDev_at : fDev v (ix2 R 0) = Ideal.sqrt (v (ix2 R 0) + Ideal.ofBits .f32 0x3727C5AC#32) := by
  unfold fDev
  pointwise
theorem pay1_at : k0_pay1 (F := Ideal) v2 z m v g b (ix2 R j)
    = mix (v2 (ix2 R j)) ((z (ix2 R j) - m (ix2 R 0)) * Ideal.div (Ideal.ofBits .f32 0x3F800000#32) (v (ix2 R 0)) * g (ix2 0 j) + b (ix2 0 j)) := by
  unfold k0_pay1 mix
  pointwise

end Stages

section Whole

variable (O : FVec Ideal S16x8192x160 .f32) (w : Vec Ideal S2560x2560 .fp8e4m3) (X : Vec Ideal S8192x2560 .bf16) (g b : Vec Ideal S1x2560 .f32)

/-- The codes of the attention output by (head and channel, token). -/
def fA : FVec Ideal S2560x8192 .fp8e4m3 := shapeCast S2560x8192 (k0_pay16 (F := Ideal) O) shapeCasts_S16x160x8192_S2560x8192

theorem pay17_eq : k0_pay17 (F := Ideal) O w = fRow (fA O) w := by unfold k0_pay17 fRow fA; rfl
theorem pay18_eq : k0_pay18 (F := Ideal) O w = fMean (fRow (fA O) w) := by
  rw [← pay17_eq]; unfold k0_pay18 fMean; rfl
theorem pay19_eq : k0_pay19 (F := Ideal) O w = fDev (fMean (fSq (fRow (fA O) w) (fMean (fRow (fA O) w)))) := by
  rw [← pay18_eq, ← pay17_eq]; unfold k0_pay19 fDev fMean fSq; rfl
theorem pay2_eq : k0_pay2 (F := Ideal) X = X := by
  funext i
  unfold k0_pay2
  pointwise

/-- The reference's result is the kernel's third call on the codes. -/
theorem y_G : k0_pay1 (F := Ideal) (k0_pay2 X) (k0_pay17 O w) (k0_pay18 O w) (k0_pay19 O w) g b = G (fA O) w X g b := by
  rw [pay17_eq, pay18_eq, pay19_eq, pay2_eq]
  funext i
  obtain ⟨R, j, rfl⟩ : ∃ (R : Fin 8192) (j : Fin 2560), i = ix2 R j := ⟨i 0, i 1, by funext b; fin_cases b <;> rfl⟩
  rw [pay1_at]
  have hz : ∀ k, fRow (fA O) w (ix2 R k) = row (fun k => fA O (ix2 k R)) w k := fun k => fRow_at (fA O) w R k
  have hm : fMean (fRow (fA O) w) (ix2 R 0) = mean (row (fun k => fA O (ix2 k R)) w) := by
    rw [fMean_at]; simp only [hz]
  have hd : fDev (fMean (fSq (fRow (fA O) w) (fMean (fRow (fA O) w)))) (ix2 R 0) = dev (row (fun k => fA O (ix2 k R)) w) := by
    rw [fDev_at, fMean_at]; simp only [fSq_at, hz, hm]; rfl
  rw [hz, hm, hd]
  rfl

end Whole

end Cert.ReferenceIdeal.Hand

end
-- ==== Proof.RefValue.lean ====
module

public import proofs.«01_k».proof.Proof.KernelValue
public import proofs.«01_k».proof.Proof.RefProj
public import proofs.«01_k».proof.Proof.RefAttn
public import proofs.«01_k».proof.Proof.RefOut
public import proofs.«01_k».proof.Proof.Gen.ReferenceIdeal.Value
public import Idealize.ShloMosaic.Lib.Pipeline.ValueKit

/-!
# The reference's six results: they are the kernel's functions of the arguments
-/

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen

variable (m : (ℓ : Loc nD τ sig) → Buf (Elt Ideal) ℓ) (c : Dev nD)

/-- The block of each window at each grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] ∧ win0_10.index t = ![0, 0, 0, 0]
    ∧ win0_11.index t = ![0, 0] ∧ win0_12.index t = ![0, 0, 0] := (by decide +kernel : ∀ t : Fin grid0.N, _)

theorem b0 : iblk m c 0 t0_0 = V m c main_v0 := by blk_ext! [iblk, idx t0_0]
theorem b1 : iblk m c 1 t0_0 = V m c main_v1 := by blk_ext! [iblk, idx t0_0]
theorem b2 : iblk m c 2 t0_0 = V m c main_v2 := by blk_ext! [iblk, idx t0_0]
theorem b3 : iblk m c 3 t0_0 = V m c main_v3 := by blk_ext! [iblk, idx t0_0]
theorem b4 : iblk m c 4 t0_0 = V m c main_v4 := by blk_ext! [iblk, idx t0_0]
theorem b5 : iblk m c 5 t0_0 = V m c main_v6 := by blk_ext! [iblk, idx t0_0]
theorem b6 : iblk m c 6 t0_0 = V m c main_v8 := by blk_ext! [iblk, idx t0_0]

theorem ld0 (x : Vec Ideal S8192x2560 .bf16) : View.ld x r0_0 = x := by funext j; pointwise
theorem ld1 (x : Vec Ideal S2560x7680 .fp8e4m3) : View.ld x r0_1 = x := by funext j; pointwise
theorem ld2 (x : Vec Ideal S80x8192 .f32) : View.ld x r0_2 = x := by funext j; pointwise
theorem ld6 (x : Vec Ideal S2560x2560 .fp8e4m3) : View.ld x r0_6 = x := by funext j; pointwise
theorem ld7 (x : Vec Ideal S1x2560 .f32) : View.ld x r0_7 = x := by
  funext j
  pointwise
  refine congrArg x (funext fun k => ?_)
  match k with
  | ⟨0, _⟩ => exact Subsingleton.elim (α := Fin 1) _ _
  | ⟨1, _⟩ => rfl

/-- Queries, keys and values, from the arrays that the call finds. -/
abbrev q : FVec Ideal S3x16x160x8192 .bf16 := k0_pay4 (F := Ideal) (V m c main_v0) (V m c main_v1) (V m c main_v6) (V m c main_v8)

/-- Queries, keys and values as the body computes them. -/
theorem pay20_eq : k0_pay20 (F := Ideal) (V m c main_v0) (V m c main_v1) (V m c main_v2) (V m c main_v3) (V m c main_v4) (V m c main_v6) (V m c main_v8) = q m c := by
  unfold k0_pay20
  rw [ld0, ld1, ld2, ld2]
theorem pay21_eq : k0_pay21 (F := Ideal) (V m c main_v0) (V m c main_v1) (V m c main_v2) (V m c main_v3) (V m c main_v4) (V m c main_v6) (V m c main_v8) = k0_pay10 (q m c) := by
  unfold k0_pay21
  rw [pay20_eq]

/-- The layer's output. -/
theorem entry7 : (dats m 0 c).arrAt 7 cfg0.N = k0_pay1 (F := Ideal) (k0_pay2 (V m c main_v0)) (k0_pay17 (k0_pay10 (q m c)) (V m c main_v2)) (k0_pay18 (k0_pay10 (q m c)) (V m c main_v2))
    (k0_pay19 (k0_pay10 (q m c)) (V m c main_v2)) (V m c main_v3) (V m c main_v4) := by
  refine (dats m 0 c).arrAt_eq_of_after_last 7 t0_0 (by decide +kernel) _ fun j => ?_
  blk_simp
  rw [after0_7, b0, b1, b2, b3, b4, b5, b6]; unfold out0_7
  rw [pay21_eq, ld0, ld6, ld7, ld7]
  frame_out

/-- Logarithms of the normalizers. -/
theorem entry8 : (dats m 0 c).arrAt 8 cfg0.N = k0_pay14 (F := Ideal) k0_pay5 k0_pay11 (k0_pay12 (q m c)) (k0_pay13 (q m c)) := by
  refine (dats m 0 c).arrAt_eq_of_after_last 8 t0_0 (by decide +kernel) _ fun j => ?_
  blk_simp
  rw [after0_8, b0, b1, b2, b3, b4, b5, b6]; unfold out0_8
  rw [pay20_eq]
  frame_out

/-- Attention output. -/
theorem entry9 : (dats m 0 c).arrAt 9 cfg0.N = k0_pay15 (F := Ideal) (k0_pay10 (q m c)) := by
  refine (dats m 0 c).arrAt_eq_of_after_last 9 t0_0 (by decide +kernel) _ fun j => ?_
  blk_simp
  rw [after0_9, b0, b1, b2, b3, b4, b5, b6]; unfold out0_9
  rw [pay21_eq]
  frame_out

/-- Queries, keys and values. -/
theorem entry10 : (dats m 0 c).arrAt 10 cfg0.N = q m c := by
  refine (dats m 0 c).arrAt_eq_of_after_last 10 t0_0 (by decide +kernel) _ fun j => ?_
  blk_simp
  rw [after0_10, b0, b1, b2, b3, b4, b5, b6]; unfold out0_10
  rw [pay20_eq]
  frame_out

/-- Codes of the tokens. -/
theorem entry11 : (dats m 0 c).arrAt 11 cfg0.N = k0_pay3 (F := Ideal) (V m c main_v0) := by
  refine (dats m 0 c).arrAt_eq_of_after_last 11 t0_0 (by decide +kernel) _ fun j => ?_
  blk_simp
  rw [after0_11, b0, b1, b2, b3, b4, b5, b6]; unfold out0_11
  rw [ld0]
  frame_out

/-- Codes of the attention output. -/
theorem entry12 : (dats m 0 c).arrAt 12 cfg0.N = k0_pay16 (F := Ideal) (k0_pay10 (q m c)) := by
  refine (dats m 0 c).arrAt_eq_of_after_last 12 t0_0 (by decide +kernel) _ fun j => ?_
  blk_simp
  rw [after0_12, b0, b1, b2, b3, b4, b5, b6]; unfold out0_12
  rw [pay21_eq]
  frame_out

/-! ### The results, from the arguments -/

section Args

open Cert.KernelIdeal.Hand (xR wT tT wO gR cR RQ RK RC RO RA RL RY RK_at)

/-- The weights as one matrix and by (part, head, channel, row). -/
theorem w_at (a1 : Vec Ideal S2560x3x16x160 .fp8e4m3) (pt : Fin 3) (h : Fin 16) (e : Fin 160) (k : Fin 2560) :
    (shapeCast S2560x7680 a1 shapeCasts_S2560x3x16x160_S2560x7680 : Vec Ideal S2560x7680 .fp8e4m3) (ix2 k ⟨pt.val * 2560 + h.val * 160 + e.val, by omega⟩)
      = wT a1 (ix4 pt h e k) := by
  unfold wT
  pointwise

theorem V_v0 : V m c main_v0 = xR (m ((c : Thread nD τ).loc main_arg0)) := by
  entry_read
  rfl
theorem V_v1 : V m c main_v1 = (shapeCast S2560x7680 (m ((c : Thread nD τ).loc main_arg1) : Vec Ideal S2560x3x16x160 .fp8e4m3) shapeCasts_S2560x3x16x160_S2560x7680 : Vec Ideal S2560x7680 .fp8e4m3) := by
  entry_read
  rfl
theorem V_v2 : V m c main_v2 = wO (m ((c : Thread nD τ).loc main_arg2)) := by
  entry_read
  rfl
theorem V_v3 : V m c main_v3 = gR (m ((c : Thread nD τ).loc main_arg3)) := by
  entry_read
  rfl
theorem V_v4 : V m c main_v4 = gR (m ((c : Thread nD τ).loc main_arg4)) := by
  entry_read
  rfl
theorem V_v6 : V m c main_v6 = tT (m ((c : Thread nD τ).loc main_arg5)) := by
  entry_read
  rfl
theorem V_v8 : V m c main_v8 = tT (m ((c : Thread nD τ).loc main_arg6)) := by
  entry_read
  rfl

theorem q_eq : q m c = RQ (m ((c : Thread nD τ).loc main_arg0)) (m ((c : Thread nD τ).loc main_arg1)) (m ((c : Thread nD τ).loc main_arg5)) (m ((c : Thread nD τ).loc main_arg6)) := by
  unfold q
  rw [V_v0, V_v1, V_v6, V_v8]
  exact body_eq _ _ _ _ _ (w_at _)

theorem final_y : (dats m 0 c).arrAt 7 cfg0.N = RY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [entry7, y_G, q_eq, V_v0, V_v2, V_v3, V_v4]
  unfold fA
  rw [oc_G4 _ _ (RK_at _ _ _ _)]
  rfl
theorem final_l : (dats m 0 c).arrAt 8 cfg0.N = RL (m ((c : Thread nD τ).loc main_arg0)) (m ((c : Thread nD τ).loc main_arg1)) (m ((c : Thread nD τ).loc main_arg5)) (m ((c : Thread nD τ).loc main_arg6)) := by
  rw [entry8, q_eq, lse_G5 _ _ (RK_at _ _ _ _)]; rfl
theorem final_o : (dats m 0 c).arrAt 9 cfg0.N = RO (m ((c : Thread nD τ).loc main_arg0)) (m ((c : Thread nD τ).loc main_arg1)) (m ((c : Thread nD τ).loc main_arg5)) (m ((c : Thread nD τ).loc main_arg6)) := by
  rw [entry9, q_eq, o_G3 _ _ (RK_at _ _ _ _)]; rfl
theorem final_q : (dats m 0 c).arrAt 10 cfg0.N = RQ (m ((c : Thread nD τ).loc main_arg0)) (m ((c : Thread nD τ).loc main_arg1)) (m ((c : Thread nD τ).loc main_arg5)) (m ((c : Thread nD τ).loc main_arg6)) := by
  rw [entry10, q_eq]
theorem final_c : (dats m 0 c).arrAt 11 cfg0.N = RC (m ((c : Thread nD τ).loc main_arg0)) := by
  rw [entry11, codes_eq, V_v0]; rfl
theorem final_a : (dats m 0 c).arrAt 12 cfg0.N = RA (m ((c : Thread nD τ).loc main_arg0)) (m ((c : Thread nD τ).loc main_arg1)) (m ((c : Thread nD τ).loc main_arg5)) (m ((c : Thread nD τ).loc main_arg6)) := by
  rw [entry12, q_eq, oc_G4 _ _ (RK_at _ _ _ _)]; rfl

end Args

end Cert.ReferenceIdeal.Hand

end
-- ==== Proof.Claims.lean ====
module

public import proofs.«01_k».proof.Proof.Orig
public import proofs.«01_k».proof.Proof.RefValue
public import Idealize.ShloMosaic.Lib.Quiescent

/-!
# The claims

The idealized kernel keeps its arguments and ends with every semaphore at zero; the named constants are roundings of
their reals; over the extended reals the kernel's six results are the reference's.
-/

@[expose] public section

noncomputable section

namespace Cert.Proof

open Idealize.ShloMosaic Idealize.ShloMosaic.TcCoe

/-- The idealized kernel runs to the end, keeps its arguments, and leaves every semaphore at zero. -/
theorem ideal_frame : Cert.quiescent_KernelIdeal := fun m ρ _ => Cert.KernelIdeal.Hand.run_kept (F := Ideal) m ρ

/-- The two literals are the single-precision roundings of the reals that they are named for. -/
theorem preserves : Cert.preserves_Kernel_KernelIdeal :=
  ⟨IdealRules.named_const.statement Cert.KernelIdeal.κ "s2_scale" .f32 0x3DE995B3#32 (((Real.sqrt 160)⁻¹ * (Real.log 2)⁻¹ : ℝ) : EReal) rfl,
    IdealRules.named_const.statement Cert.KernelIdeal.κ "ln2" .f32 0x3F317218#32 ((Real.log 2 : ℝ) : EReal) rfl⟩

/-- The reference's three named literals are the single-precision roundings of the reals that they are named for. -/
theorem ref_preserves : Cert.preserves_Reference_ReferenceIdeal :=
  ⟨IdealRules.named_const.statement Cert.ReferenceIdeal.κ "r_scale" .f32 0x3DA1E89B#32 (((Real.sqrt 160)⁻¹ : ℝ) : EReal) rfl,
    IdealRules.named_const.statement Cert.ReferenceIdeal.κ "r_log2e" .f32 0x3FB8AA3B#32 (((Real.log 2)⁻¹ : ℝ) : EReal) rfl,
    IdealRules.named_const.statement Cert.ReferenceIdeal.κ "r_ln2" .f32 0x3F317218#32 ((Real.log 2 : ℝ) : EReal) rfl⟩

/-- Over the extended reals the kernel and the reference have equal results. -/
theorem algebraic : Cert.algebraic_KernelIdeal_ReferenceIdeal := by
  intro m ρ m' ρ' _ hagree
  refine ⟨fun c => Cert.KernelIdeal.Hand.RY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Hand.RL (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Hand.RO (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Hand.RQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Hand.RC (m ((c.tc : Thread Cert.KernelIdeal.nD Cert.KernelIdeal.τ).loc Cert.KernelIdeal.main_arg0)),
    fun c => Cert.KernelIdeal.Hand.RA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨
      (h.1 c _ (Cert.KernelIdeal.Hand.mem_uc Cert.KernelIdeal.main_v12 (by decide))).trans (Cert.KernelIdeal.Hand.W5_y m ρ c),
      (h.1 c _ (Cert.KernelIdeal.Hand.mem_uc Cert.KernelIdeal.main_v8_2 (by decide))).trans (Cert.KernelIdeal.Hand.W5_l m ρ c),
      (h.1 c _ (Cert.KernelIdeal.Hand.mem_uc Cert.KernelIdeal.main_v8_0 (by decide))).trans (Cert.KernelIdeal.Hand.W5_o m ρ c),
      (h.1 c _ (Cert.KernelIdeal.Hand.mem_uc Cert.KernelIdeal.main_v7_0 (by decide))).trans (Cert.KernelIdeal.Hand.W5_q m ρ c),
      (h.1 c _ (Cert.KernelIdeal.Hand.mem_uc Cert.KernelIdeal.main_v7_2 (by decide))).trans (Cert.KernelIdeal.Hand.W5_c m ρ c),
      (h.1 c _ (Cert.KernelIdeal.Hand.mem_uc Cert.KernelIdeal.main_v8_1 (by decide))).trans (Cert.KernelIdeal.Hand.W5_a m ρ c),
      (h.1 c _ (Cert.KernelIdeal.Hand.mem_uc Cert.KernelIdeal.main_arg0 (by decide))).trans (Cert.KernelIdeal.Hand.W5_main_arg0 m ρ c),
      (h.1 c _ (Cert.KernelIdeal.Hand.mem_uc Cert.KernelIdeal.main_arg1 (by decide))).trans (Cert.KernelIdeal.Hand.W5_main_arg1 m ρ c),
      (h.1 c _ (Cert.KernelIdeal.Hand.mem_uc Cert.KernelIdeal.main_arg2 (by decide))).trans (Cert.KernelIdeal.Hand.W5_main_arg2 m ρ c),
      (h.1 c _ (Cert.KernelIdeal.Hand.mem_uc Cert.KernelIdeal.main_arg3 (by decide))).trans (Cert.KernelIdeal.Hand.W5_main_arg3 m ρ c),
      (h.1 c _ (Cert.KernelIdeal.Hand.mem_uc Cert.KernelIdeal.main_arg4 (by decide))).trans (Cert.KernelIdeal.Hand.W5_main_arg4 m ρ c),
      (h.1 c _ (Cert.KernelIdeal.Hand.mem_uc Cert.KernelIdeal.main_arg5 (by decide))).trans (Cert.KernelIdeal.Hand.W5_main_arg5 m ρ c),
      (h.1 c _ (Cert.KernelIdeal.Hand.mem_uc Cert.KernelIdeal.main_arg6 (by decide))).trans (Cert.KernelIdeal.Hand.W5_main_arg6 m ρ c)⟩)
      (Cert.KernelIdeal.Hand.run (F := Ideal) m ρ)
  · refine (θ_run Cert.ReferenceIdeal.defs _ _).mono (fun _ h c => ?_) (Cert.ReferenceIdeal.Value.run_blocks (F := Ideal) m' ρ')
    obtain ⟨e0, e1, e2, e3, e4, e5, e6⟩ := hagree c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · exact (Cert.ReferenceIdeal.Hand.final_y m' c).trans (congr (congr (congr (congr (congr (congr (congrArg Cert.KernelIdeal.Hand.RY e0) e1) e2) e3) e4) e5) e6)
    · exact (Cert.ReferenceIdeal.Hand.final_l m' c).trans (congr (congr (congr (congrArg Cert.KernelIdeal.Hand.RL e0) e1) e5) e6)
    · exact (Cert.ReferenceIdeal.Hand.final_o m' c).trans (congr (congr (congr (congrArg Cert.KernelIdeal.Hand.RO e0) e1) e5) e6)
    · exact (Cert.ReferenceIdeal.Hand.final_q m' c).trans (congr (congr (congr (congrArg Cert.KernelIdeal.Hand.RQ e0) e1) e5) e6)
    · exact (Cert.ReferenceIdeal.Hand.final_c m' c).trans (congrArg Cert.KernelIdeal.Hand.RC e0)
    · exact (Cert.ReferenceIdeal.Hand.final_a m' c).trans (congr (congr (congr (congrArg Cert.KernelIdeal.Hand.RA e0) e1) e5) e6)

end Cert.Proof

end
-- ==== Proof.CallAttnBody.lean ====
module

public import proofs.«01_k».proof.Proof.Gen.AttnIdeal.Frame
public import proofs.«01_k».proof.Proof.Gen.AttnIdeal.Loops
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

/-!
# The attention kernel's body, with the values it leaves

`carry` is the triple (running maximum, running denominator, running output) that the kernel carries over the key
blocks of one query block, written over the blocks alone.  `body_run` says that one call of the body leaves exactly the
outputs computed from `carry`, and overwrites one row segment of the log-sum-exp block.
-/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The triple carried over the key blocks: running maximum, denominator, unscaled output. -/
abbrev Carry (F : FTy → Type) [FloatOps F] [Named F] := FVec F S1x512 .f32 × FVec F S1x512 .f32 × FVec F S160x512 .f32

/-- Key block `b`: rows `512 b …` of a head's keys. -/
def kTile (x1 : Vec F S1x8192x256 .bf16) (b : ℕ) : Vec F S1x512x256 .bf16 :=
  fun j => x1 (ix3 (n0 := 1) (n1 := 8192) (n2 := 256) (j 0) ⟨(512 * b + (j 1).val) % 8192, Nat.mod_lt _ (by omega)⟩ (j 2))

/-- Value block `b`: lanes `512 b …` of a head's values. -/
def vTile (x2 : Vec F S1x1x160x8192 .bf16) (b : ℕ) : Vec F S1x1x160x512 .bf16 :=
  fun j => x2 (ix4 (n0 := 1) (n1 := 1) (n2 := 160) (n3 := 8192) (j 0) (j 1) (j 2) ⟨(512 * b + (j 3).val) % 8192, Nat.mod_lt _ (by omega)⟩)

/-- The carried triple after the masked diagonal block. -/
def first (x0 : Vec F S1x1x160x512 .bf16) (kt : Vec F S1x512x256 .bf16) (vt : Vec F S1x1x160x512 .bf16) : Carry F :=
  (k0_pay6 x0 kt, k0_pay10 (k0_pay8 x0 kt) (k0_pay9 x0 kt), k0_pay11 k0_pay4 (k0_pay7 x0 kt) (k0_pay8 x0 kt) vt)

/-- The carried triple after one more, unmasked, key block. -/
def step (x0 : Vec F S1x1x160x512 .bf16) (kt : Vec F S1x512x256 .bf16) (vt : Vec F S1x1x160x512 .bf16) (a : Carry F) : Carry F :=
  (k0_pay13 (k0_pay2 x0) a.1 kt, k0_pay16 (k0_pay2 x0) a.1 a.2.1 kt, k0_pay17 (k0_pay2 x0) a.1 a.2.2 kt vt)

/-- The carried triple of query block `b` after the diagonal block and the key blocks below `k`. -/
def carry (x0 : Vec F S1x1x160x512 .bf16) (x1 : Vec F S1x8192x256 .bf16) (x2 : Vec F S1x1x160x8192 .bf16) (b : ℕ) : ℕ → Carry F
  | 0 => first x0 (kTile x1 b) (vTile x2 b)
  | k + 1 => step x0 (kTile x1 k) (vTile x2 k) (carry x0 x1 x2 b k)

/-- The final triple of query block `b`. -/
def fin (x0 : Vec F S1x1x160x512 .bf16) (x1 : Vec F S1x8192x256 .bf16) (x2 : Vec F S1x1x160x8192 .bf16) (b : ℕ) : Carry F :=
  carry x0 x1 x2 b b

/-- The log-sum-exp row segment stored by query block `b`. -/
def lse (x0 : Vec F S1x1x160x512 .bf16) (x1 : Vec F S1x8192x256 .bf16) (x2 : Vec F S1x1x160x8192 .bf16) (b : ℕ) : FVec F S1x512 .f32 :=
  k0_pay1 (fin x0 x1 x2 b).1 (fin x0 x1 x2 b).2.1 (iota .tc S1x512 32 [1] iota_S1x512_d1_w32) (k0_pay27 (BitVec.ofNat 32 b))

theorem ld_kTile (x1 : Vec F S1x8192x256 .bf16) (b : ℕ) (hb : b < 16) {off : Fin 3 → ℕ} (h : off = ![0, 512 * b, 0])
    (inb : ∀ a, off a + S1x512x256.size a ≤ S1x8192x256.size a) :
    View.ld (Val := Elt F) (S := S1x8192x256) (e' := .bf16) x1 (Rect.unit (s := S1x8192x256) off S1x512x256.size inb) = kTile x1 b := by
  subst h
  funext j
  show x1 _ = x1 _
  congr 1
  funext a
  apply Fin.ext
  have h1 : (j 1).val < 512 := (j 1).isLt
  match a with
  | ⟨0, _⟩ => show 0 + 1 * (j 0).val = (j 0).val; omega
  | ⟨1, _⟩ => show 512 * b + 1 * (j 1).val = (512 * b + (j 1).val) % 8192; omega
  | ⟨2, _⟩ => show 0 + 1 * (j 2).val = (j 2).val; omega

theorem ld_vTile (x2 : Vec F S1x1x160x8192 .bf16) (b : ℕ) (hb : b < 16) {off : Fin 4 → ℕ} (h : off = ![0, 0, 0, 512 * b])
    (inb : ∀ a, off a + S1x1x160x512.size a ≤ S1x1x160x8192.size a) :
    View.ld (Val := Elt F) (S := S1x1x160x8192) (e' := .bf16) x2 (Rect.unit (s := S1x1x160x8192) off S1x1x160x512.size inb) = vTile x2 b := by
  subst h
  funext j
  show x2 _ = x2 _
  congr 1
  funext a
  apply Fin.ext
  have h1 : (j 3).val < 512 := (j 3).isLt
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 512 * b + 1 * (j 3).val = (512 * b + (j 3).val) % 8192; omega

/-- The first loop makes as many trips as the query block's number. -/
theorem trips1 : ∀ i : grid0.Coords, (k0_t1_loop i).trips = (i 1).val := by
  have h : ∀ b : Fin 16, ∀ i : grid0.Coords, (i 1).val = b.val → (k0_t1_loop i).trips = b.val := by
    intro b i hb
    have e : k0_t1_loop i = (fun (x : BitVec 32) => k0_t1_loop i) (BitVec.ofNat 32 (i 1).val) := rfl
    unfold k0_t1_loop
    rw [hb]
    clear e hb
    revert b
    decide +kernel
  intro i
  exact h ⟨(i 1).val, (i 1).isLt⟩ i rfl

/-- The second loop makes none. -/
theorem trips2 (i : grid0.Coords) : (k0_t2_loop i).trips = 0 := Nat.le_zero.1 (k0_t2_abs i).2.1

/-- One trip of the loop is `step` on the trip's key and value blocks. -/
theorem trip_eq (c : Dev nD) (i : grid0.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (arg1 : BitVec 32) (x0 : Vec F S1x1x160x512 .bf16) (v6 : FVec F S160x512 .f32) (v8 : BitVec 32) (v27 : FVec F S1x512 .f32) (v31 : FVec F S1x512 .f32) (v36 : FVec F S512x512 .f32) (v38 : FVec F S1x512 .f32)
    (x1 : Vec F S1x8192x256 .bf16) (x2 : Vec F S1x1x160x8192 .bf16) (k : Fin (k0_t1_loop i).trips) (a : Carry F) :
    tripR_k0_t1 (F := F) Variants.none c none i arg2 harg2 arg3 harg3 arg4 harg4 arg5 harg5 arg6 harg6 arg7 harg7 arg1 (k0_pay2 x0) v6 v8 v27 v31 v36 v38 (harg3.unread x1) (harg4.unread x2) k a
      = step x0 (kTile x1 k.val) (vTile x2 k.val) a := by
  have hk : k.val < 16 := by
    have h1 := k.isLt; have h2 := trips1 i; have h3 := (i 1).isLt
    have h4 : (i 1).val < 16 := h3
    omega
  rw [← ld_kTile x1 k.val hk (k0_off3_eq i k) (k0_off3_inb i k), ← ld_vTile x2 k.val hk (k0_off4_eq i k) (k0_off4_inb i k)]
  have e3 : View.readAt (Elt F) arg3.view (Rect.unit (s := S1x8192x256) (k0_off3 i k) S1x512x256.size (k0_off3_inb i k)).toLoadRect (harg3.unread x1)
      = View.ld x1 (Rect.unit (s := S1x8192x256) (k0_off3 i k) S1x512x256.size (k0_off3_inb i k)) := by
    rw [View.readAt_eq_ld, harg3.read_unread]
  have e4 : View.readAt (Elt F) arg4.view (Rect.unit (s := S1x1x160x8192) (k0_off4 i k) S1x1x160x512.size (k0_off4_inb i k)).toLoadRect (harg4.unread x2)
      = View.ld x2 (Rect.unit (s := S1x1x160x8192) (k0_off4 i k) S1x1x160x512.size (k0_off4_inb i k)) := by
    rw [View.readAt_eq_ld, harg4.read_unread]
  rw [← e3, ← e4]
  unfold tripR_k0_t1 trip_k0_t1 step
  rfl

/-- The state of the loop before trip `k` is `carry`. -/
theorem st_eq (c : Dev nD) (i : grid0.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (arg1 : BitVec 32) (x0 : Vec F S1x1x160x512 .bf16) (v6 : FVec F S160x512 .f32) (v8 : BitVec 32) (v27 : FVec F S1x512 .f32) (v31 : FVec F S1x512 .f32) (v36 : FVec F S512x512 .f32) (v38 : FVec F S1x512 .f32)
    (x1 : Vec F S1x8192x256 .bf16) (x2 : Vec F S1x1x160x8192 .bf16) (b : ℕ) (k : ℕ) (hk : k ≤ (k0_t1_loop i).trips) :
    st_k0_t1 (F := F) Variants.none c none i arg2 harg2 arg3 harg3 arg4 harg4 arg5 harg5 arg6 harg6 arg7 harg7 arg1 (k0_pay2 x0) v6 v8 v27 v31 v36 v38 (harg3.unread x1) (harg4.unread x2)
      (first x0 (kTile x1 b) (vTile x2 b)) k = carry x0 x1 x2 b k := by
  induction k with
  | zero => rfl
  | succ k ih =>
    rw [st_k0_t1_succ (k := ⟨k, hk⟩), ih (by omega), trip_eq]
    rfl

/-- The three loads before the loop. -/
theorem load2 (arg2 : Memref sig .tc .vmem S1x1x160x512 .bf16) (harg2 : arg2.IsWhole) (x0 : Vec F S1x1x160x512 .bf16) :
    View.readAt (Elt F) arg2.view (Rect.unit (s := S1x1x160x512) ![0, 0, 0, 0] S1x1x160x512.size inb_S1x1x160x512_S1x1x160x512_0_0_0_0).toLoadRect (harg2.unread x0) = x0 := by
  rw [View.readAt_eq_ld, harg2.read_unread]
  exact View.ld_unit_lit _ x0 (by decide)

theorem load3 (i : grid0.Coords) (arg3 : Memref sig .tc .vmem S1x8192x256 .bf16) (harg3 : arg3.IsWhole) (x1 : Vec F S1x8192x256 .bf16) :
    View.readAt (Elt F) arg3.view (Rect.unit (s := S1x8192x256) (k0_off1 i) S1x512x256.size (k0_off1_inb i)).toLoadRect (harg3.unread x1) = kTile x1 (i 1).val := by
  rw [View.readAt_eq_ld, harg3.read_unread]
  exact ld_kTile x1 (i 1).val (i 1).isLt (k0_off1_eq i) (k0_off1_inb i)

theorem load4 (i : grid0.Coords) (arg4 : Memref sig .tc .vmem S1x1x160x8192 .bf16) (harg4 : arg4.IsWhole) (x2 : Vec F S1x1x160x8192 .bf16) :
    View.readAt (Elt F) arg4.view (Rect.unit (s := S1x1x160x8192) (k0_off2 i) S1x1x160x512.size (k0_off2_inb i)).toLoadRect (harg4.unread x2) = vTile x2 (i 1).val := by
  rw [View.readAt_eq_ld, harg4.read_unread]
  exact ld_vTile x2 (i 1).val (i 1).isLt (k0_off2_eq i) (k0_off2_inb i)

/-- The state after the first loop, started from the values of the three loads, is `fin`. -/
theorem fin_eq (c : Dev nD) (i : grid0.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (arg1 : BitVec 32) (v6 : FVec F S160x512 .f32) (v8 : BitVec 32) (v27 : FVec F S1x512 .f32) (v31 : FVec F S1x512 .f32) (v36 : FVec F S512x512 .f32) (v38 : FVec F S1x512 .f32)
    (x0 : Vec F S1x1x160x512 .bf16) (x1 : Vec F S1x8192x256 .bf16) (x2 : Vec F S1x1x160x8192 .bf16)
    (a0 : Vec F S1x1x160x512 .bf16) (h0 : a0 = x0) (a1 : Vec F S1x512x256 .bf16) (h1 : a1 = kTile x1 (i 1).val)
    (a2 : Vec F S1x1x160x512 .bf16) (h2 : a2 = vTile x2 (i 1).val) :
    st_k0_t1 (F := F) Variants.none c none i arg2 harg2 arg3 harg3 arg4 harg4 arg5 harg5 arg6 harg6 arg7 harg7 arg1 (k0_pay2 a0) v6 v8 v27 v31 v36 v38 (harg3.unread x1) (harg4.unread x2)
      (k0_pay6 a0 a1, k0_pay10 (k0_pay8 a0 a1) (k0_pay9 a0 a1), k0_pay11 k0_pay4 (k0_pay7 a0 a1) (k0_pay8 a0 a1) a2)
      (Scf.trips (k0_t1_loop i).lb (k0_t1_loop i).ub (k0_t1_loop i).st) = fin x0 x1 x2 (i 1).val := by
  subst h0 h1 h2
  have ht : Scf.trips (k0_t1_loop i).lb (k0_t1_loop i).ub (k0_t1_loop i).st = (i 1).val := trips1 i
  rw [ht]
  exact st_eq c i arg2 harg2 arg3 harg3 arg4 harg4 arg5 harg5 arg6 harg6 arg7 harg7 arg1 a0 v6 v8 v27 v31 v36 v38 x1 x2 (i 1).val (i 1).val (le_of_eq (trips1 i).symm)

-- (the run's proof term is large: checking it walks past the default budget)
set_option maxHeartbeats 1000000 in
/-- One call of the body: from the input blocks `x0 x1 x2`, any contents of the first two output blocks and the contents
    `y` of the log-sum-exp block, it leaves the two outputs of `fin` and the log-sum-exp block with its own segment put in. -/
theorem body_run (c : Dev nD) (i : grid0.Coords) (arg2 : Memref sig .tc .vmem S1x1x160x512 .bf16) (harg2 : arg2.IsWhole) (arg3 : Memref sig .tc .vmem S1x8192x256 .bf16) (harg3 : arg3.IsWhole) (arg4 : Memref sig .tc .vmem S1x1x160x8192 .bf16) (harg4 : arg4.IsWhole) (arg5 : Memref sig .tc .vmem S1x160x512 .bf16) (harg5 : arg5.IsWhole) (arg6 : Memref sig .tc .vmem S1x160x512 .fp8e4m3) (harg6 : arg6.IsWhole) (arg7 : Memref sig .tc .vmem S16x8192 .f32) (harg7 : arg7.IsWhole)
    (x0 : Vec F S1x1x160x512 .bf16) (x1 : Vec F S1x8192x256 .bf16) (x2 : Vec F S1x1x160x8192 .bf16) (y : Vec F S16x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare y
            ∗ (iprop(owns (c : Thread nD τ) arg2 fullShare x0 ∗ owns (c : Thread nD τ) arg3 fullShare x1 ∗ owns (c : Thread nD τ) arg4 fullShare x2
                ∗ owns (c : Thread nD τ) arg5 fullShare (k0_pay25 (fin x0 x1 x2 (i 1).val).2.1 (fin x0 x1 x2 (i 1).val).2.2)
                ∗ owns (c : Thread nD τ) arg6 fullShare (k0_pay26 (fin x0 x1 x2 (i 1).val).2.1 (fin x0 x1 x2 (i 1).val).2.2)
                ∗ owns (c : Thread nD τ) arg7 fullShare (VecWindow.put y (k0_off7 i) S1x512.size (lse x0 x1 x2 (i 1).val))) -∗ K ⟨⟩))
          ⊢ wp frame (wpE (defs₀ (F := F)) Variants.none c none) E (cc0_sqrt_softmax_attention i arg2 harg2 arg3 harg3 arg4 harg4 arg5 harg5 arg6 harg6 arg7 harg7) K := by
    intro E K
    simp only [cc0_sqrt_softmax_attention_eq_skeleton]; unfold cc0_sqrt_softmax_attention_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg2.eq_unread hf0; obtain rfl := harg3.eq_unread hf1; obtain rfl := harg4.eq_unread hf2
    sl_exec
    sl_step
    iapply Hk
    isplitl [H0]
    · iexists _; isplitr
      swap
      · iexact H0
      · ipureintro; exact hf0
    isplitl [H1]
    · iexists _; isplitr
      swap
      · iexact H1
      · ipureintro; exact hf1
    isplitl [H2]
    · iexists _; isplitr
      swap
      · iexact H2
      · ipureintro; exact hf2
    have hz : Scf.trips (k0_t2_loop i).lb (k0_t2_loop i).ub (k0_t2_loop i).st = 0 := trips2 i
    isplitl [H3]
    · iexists _; isplitr
      swap
      · iexact H3
      · ipureintro
        refine (View.read_writes_full ..).trans ?_
        rw [hz]
        simp only [st_k0_t2_zero]
        exact congrArg (fun a : Carry F => k0_pay25 a.2.1 a.2.2) (fin_eq c i arg2 harg2 arg3 harg3 arg4 harg4 arg5 harg5 arg6 harg6 arg7 harg7 _ _ _ _ _ _ _ x0 x1 x2 _ (load2 arg2 harg2 x0) _ (load3 i arg3 harg3 x1) _ (load4 i arg4 harg4 x2))
    isplitl [H4]
    · iexists _; isplitr
      swap
      · iexact H4
      · ipureintro
        refine (View.read_writes_full ..).trans ?_
        rw [hz]
        simp only [st_k0_t2_zero]
        exact congrArg (fun a : Carry F => k0_pay26 a.2.1 a.2.2) (fin_eq c i arg2 harg2 arg3 harg3 arg4 harg4 arg5 harg5 arg6 harg6 arg7 harg7 _ _ _ _ _ _ _ x0 x1 x2 _ (load2 arg2 harg2 x0) _ (load3 i arg3 harg3 x1) _ (load4 i arg4 harg4 x2))
    · iexists _; isplitr
      swap
      · iexact H5
      · ipureintro
        refine (View.read_writes_cons_put _ _ _ _ _ rfl).trans ?_
        rw [View.writes_nil, hf5]
        congr 1
        unfold body_run.sl.r_5 body_run.sl.r_6
        rw [hz]
        simp only [st_k0_t2_zero]
        exact congrArg (fun a : Carry F => k0_pay1 a.1 a.2.1 (iota .tc S1x512 32 [1] iota_S1x512_d1_w32) (k0_pay27 (BitVec.ofNat 32 (i 1).val))) (fin_eq c i arg2 harg2 arg3 harg3 arg4 harg4 arg5 harg5 arg6 harg6 arg7 harg7 _ _ _ _ _ _ _ x0 x1 x2 _ (load2 arg2 harg2 x0) _ (load3 i arg3 harg3 x1) _ (load4 i arg4 harg4 x2))
end Cert.AttnIdeal.Hand

end
-- ==== Proof.CallAttnRun.lean ====
module

public import proofs.«01_k».proof.Proof.CallAttnBody
public import Idealize.ShloMosaic.Lib.Claim
public import Idealize.ShloMosaic.Lib.Pipeline.Frame
public import Idealize.ShloMosaic.Lib.Pipeline.ArrRel

/-!
# The attention kernel's run

The pipeline's proof data: two outputs are named exactly at every grid point; the third, whose one block stays resident
for the whole grid, is related point by point to what the point found there.  `run_blocks` is the run with the final
contents of the three result arrays.
-/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The carried triple at the end of point `t`. -/
def finAt (c : Dev nD) (t : Fin cfg0.N) : Carry F :=
  fin (iblk m c 0 t) (iblk m c 1 t) (iblk m c 2 t) ((grid0.coords t) 1).val

/-- The log-sum-exp row that point `t` stores. -/
def lseAt (c : Dev nD) (t : Fin cfg0.N) : FVec F S1x512 .f32 :=
  lse (iblk m c 0 t) (iblk m c 1 t) (iblk m c 2 t) ((grid0.coords t) 1).val

/-- The exact part of the pipeline's proof data. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay25 (finAt m c t).2.1 (finAt m c t).2.2
    | ⟨4, _⟩ => k0_pay26 (finAt m c t).2.1 (finAt m c t).2.2
    | ⟨5, h⟩ => Pipeline.Dat.unnamed (cfg := cfg0) ⟨5, h⟩ t
  Φ _ := Pipeline.ΦA spec0 c
  q w := Pipeline.shareOf spec0 w
  owed _ := 0

/-- The resident block: what a point leaves is what it found, one row segment overwritten. -/
def ovr (c : Dev nD) (w : Fin cfg0.W) : Option (Fin cfg0.N → (Y X : (cfg0.win w).block.Idx → Elt F (cfg0.win w).elt) → Prop) :=
  match w with
  | ⟨0, _⟩ => none
  | ⟨1, _⟩ => none
  | ⟨2, _⟩ => none
  | ⟨3, _⟩ => none
  | ⟨4, _⟩ => none
  | ⟨5, _⟩ => some fun t Y X => X = VecWindow.put (s := S16x8192) Y (k0_off7 (grid0.coords t)) S1x512.size (lseAt m c t)

/-- The proof data. -/
def rdat (c : Dev nD) : RDat τ (Elt F) Unit ℕ (UR sig nD τ) ℕ cfg0 c := (dats m c).toR.override (ovr m c)

theorem A_eq (c : Dev nD) (w : Fin cfg0.W) : (dats m c).A w = V m c (Pipeline.arrRef spec0 w) := by
  dsimp only [dats]
theorem rA_eq (c : Dev nD) (w : Fin cfg0.W) : (rdat m c).A w = V m c (Pipeline.arrRef spec0 w) := A_eq m c w

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = k0_pay25 (finAt m c t).2.1 (finAt m c t).2.2 := by dsimp only [dats]
theorem after0_4 (c : Dev nD) (t : Fin cfg0.N) : (dats m c).after 4 t = k0_pay26 (finAt m c t).2.1 (finAt m c t).2.2 := by dsimp only [dats]

/-- An input's buffer holds its block whenever the body runs. -/
theorem finds_0 (c : Dev nD) (t : Fin cfg0.N) (X) (h : (rdat m c).Finds 0 t X) : X = iblk m c 0 t := by
  obtain ⟨d, rfl⟩ := (dats m c).toR_finds 0 t X ((RDat.override_finds (rd := (dats m c).toR) (ovr := ovr m c) rfl t X).mp h)
  exact before0_0_of m (dats m c) (A_eq m c 0) (after0_0 m c) t d
theorem finds_1 (c : Dev nD) (t : Fin cfg0.N) (X) (h : (rdat m c).Finds 1 t X) : X = iblk m c 1 t := by
  obtain ⟨d, rfl⟩ := (dats m c).toR_finds 1 t X ((RDat.override_finds (rd := (dats m c).toR) (ovr := ovr m c) rfl t X).mp h)
  exact before0_1_of m (dats m c) (A_eq m c 1) (after0_1 m c) t d
theorem finds_2 (c : Dev nD) (t : Fin cfg0.N) (X) (h : (rdat m c).Finds 2 t X) : X = iblk m c 2 t := by
  obtain ⟨d, rfl⟩ := (dats m c).toR_finds 2 t X ((RDat.override_finds (rd := (dats m c).toR) (ovr := ovr m c) rfl t X).mp h)
  exact before0_2_of m (dats m c) (A_eq m c 2) (after0_2 m c) t d

theorem rafter_0 (c : Dev nD) (t : Fin cfg0.N) (Y X) : (rdat m c).after 0 t Y X ↔ X = iblk m c 0 t := Iff.rfl
theorem rafter_1 (c : Dev nD) (t : Fin cfg0.N) (Y X) : (rdat m c).after 1 t Y X ↔ X = iblk m c 1 t := Iff.rfl
theorem rafter_2 (c : Dev nD) (t : Fin cfg0.N) (Y X) : (rdat m c).after 2 t Y X ↔ X = iblk m c 2 t := Iff.rfl
theorem rafter_3 (c : Dev nD) (t : Fin cfg0.N) (Y X) : (rdat m c).after 3 t Y X ↔ X = k0_pay25 (finAt m c t).2.1 (finAt m c t).2.2 := Iff.rfl
theorem rafter_4 (c : Dev nD) (t : Fin cfg0.N) (Y X) : (rdat m c).after 4 t Y X ↔ X = k0_pay26 (finAt m c t).2.1 (finAt m c t).2.2 := Iff.rfl
theorem rafter_5 (c : Dev nD) (t : Fin cfg0.N) (Y X) :
    (rdat m c).after 5 t Y X ↔ X = VecWindow.put (s := S16x8192) Y (k0_off7 (grid0.coords t)) S1x512.size (lseAt m c t) := Iff.rfl

theorem defs₀_row (t : Fin cfg0.N) :
    defs₀ (F := F) .tc cfg0.body (cfg0.bodyArgs t (cfg0.slots t)) = bodyAt0 t := by
  unfold defs₀; rw [Defs.onTc_tc]

/-- The body meets the proof data at every point. -/
theorem body_obligation (c : Dev nD) : (rdat m c).BodyObligation (defs₀ (F := F)) Variants.none () Set.univ := by
  intro t Y hY
  rw [bigSep_W0, bigSep_W0, defs₀_row]
  have e0 := finds_0 m c t _ (hY 0)
  have e1 := finds_1 m c t _ (hY 1)
  have e2 := finds_2 m c t _ (hY 2)
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply ((body_run c (grid0.coords t) _ _ _ _ _ _ _ _ _ _ _ _ (Y 0) (Y 1) (Y 2) (Y 5)) Set.univ _)
  isplitl [H0]; · iexact H0
  isplitl [H1]; · iexact H1
  isplitl [H2]; · iexact H2
  isplitl [H3]; · iexists _; iexact H3
  isplitl [H4]; · iexists _; iexact H4
  isplitl [H5]; · iexact H5
  iintro ⟨H0, H1, H2, H3, H4, H5⟩
  isplitl [HΦ]; · iexact HΦ
  isplitl [Ho]; · iexact Ho
  isplitl [H0]
  · iexists _; isplitr; swap; · iexact H0
    ipureintro; exact (rafter_0 m c t _ _).mpr e0
  isplitl [H1]
  · iexists _; isplitr; swap; · iexact H1
    ipureintro; exact (rafter_1 m c t _ _).mpr e1
  isplitl [H2]
  · iexists _; isplitr; swap; · iexact H2
    ipureintro; exact (rafter_2 m c t _ _).mpr e2
  isplitl [H3]
  · iexists _; isplitr; swap; · iexact H3
    ipureintro; refine (rafter_3 m c t _ _).mpr ?_; rw [e0, e1, e2]; rfl
  isplitl [H4]
  · iexists _; isplitr; swap; · iexact H4
    ipureintro; refine (rafter_4 m c t _ _).mpr ?_; rw [e0, e1, e2]; rfl
  · iexists _; isplitr; swap; · iexact H5
    ipureintro; refine (rafter_5 m c t _ _).mpr ?_; rw [e0, e1, e2]; rfl

set_option backward.isDefEq.respectTransparency.types false in
/-- The launch: every execution terminates, the arrays are what the proof data say, and all counters are zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := rA_eq m) (hin := fun _ => .rfl) (hout := fun _ => .rfl)

end Cert.AttnIdeal.Hand

end
-- ==== Proof.CallAttnArr.lean ====
module

public import proofs.«01_k».proof.Proof.CallAttnRun

/-!
# The attention kernel's result arrays

`run_value` is the run of the kernel with its three result arrays named as functions of the two argument arrays: the
value at (head, channel, position) is the carried triple of the query block that holds the position.
-/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.Sem
open Idealize.ShloMosaic.Pipeline (Dat RDat Cfg Window BodyObligation cellOf)

variable {F : FTy → Type} [FloatOps F] [Named F]

/-- Query block `b` of head `h`. -/
def qBlk (a0 : Vec F S3x16x160x8192 .bf16) (h : Fin 16) (b : ℕ) : Vec F S1x1x160x512 .bf16 :=
  fun j => a0 (ix4 (n0 := 3) (n1 := 16) (n2 := 160) (n3 := 8192) 0 h (j 2) ⟨(512 * b + (j 3).val) % 8192, Nat.mod_lt _ (by omega)⟩)

/-- The keys of head `h`. -/
def kBlk (a1 : Vec F S16x8192x256 .bf16) (h : Fin 16) : Vec F S1x8192x256 .bf16 :=
  fun j => a1 (ix3 (n0 := 16) (n1 := 8192) (n2 := 256) h (j 1) (j 2))

/-- The values of head `h`. -/
def vBlk (a0 : Vec F S3x16x160x8192 .bf16) (h : Fin 16) : Vec F S1x1x160x8192 .bf16 :=
  fun j => a0 (ix4 (n0 := 3) (n1 := 16) (n2 := 160) (n3 := 8192) 2 h (j 2) (j 3))

/-- The carried triple of query block `b` of head `h`. -/
def finOf (a0 : Vec F S3x16x160x8192 .bf16) (a1 : Vec F S16x8192x256 .bf16) (h : Fin 16) (b : ℕ) : Carry F :=
  fin (qBlk a0 h b) (kBlk a1 h) (vBlk a0 h) b

/-- The log-sum-exp row of query block `b` of head `h`. -/
def lseOf (a0 : Vec F S3x16x160x8192 .bf16) (a1 : Vec F S16x8192x256 .bf16) (h : Fin 16) (b : ℕ) : FVec F S1x512 .f32 :=
  lse (qBlk a0 h b) (kBlk a1 h) (vBlk a0 h) b

/-- The three results. -/
def G3 (a0 : Vec F S3x16x160x8192 .bf16) (a1 : Vec F S16x8192x256 .bf16) : Vec F S16x160x8192 .bf16 := fun i =>
  k0_pay25 (finOf a0 a1 (i 0) ((i 2).val / 512)).2.1 (finOf a0 a1 (i 0) ((i 2).val / 512)).2.2
    (ix3 (n0 := 1) (n1 := 160) (n2 := 512) 0 (i 1) ⟨(i 2).val % 512, Nat.mod_lt _ (by omega)⟩)
def G4 (a0 : Vec F S3x16x160x8192 .bf16) (a1 : Vec F S16x8192x256 .bf16) : Vec F S16x160x8192 .fp8e4m3 := fun i =>
  k0_pay26 (finOf a0 a1 (i 0) ((i 2).val / 512)).2.1 (finOf a0 a1 (i 0) ((i 2).val / 512)).2.2
    (ix3 (n0 := 1) (n1 := 160) (n2 := 512) 0 (i 1) ⟨(i 2).val % 512, Nat.mod_lt _ (by omega)⟩)
def G5 (a0 : Vec F S3x16x160x8192 .bf16) (a1 : Vec F S16x8192x256 .bf16) : Vec F S16x8192 .f32 := fun i =>
  lseOf a0 a1 (i 0) ((i 1).val / 512) (ix2 (n0 := 1) (n1 := 512) 0 ⟨(i 1).val % 512, Nat.mod_lt _ (by omega)⟩)

variable (m : (ℓ : Loc nD τ sig) → Buf (Elt F) ℓ) (ρ : Dev nD → PrngReg)

theorem coord0 : ∀ t : Fin cfg0.N, ((grid0.coords t) 0).val = t.val / 16 := (by decide +kernel : ∀ t : Fin grid0.N, _)
theorem coord1 : ∀ t : Fin cfg0.N, ((grid0.coords t) 1).val = t.val % 16 := (by decide +kernel : ∀ t : Fin grid0.N, _)
theorem index0 : ∀ t : Fin cfg0.N, win0_0.index t = ![0, ((grid0.coords t) 0).val, 0, ((grid0.coords t) 1).val] := (by decide +kernel : ∀ t : Fin grid0.N, _)
theorem index1 : ∀ t : Fin cfg0.N, win0_1.index t = ![((grid0.coords t) 0).val, 0, 0] := (by decide +kernel : ∀ t : Fin grid0.N, _)
theorem index2 : ∀ t : Fin cfg0.N, win0_2.index t = ![2, ((grid0.coords t) 0).val, 0, 0] := (by decide +kernel : ∀ t : Fin grid0.N, _)
theorem index3 : ∀ t : Fin cfg0.N, win0_3.index t = ![((grid0.coords t) 0).val, 0, ((grid0.coords t) 1).val] := (by decide +kernel : ∀ t : Fin grid0.N, _)
theorem index4 : ∀ t : Fin cfg0.N, win0_4.index t = ![((grid0.coords t) 0).val, 0, ((grid0.coords t) 1).val] := (by decide +kernel : ∀ t : Fin grid0.N, _)

theorem iblk_0 (c : Dev nD) (t : Fin cfg0.N) :
    (iblk m c 0 t : Vec F S1x1x160x512 .bf16) = qBlk (m ((c.tc : Thread nD τ).loc main_arg0)) ((grid0.coords t) 0) ((grid0.coords t) 1).val := by
  funext y
  blk_simp [iblk]
  unfold qBlk
  congr 1
  have h1 : ((grid0.coords t) 1).val < 16 := ((grid0.coords t) 1).isLt
  idx_bounds y
  blk_ext [index0]

theorem iblk_1 (c : Dev nD) (t : Fin cfg0.N) :
    (iblk m c 1 t : Vec F S1x8192x256 .bf16) = kBlk (m ((c.tc : Thread nD τ).loc main_arg1)) ((grid0.coords t) 0) := by
  funext y
  blk_simp [iblk]
  unfold kBlk
  congr 1
  idx_bounds y
  blk_ext [index1]

theorem iblk_2 (c : Dev nD) (t : Fin cfg0.N) :
    (iblk m c 2 t : Vec F S1x1x160x8192 .bf16) = vBlk (m ((c.tc : Thread nD τ).loc main_arg0)) ((grid0.coords t) 0) := by
  funext y
  blk_simp [iblk]
  unfold vBlk
  congr 1
  idx_bounds y
  blk_ext [index2]

theorem finAt_eq (c : Dev nD) (t : Fin cfg0.N) : finAt m c t = finOf (m ((c.tc : Thread nD τ).loc main_arg0)) (m ((c.tc : Thread nD τ).loc main_arg1)) ((grid0.coords t) 0) ((grid0.coords t) 1).val := by
  unfold finAt finOf
  exact congr (congr (congr rfl (iblk_0 m c t)) (iblk_1 m c t)) (iblk_2 m c t) |> fun h => congrFun h _

theorem lseAt_eq (c : Dev nD) (t : Fin cfg0.N) : lseAt m c t = lseOf (m ((c.tc : Thread nD τ).loc main_arg0)) (m ((c.tc : Thread nD τ).loc main_arg1)) ((grid0.coords t) 0) ((grid0.coords t) 1).val := by
  unfold lseAt lseOf
  exact congr (congr (congr rfl (iblk_0 m c t)) (iblk_1 m c t)) (iblk_2 m c t) |> fun h => congrFun h _

/-- What the body leaves in an exactly named output. -/
theorem leaves_3 (c : Dev nD) (t : Fin cfg0.N) (X) (h : (rdat m c).Leaves 3 t X) : X = k0_pay25 (finAt m c t).2.1 (finAt m c t).2.2 := by
  obtain ⟨Y, -, hX⟩ := h; exact (rafter_3 m c t Y X).mp hX
theorem leaves_4 (c : Dev nD) (t : Fin cfg0.N) (X) (h : (rdat m c).Leaves 4 t X) : X = k0_pay26 (finAt m c t).2.1 (finAt m c t).2.2 := by
  obtain ⟨Y, -, hX⟩ := h; exact (rafter_4 m c t Y X).mp hX

theorem G3_at (a0 : Vec F S3x16x160x8192 .bf16) (a1 : Vec F S16x8192x256 .bf16) (i : S16x160x8192.Idx) (y : S1x160x512.Idx) (h : Fin 16) (b : ℕ)
    (e0 : i 0 = h) (e1 : (i 1).val = (y 1).val) (e2 : (i 2).val = 512 * b + (y 2).val) :
    G3 a0 a1 i = k0_pay25 (finOf a0 a1 h b).2.1 (finOf a0 a1 h b).2.2 y := by
  idx_bounds y
  unfold G3
  rw [e0, show (i 2).val / 512 = b by omega]
  congr 1
  funext a
  match a with
  | ⟨0, _⟩ => exact Fin.ext (by show 0 = (y 0).val; omega)
  | ⟨1, _⟩ => exact Fin.ext e1
  | ⟨2, _⟩ => exact Fin.ext (by show (i 2).val % 512 = (y 2).val; omega)

theorem G4_at (a0 : Vec F S3x16x160x8192 .bf16) (a1 : Vec F S16x8192x256 .bf16) (i : S16x160x8192.Idx) (y : S1x160x512.Idx) (h : Fin 16) (b : ℕ)
    (e0 : i 0 = h) (e1 : (i 1).val = (y 1).val) (e2 : (i 2).val = 512 * b + (y 2).val) :
    G4 a0 a1 i = k0_pay26 (finOf a0 a1 h b).2.1 (finOf a0 a1 h b).2.2 y := by
  idx_bounds y
  unfold G4
  rw [e0, show (i 2).val / 512 = b by omega]
  congr 1
  funext a
  match a with
  | ⟨0, _⟩ => exact Fin.ext (by show 0 = (y 0).val; omega)
  | ⟨1, _⟩ => exact Fin.ext e1
  | ⟨2, _⟩ => exact Fin.ext (by show (i 2).val % 512 = (y 2).val; omega)

theorem G5_at (a0 : Vec F S3x16x160x8192 .bf16) (a1 : Vec F S16x8192x256 .bf16) (i : S16x8192.Idx) (y : S1x512.Idx) (h : Fin 16) (b : ℕ)
    (e0 : i 0 = h) (e1 : (i 1).val = 512 * b + (y 1).val) : G5 a0 a1 i = lseOf a0 a1 h b y := by
  idx_bounds y
  unfold G5
  rw [e0, show (i 1).val / 512 = b by omega]
  congr 1
  funext a
  match a with
  | ⟨0, _⟩ => exact Fin.ext (by show 0 = (y 0).val; omega)
  | ⟨1, _⟩ => exact Fin.ext (by show (i 1).val % 512 = (y 1).val; omega)

theorem final_3 (c : Dev nD) (after) (h : ∀ t, after 3 t = k0_pay25 (finAt m c t).2.1 (finAt m c t).2.2) :
    ((rdat m c).withAfter after).arrAt 3 cfg0.N
      = G3 (m ((c.tc : Thread nD τ).loc main_arg0)) (m ((c.tc : Thread nD τ).loc main_arg1)) := by
  refine ((rdat m c).withAfter after).arrAt_eq_of_covers 3 _ (by decide +kernel) fun t hf y => ?_
  blk_simp
  rw [RDat.withAfter_after, h t, finAt_eq]
  idx_bounds y
  refine (G3_at _ _ _ y _ _ ?_ ?_ ?_).symm
  · apply Fin.ext; blk_simp [index3]
  · blk_simp [index3]
  · blk_simp [index3]; omega

theorem final_4 (c : Dev nD) (after) (h : ∀ t, after 4 t = k0_pay26 (finAt m c t).2.1 (finAt m c t).2.2) :
    ((rdat m c).withAfter after).arrAt 4 cfg0.N
      = G4 (m ((c.tc : Thread nD τ).loc main_arg0)) (m ((c.tc : Thread nD τ).loc main_arg1)) := by
  refine ((rdat m c).withAfter after).arrAt_eq_of_covers 4 _ (by decide +kernel) fun t hf y => ?_
  blk_simp
  rw [RDat.withAfter_after, h t, finAt_eq]
  idx_bounds y
  refine (G4_at _ _ _ y _ _ ?_ ?_ ?_).symm
  · apply Fin.ext; blk_simp [index4]
  · blk_simp [index4]
  · blk_simp [index4]; omega

theorem fetch0_5 : ∀ t : Fin cfg0.N, (cfg0.win 5).fetch t = false := (by decide +kernel : ∀ t : Fin grid0.N, win0_5.fetch t = false)

/-- After point `t` the resident block holds the log-sum-exp values of every query block of the points up to `t`. -/
theorem leaves_5 (c : Dev nD) : ∀ (n : ℕ) (t : Fin cfg0.N), t.val = n → ∀ X : Vec F S16x8192 .f32, (rdat m c).Leaves 5 t X →
    ∀ y : S16x8192.Idx, 16 * (y 0).val + (y 1).val / 512 ≤ n →
      X y = G5 (m ((c.tc : Thread nD τ).loc main_arg0)) (m ((c.tc : Thread nD τ).loc main_arg1)) y := by
  intro n
  induction n with
  | zero => ?_
  | succ n ih => ?_
  all_goals
    intro t ht X hX y hy
    obtain ⟨Y, hY, hX⟩ := hX
    obtain rfl := (rafter_5 m c t Y X).mp hX
    idx_bounds y
    have c0 := coord0 t
    have c1 := coord1 t
    have hN : t.val < 256 := t.isLt
    unfold VecWindow.put
    rw [k0_off7_eq]
    split_ifs with hin
    · have h0 := hin 0
      have h1 := hin 1
      dsimp at h0 h1
      rw [lseAt_eq]
      refine (G5_at _ _ y _ _ _ (Fin.ext (by omega)) ?_).symm
      show (y 1).val = 512 * ((grid0.coords t) 1).val + ((y 1).val - 512 * ((grid0.coords t) 1).val)
      omega
    · have hlt : 16 * (y 0).val + (y 1).val / 512 ≠ t.val := fun e => hin fun a => by
        match a with
        | ⟨0, _⟩ => show ((grid0.coords t) 0).val ≤ (y 0).val ∧ (y 0).val < ((grid0.coords t) 0).val + 1; omega
        | ⟨1, _⟩ => show 512 * ((grid0.coords t) 1).val ≤ (y 1).val ∧ (y 1).val < 512 * ((grid0.coords t) 1).val + 512; omega
      first
        | omega
        | rcases ((rdat m c).finds_of_pos (fetch0_5 t) (by omega) Y).mp hY with hf | hl
          · have := (flush0_5 _).mp hf
            dsimp at this; omega
          · exact ih ⟨t.val - 1, by omega⟩ (by dsimp; omega) Y hl y (by omega)

/-- Every execution of the kernel ends with the arguments unchanged, the results as named, and all counters at zero. -/
theorem run_value : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v0_0) = G3 (m ((c.tc : Thread nD τ).loc main_arg0)) (m ((c.tc : Thread nD τ).loc main_arg1))
      ∧ r.2.mem ((c.tc : Thread nD τ).loc main_v0_1) = G4 (m ((c.tc : Thread nD τ).loc main_arg0)) (m ((c.tc : Thread nD τ).loc main_arg1))
      ∧ r.2.mem ((c.tc : Thread nD τ).loc main_v0_2) = G5 (m ((c.tc : Thread nD τ).loc main_arg0)) (m ((c.tc : Thread nD τ).loc main_arg1)))
      ∧ r.2.sem = fun _ => 0) := by
  refine (θ_run defs _ _).mono (fun r h => ⟨fun c => ?_, h.2⟩) (run_main m ρ)
  obtain ⟨after, hL, hA⟩ := h.1.exists_exact c
  refine ⟨⟨?_, ?_⟩, ?_, ?_, ?_⟩
  · exact (h.1.arr_in c 0 rfl).trans (rA_eq m c 0)
  · exact (h.1.arr_in c 1 rfl).trans (rA_eq m c 1)
  · exact (hA 3).trans (final_3 m c after fun t => leaves_3 m c t _ (hL 3 t (flush0_3 t)))
  · exact (hA 4).trans (final_4 m c after fun t => leaves_4 m c t _ (hL 4 t (flush0_4 t)))
  · obtain ⟨X, hX, hG⟩ := ((h.1 c).1 5).emb_eq_of_wholeAt (t₀ := (⟨255, by decide⟩ : Fin grid0.N)) (by decide +kernel)
    funext j
    have hj := hG j
    idx_bounds j
    refine Eq.trans ?_ ((hj.trans rfl).trans (leaves_5 m c 255 _ rfl X hX j (by omega)))
    rfl

end Cert.AttnIdeal.Hand

end
-- ==== Proof.CallAttnOrig.lean ====
module

public import proofs.«01_k».proof.Defs
public import proofs.«01_k».proof.Proof.Gen.Attn
public import proofs.«01_k».proof.Proof.CallAttnArr
public import proofs.«01_k».proof.Proof.Orig

/-!
# The frame of the attention call as printed

The idealized program differs from the printed one in its named constants alone.  Read with every named constant
standing for its literal, it is the printed program, so its run is the printed program's run.
-/

@[expose] public section

noncomputable section

namespace Cert.Proof

open Idealize.ShloMosaic Idealize.ShloMosaic.TcCoe

attribute [local instance] literals

/-- The two tables of kernel bodies are the same. -/
theorem attn_orig_defs₀ : @Cert.Attn.defs₀ Bits _ _ = @Cert.AttnIdeal.defs₀ Bits _ _ _ := by
  unfold Cert.Attn.defs₀ Cert.AttnIdeal.defs₀
  refine congrArg Defs.onTc ?_
  funext l a
  match l, a with
  | 0, (t, s) => rfl
  | ⟨_ + 1, h⟩, _ => exact absurd h (Nat.not_lt.2 (Nat.le_add_left _ _))

/-- The two tables of all bodies are the same. -/
theorem attn_orig_defs : @Cert.Attn.defs Bits _ _ = @Cert.AttnIdeal.defs Bits _ _ _ := congrArg (Pipeline.defs _) attn_orig_defs₀

/-- The printed kernel runs to the end, keeps its arguments, and leaves every semaphore at zero. -/
theorem attn_orig_frame : Cert.quiescent_Attn := fun m ρ _ =>
  Eq.mpr (congrArg (fun D => θ_run D (onTc (τ := Cert.AttnIdeal.τ) (Cert.AttnIdeal.main (F := Bits))) ⟨m, fun _ => 0, ρ⟩ _) attn_orig_defs)
    ((θ_run (Cert.AttnIdeal.defs (F := Bits)) _ _).mono (fun _ h => ⟨fun c => (h.1 c).1, h.2⟩) (Cert.AttnIdeal.Hand.run_value (F := Bits) m ρ))

end Cert.Proof

end
-- ==== Proof.CallAttnCarry.lean ====
module

public import proofs.«01_k».proof.Proof.AttnCarry
public import proofs.«01_k».proof.Proof.CallAttnArr

/-!
# The arrays of the attention alone are those of the kernel's attention

The attention is printed twice, within the kernel and alone, with the same arithmetic. So what `AttnCarry` says of
`G3`, `G4` and `G5` holds for the call alone.
-/

@[expose] public section

set_option maxRecDepth 16384

noncomputable section

namespace Cert.AttnIdeal.Hand

open Cert.AttnIdeal Cert.AttnIdeal.Gen Idealize.ShloMosaic

/-- The named literals are those of the kernel. -/
theorem s2_scale : Named.named (F := Ideal) κ "s2_scale" (φ := .f32) 0x3DE995B3#32
    = Named.named (F := Ideal) Cert.KernelIdeal.κ "s2_scale" (φ := .f32) 0x3DE995B3#32 :=
  (IdealRules.named_const.ideal_named_scalar _ _ _ _ rfl).trans Cert.KernelIdeal.Hand.s2_scale.symm
theorem ln2 : Named.named (F := Ideal) κ "ln2" (φ := .f32) 0x3F317218#32
    = Named.named (F := Ideal) Cert.KernelIdeal.κ "ln2" (φ := .f32) 0x3F317218#32 :=
  (IdealRules.named_const.ideal_named_scalar _ _ _ _ rfl).trans Cert.KernelIdeal.Hand.ln2.symm

/-- The stages that hold a named literal. -/
theorem pay5_eq : k0_pay5 (F := Ideal) = Cert.KernelIdeal.Gen.k1_pay5 (F := Ideal) := by
  funext q k
  unfold k0_pay5
  rw [s2_scale]
  rfl
theorem pay12_eq : k0_pay12 (F := Ideal) = Cert.KernelIdeal.Gen.k1_pay12 (F := Ideal) := by
  funext q k
  unfold k0_pay12
  rw [s2_scale]
  rfl
theorem pay1_eq : k0_pay1 (F := Ideal) = Cert.KernelIdeal.Gen.k1_pay1 (F := Ideal) := by
  funext m d i p
  unfold k0_pay1
  rw [ln2]
  rfl

variable (x0 : Vec Ideal S1x1x160x512 .bf16) (x1 : Vec Ideal S1x8192x256 .bf16) (x2 : Vec Ideal S1x1x160x8192 .bf16)

/-- The carried triple. -/
theorem first_eq (kt : Vec Ideal S1x512x256 .bf16) (vt : Vec Ideal S1x1x160x512 .bf16) :
    first x0 kt vt = Cert.KernelIdeal.Hand.first x0 kt vt := by
  unfold first k0_pay7 k0_pay9 k0_pay8 k0_pay6
  rw [pay5_eq]
  rfl
theorem step_eq (kt : Vec Ideal S1x512x256 .bf16) (vt : Vec Ideal S1x1x160x512 .bf16) (a : Carry Ideal) :
    step x0 kt vt a = Cert.KernelIdeal.Hand.step x0 kt vt a := by
  unfold step k0_pay16 k0_pay17 k0_pay14 k0_pay15 k0_pay13
  rw [pay12_eq]
  rfl
theorem carry_eq (b : ℕ) : ∀ n, carry x0 x1 x2 b n = Cert.KernelIdeal.Hand.carry x0 x1 x2 b n
  | 0 => first_eq x0 _ _
  | n + 1 => (congrArg (step x0 _ _) (carry_eq b n)).trans (step_eq x0 _ _ _)

variable (a0 : Vec Ideal S3x16x160x8192 .bf16) (a1 : Vec Ideal S16x8192x256 .bf16)

theorem finOf_eq (h : Fin 16) (b : ℕ) : finOf a0 a1 h b = Cert.KernelIdeal.Hand.finOf a0 a1 h b := carry_eq _ _ _ b b
theorem lseOf_eq (h : Fin 16) (b : ℕ) : lseOf a0 a1 h b = Cert.KernelIdeal.Hand.lseOf a0 a1 h b := by
  unfold lseOf lse fin
  rw [carry_eq, pay1_eq]
  rfl

/-- The three results. -/
theorem G3_eq : G3 a0 a1 = Cert.KernelIdeal.Hand.G3 a0 a1 := funext fun i =>
  congrArg (fun c : Carry Ideal => k0_pay25 c.2.1 c.2.2 (ix3 (n0 := 1) (n1 := 160) (n2 := 512) 0 (i 1) ⟨(i 2).val % 512, Nat.mod_lt _ (by omega)⟩))
    (finOf_eq a0 a1 (i 0) ((i 2).val / 512))
theorem G4_eq : G4 a0 a1 = Cert.KernelIdeal.Hand.G4 a0 a1 := funext fun i =>
  congrArg (fun c : Carry Ideal => k0_pay26 c.2.1 c.2.2 (ix3 (n0 := 1) (n1 := 160) (n2 := 512) 0 (i 1) ⟨(i 2).val % 512, Nat.mod_lt _ (by omega)⟩))
    (finOf_eq a0 a1 (i 0) ((i 2).val / 512))
theorem G5_eq : G5 a0 a1 = Cert.KernelIdeal.Hand.G5 a0 a1 := funext fun i =>
  congrFun (lseOf_eq a0 a1 (i 0) ((i 1).val / 512)) (ix2 (n0 := 1) (n1 := 512) 0 ⟨(i 1).val % 512, Nat.mod_lt _ (by omega)⟩)

end Cert.AttnIdeal.Hand

end
-- ==== Proof.CallAttnRef.lean ====
module

public import proofs.«01_k».proof.Proof.CallAttnCarry
public import proofs.«01_k».proof.Proof.Gen.AttnRefIdeal.Run

/-!
# The attention reference over the extended reals

The reference's result terms cut into their stages (masked scores, reference exponent, weights, quotient), each read at
an index.
-/

@[expose] public section

set_option maxRecDepth 16384

noncomputable section

namespace Cert.AttnRefIdeal.Hand

open Cert.AttnRefIdeal Cert.AttnRefIdeal.Gen Cert.AttnRefIdeal.Value
open Idealize.ShloMosaic Idealize.ShloMosaic.TcCoe
open Cert.Consts Cert.Softmax

/-- The masked scores, in base two. -/
def rS (a0 : FVec Ideal S3x16x160x8192 .bf16) (a1 : FVec Ideal S16x8192x256 .bf16) : FVec Ideal S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.divf (Host.divf (Host.dotGeneral dot_S16x8192x160_S16x8192x160_S16x8192x8192_2_2_1_1_0_0 none (transpose S16x8192x160 [0, 2, 1] (shapeCast _ (extractStridedSlice S1x16x160x8192 ![0, 0, 0, 0] a0 slices_S3x16x160x8192_S1x16x160x8192_0_0_0_0) shapeCasts_S1x16x160x8192_S16x160x8192) transposes_S16x160x8192_S16x8192x160_0_2_1) (extractStridedSlice S16x8192x160 ![0, 0, 0] a1 slices_S16x8192x256_S16x8192x160_0_0_0)) (broadcastInDim S16x8192x8192 ![] bcast_S_S16x8192x8192 (Host.sqrt (constant S_ .f32 0x43200000#32)))) (broadcastInDim S16x8192x8192 ![] bcast_S_S16x8192x8192 (Host.log (constant S_ .f32 0x40000000#32)))) (broadcastInDim S16x8192x8192 ![] bcast_S_S16x8192x8192 (id (constant S_ .f32 0xFF800000#32)))

/-- The greatest score of each row. -/
def rX (s : FVec Ideal S16x8192x8192 .f32) : FVec Ideal S16x8192 .f32 :=
  Host.reduce FloatOps.maximumf s (constant S_ .f32 0xFF800000#32) reducesTo_S16x8192x8192_S16x8192_d2 h_S_

/-- The reference exponent. -/
def rM (x : FVec Ideal S16x8192 .f32) : FVec Ideal S16x8192x1 .f32 :=
  mulf (broadcastInDim S16x8192x1 ![] bcast_S_S16x8192x1 (constant S_ .f32 0x40000000#32)) (Host.ceil (mulf (broadcastInDim S16x8192x1 ![] bcast_S_S16x8192x1 (constant S_ .f32 0x3F000000#32)) (broadcastInDim S16x8192x1 ![0, 1] bcast_S16x8192_S16x8192x1_0_1 x)))

/-- The weights. -/
def rE (s : FVec Ideal S16x8192x8192 .f32) (m : FVec Ideal S16x8192x1 .f32) : FVec Ideal S16x8192x8192 .f32 :=
  Host.powf (broadcastInDim S16x8192x8192 ![] bcast_S_S16x8192x8192 (constant S_ .f32 0x40000000#32)) (mulf (subf s (broadcastInDim S16x8192x8192 ![0, 1, 2] bcast_S16x8192x1_S16x8192x8192_0_1_2 m)) (broadcastInDim S16x8192x8192 ![] bcast_S_S16x8192x8192 (constant S_ .f32 0x3F000000#32)))

/-- The sum of squared weights. -/
def rD (e : FVec Ideal S16x8192x8192 .f32) : FVec Ideal S16x8192 .f32 :=
  Host.reduceAdd (mulf e e) (constant S_ .f32 0x00000000#32) reducesTo_S16x8192x8192_S16x8192_d2 h_S_

/-- The quotient. -/
def rO (a0 : FVec Ideal S3x16x160x8192 .bf16) (e : FVec Ideal S16x8192x8192 .f32) (d : FVec Ideal S16x8192 .f32) : FVec Ideal S16x8192x160 .f32 :=
  Host.divf (Host.dotGeneral dot_S16x8192x8192_S16x8192x160_S16x8192x160_2_1_1_2_0_0 none (truncf .bf16 e bitsLt_bf16_f32) (transpose S16x8192x160 [0, 2, 1] (shapeCast _ (extractStridedSlice S1x16x160x8192 ![2, 0, 0, 0] a0 slices_S3x16x160x8192_S1x16x160x8192_2_0_0_0) shapeCasts_S1x16x160x8192_S16x160x8192) transposes_S16x160x8192_S16x8192x160_0_2_1)) (broadcastInDim S16x8192x160 ![0, 1, 2] bcast_S16x8192x1_S16x8192x160_0_1_2 (broadcastInDim S16x8192x1 ![0, 1] bcast_S16x8192_S16x8192x1_0_1 (Host.sqrt d)))

/-- The three results of the stages. -/
def r0 (o : FVec Ideal S16x8192x160 .f32) : FVec Ideal S16x160x8192 .bf16 :=
  transpose S16x160x8192 [0, 2, 1] (truncf .bf16 o bitsLt_bf16_f32) transposes_S16x8192x160_S16x160x8192_0_2_1
def r1 (o : FVec Ideal S16x8192x160 .f32) : FVec Ideal S16x160x8192 .fp8e4m3 :=
  transpose S16x160x8192 [0, 2, 1] (Host.convertf .fp8e4m3 (minimumf (broadcastInDim S16x8192x160 ![] bcast_S_S16x8192x160 (id (constant S_ .f32 0x43E00000#32))) (maximumf (broadcastInDim S16x8192x160 ![] bcast_S_S16x8192x160 (id (constant S_ .f32 0xC3E00000#32))) o))) transposes_S16x8192x160_S16x160x8192_0_2_1
def r2 (m : FVec Ideal S16x8192x1 .f32) (d : FVec Ideal S16x8192 .f32) : FVec Ideal S16x8192 .f32 :=
  subf (mulf (addf (shapeCast _ m shapeCasts_S16x8192x1_S16x8192) (Host.divf (Host.log d) (broadcastInDim S16x8192 ![] bcast_S_S16x8192 (Host.log (constant S_ .f32 0x40000000#32))))) (broadcastInDim S16x8192 ![] bcast_S_S16x8192 (Host.log (constant S_ .f32 0x40000000#32)))) (broadcastInDim S16x8192 ![0, 1] bcast_S1x8192_S16x8192_0_1 (broadcastInDim S1x8192 ![1] bcast_S8192_S1x8192_1 (Host.log (sitofp .f32 (addi (iotaInDim S8192 32 0) (broadcastInDim S8192 ![] bcast_S_S8192 (constantI S_ 32 1#32)))))))

/-! ## General facts -/

/-- A maximum along the last of three axes. -/
theorem max_r3 {n0 n1 n2 : ℕ} (h : (⟨3, ![n0, n1, n2]⟩ : Shape).ReducesTo [2] ⟨2, ![n0, n1]⟩) {u : Shape} (hu : 0 < u.numel)
    (x : (⟨3, ![n0, n1, n2]⟩ : Shape).Idx → EReal) (init : u.Idx → EReal) (i : Fin n0) (j : Fin n1) :
    Host.reduce (FloatOps.maximumf (F := Ideal) (φ := .f32)) x init h hu (ix2 i j)
      = Finset.univ.fold max (init (Shape.Idx.first hu)) (fun k : Fin n2 => x (ix3 i j k)) :=
  (Host.reduce_eq_fold _ x init h hu _).trans (h.fold_fiber_r3_a2 _ _ _ _)

theorem fold_sup {n : ℕ} (f : Fin n → EReal) : Finset.univ.fold max (⊥ : EReal) f = Finset.univ.sup f := rfl

theorem sup_fin {n : ℕ} (f : ℕ → EReal) : (Finset.univ.sup fun k : Fin n => f k.val) = (Finset.range n).sup f :=
  le_antisymm (Finset.sup_le fun k _ => Finset.le_sup (Finset.mem_range.mpr k.isLt))
    (Finset.sup_le fun k hk => Finset.le_sup (f := fun k : Fin n => f k.val) (Finset.mem_univ ⟨k, Finset.mem_range.mp hk⟩))

/-- Two to a power, as a power and as the exponential in base two. -/
theorem pow_two (z : EReal) : Ideal.pow ((2 : ℝ) : EReal) z = Ideal.exp2 z := by
  induction z using EReal.rec with
  | bot => show (if (2 : ℝ) < 0 then (⊥ : EReal) else if (1 : ℝ) < 2 then 0 else _) = 0; norm_num
  | top => show (if (2 : ℝ) < 0 then (⊥ : EReal) else if (1 : ℝ) < 2 then ⊤ else _) = ⊤; norm_num
  | coe z => rfl

theorem log_two : Ideal.log ((2 : ℝ) : EReal) = ((Real.log 2 : ℝ) : EReal) := by
  show (if (2 : ℝ) ≤ 0 then (⊥ : EReal) else _) = _; norm_num

theorem log2_ne : Real.log 2 ≠ 0 := (Real.log_pos (by norm_num)).ne'

/-- The two divisions of a score, as one product. -/
theorem div_div (x : EReal) :
    Ideal.div (Ideal.div x (Ideal.sqrt ((160 : ℝ) : EReal))) (Ideal.log ((2 : ℝ) : EReal)) = x * Cert.KernelIdeal.Hand.s2c := by
  have h160 : Real.sqrt 160 ≠ 0 := (Real.sqrt_pos.mpr (by norm_num)).ne'
  rw [log_two, show Ideal.sqrt ((160 : ℝ) : EReal) = ((Real.sqrt 160 : ℝ) : EReal) from by
    show (if (160 : ℝ) < 0 then (⊥ : EReal) else _) = _; norm_num]
  rw [Ideal.div_coe h160, Ideal.div_coe log2_ne, mul_assoc, ← EReal.coe_mul, one_div, one_div]
  rfl

/-! ## The stages, read -/

theorem rS_at (a0 : FVec Ideal S3x16x160x8192 .bf16) (a1 : FVec Ideal S16x8192x256 .bf16) (h : Fin 16) (p r : Fin 8192) :
    rS a0 a1 (ix3 h p r) = Cert.KernelIdeal.Hand.masked a0 a1 h p r.val := by
  unfold rS; pointwise
  rw [Cert.KernelIdeal.Hand.select_sle (by omega) (by omega), ofBits_160, ofBits_two, div_div]
  unfold Cert.KernelIdeal.Hand.masked Cert.KernelIdeal.Hand.score
  congr 1
  · congr 1
    refine Finset.sum_congr rfl fun d _ => ?_
    rw [mul_comm]
    simp only [Nat.mod_eq_of_lt r.isLt]
theorem rX_at (s : FVec Ideal S16x8192x8192 .f32) (h : Fin 16) (p : Fin 8192) :
    rX s (ix2 h p) = Finset.univ.sup (fun r : Fin 8192 => s (ix3 h p r)) := by
  refine (max_r3 _ _ s _ h p).trans ?_
  rw [← fold_sup]
  exact congrArg (fun b => Finset.univ.fold max b fun r : Fin 8192 => s (ix3 h p r)) ofBits_neginf
theorem rM_at (x : FVec Ideal S16x8192 .f32) (h : Fin 16) (p : Fin 8192) : rM x (ix3 h p 0) = up (x (ix2 h p)) := by
  unfold rM; pointwise; rw [ofBits_two, ofBits_half]; rfl
theorem rE_at (s : FVec Ideal S16x8192x8192 .f32) (m : FVec Ideal S16x8192x1 .f32) (h : Fin 16) (p r : Fin 8192) :
    rE s m (ix3 h p r) = wt (m (ix3 h p 0)) (s (ix3 h p r)) := by
  unfold rE; pointwise; rw [ofBits_two, ofBits_half, pow_two]; rfl
theorem rD_at (e : FVec Ideal S16x8192x8192 .f32) (h : Fin 16) (p : Fin 8192) :
    rD e (ix2 h p) = ∑ x : Fin 8192, e (ix3 h p x) * e (ix3 h p x) := by
  unfold rD; pointwise
theorem rO_at (a0 : FVec Ideal S3x16x160x8192 .bf16) (e : FVec Ideal S16x8192x8192 .f32) (d : FVec Ideal S16x8192 .f32) (h : Fin 16) (p : Fin 8192) (k : Fin 160) :
    rO a0 e d (ix3 h p k) = Ideal.div (∑ x : Fin 8192, e (ix3 h p x) * a0 (ix4 2 h k x)) (Ideal.sqrt (d (ix2 h p))) := by
  unfold rO; pointwise
theorem r0_at (o : FVec Ideal S16x8192x160 .f32) (h : Fin 16) (p : Fin 8192) (k : Fin 160) : r0 o (ix3 h k p) = o (ix3 h p k) := by
  unfold r0; pointwise
theorem r1_at (o : FVec Ideal S16x8192x160 .f32) (h : Fin 16) (p : Fin 8192) (k : Fin 160) :
    r1 o (ix3 h k p) = min (Ideal.ofBits .f32 0x43E00000#32) (max (Ideal.ofBits .f32 0xC3E00000#32) (o (ix3 h p k))) := by
  unfold r1; pointwise; rfl
theorem r2_at (m : FVec Ideal S16x8192x1 .f32) (d : FVec Ideal S16x8192 .f32) (h : Fin 16) (p : Fin 8192) :
    r2 m d (ix2 h p) = (m (ix3 h p 0) + Ideal.div (Ideal.log (d (ix2 h p))) (Ideal.log ((2 : ℝ) : EReal))) * ((Real.log 2 : ℝ) : EReal)
      - Ideal.log (FloatOps.sitofp (F := Ideal) .f32 (BitVec.ofNat 32 (p.val + 1))) := by
  unfold r2; pointwise
  rw [ofBits_two, log_two]
  have e : IntOp.addi (BitVec.ofNat 32 p.val) 1#32 = BitVec.ofNat 32 (p.val + 1) := by
    apply BitVec.eq_of_toNat_eq
    show (BitVec.ofNat 32 p.val + 1#32).toNat = (BitVec.ofNat 32 (p.val + 1)).toNat
    have := p.isLt
    simp only [BitVec.toNat_add, BitVec.toNat_ofNat]
    omega
  rw [e]

section Whole

variable (m : (ℓ : Loc nD τ sig) → Buf (Elt Ideal) ℓ) (c : Dev nD)

/-- The argument arrays. -/
abbrev arg0 : FVec Ideal S3x16x160x8192 .bf16 := m ((c.tc : Thread nD τ).loc main_arg0)
abbrev arg1 : FVec Ideal S16x8192x256 .bf16 := m ((c.tc : Thread nD τ).loc main_arg1)
/-- The stages on them. -/
def wS : FVec Ideal S16x8192x8192 .f32 := rS (arg0 m c) (arg1 m c)
def wM : FVec Ideal S16x8192x1 .f32 := rM (rX (wS m c))
def wE : FVec Ideal S16x8192x8192 .f32 := rE (wS m c) (wM m c)
def wD : FVec Ideal S16x8192 .f32 := rD (wE m c)
def wO : FVec Ideal S16x8192x160 .f32 := rO (arg0 m c) (wE m c) (wD m c)

theorem out0_eq : res_out0 m c = r0 (wO m c) := rfl
theorem out1_eq : res_out1 m c = r1 (wO m c) := rfl
theorem out2_eq : res_out2 m c = r2 (wM m c) (wD m c) := rfl

/-! ## The stages as the running softmax over all keys -/

variable (h : Fin 16) (p : Fin 8192)

theorem wS_at (r : Fin 8192) : wS m c (ix3 h p r) = Cert.KernelIdeal.Hand.masked (arg0 m c) (arg1 m c) h p r.val := rS_at _ _ h p r
theorem wM_at : wM m c (ix3 h p 0) = mx (Finset.range 8192) (Cert.KernelIdeal.Hand.masked (arg0 m c) (arg1 m c) h p) := by
  unfold wM mx
  rw [rM_at, rX_at, ← sup_fin]
  simp only [wS_at]
theorem wE_at (r : Fin 8192) : wE m c (ix3 h p r)
    = wt (mx (Finset.range 8192) (Cert.KernelIdeal.Hand.masked (arg0 m c) (arg1 m c) h p)) (Cert.KernelIdeal.Hand.masked (arg0 m c) (arg1 m c) h p r.val) := by
  unfold wE
  rw [rE_at, wM_at, wS_at]
theorem wD_at : wD m c (ix2 h p) = den (Finset.range 8192) (Cert.KernelIdeal.Hand.masked (arg0 m c) (arg1 m c) h p) := by
  unfold wD den
  rw [rD_at, Finset.sum_range]
  simp only [wE_at]
theorem wO_at (d : Fin 160) : wO m c (ix3 h p d) = Cert.KernelIdeal.Hand.outv (arg0 m c) (arg1 m c) h d p := by
  unfold wO Cert.KernelIdeal.Hand.outv acc
  rw [rO_at, wD_at, Finset.sum_range]
  congr 1
  refine Finset.sum_congr rfl fun r _ => ?_
  rw [wE_at, mul_comm]
  congr 1
  unfold Cert.KernelIdeal.Hand.val
  simp only [Nat.mod_eq_of_lt r.isLt]

/-! ## The results are the kernel's -/

/-- The reference's attention output is the kernel's. -/
theorem out0_G3 : res_out0 m c = Cert.AttnIdeal.Hand.G3 (F := Ideal) (arg0 m c) (arg1 m c) := by
  rw [out0_eq]
  funext y
  obtain ⟨h, d, p, rfl⟩ : ∃ (h : Fin 16) (d : Fin 160) (p : Fin 8192), y = ix3 h d p := ⟨y 0, y 1, y 2, by funext b; fin_cases b <;> rfl⟩
  rw [Cert.AttnIdeal.Hand.G3_eq]
  exact ((r0_at _ h p d).trans (wO_at m c h p d)).trans (Cert.KernelIdeal.Hand.G3_val _ _ h d p).symm
/-- The reference's output codes are the kernel's. -/
theorem out1_G4 : res_out1 m c = Cert.AttnIdeal.Hand.G4 (F := Ideal) (arg0 m c) (arg1 m c) := by
  rw [out1_eq]
  funext y
  obtain ⟨h, d, p, rfl⟩ : ∃ (h : Fin 16) (d : Fin 160) (p : Fin 8192), y = ix3 h d p := ⟨y 0, y 1, y 2, by funext b; fin_cases b <;> rfl⟩
  refine (r1_at _ h p d).trans ?_
  rw [wO_at m c h p d]
  rw [Cert.AttnIdeal.Hand.G4_eq]
  exact (Cert.KernelIdeal.Hand.G4_val _ _ h d p).symm
/-- The reference's log-sum-exp is the kernel's. -/
theorem out2_G5 : res_out2 m c = Cert.AttnIdeal.Hand.G5 (F := Ideal) (arg0 m c) (arg1 m c) := by
  rw [out2_eq]
  funext y
  obtain ⟨h, p, rfl⟩ : ∃ (h : Fin 16) (p : Fin 8192), y = ix2 h p := ⟨y 0, y 1, by funext b; fin_cases b <;> rfl⟩
  refine (r2_at _ _ h p).trans ?_
  rw [wM_at m c h p, wD_at m c h p]
  rw [Cert.AttnIdeal.Hand.G5_eq]
  exact (Cert.KernelIdeal.Hand.G5_val _ _ h p).symm

end Whole

end Cert.AttnRefIdeal.Hand

end
-- ==== Proof.CallAttnClaims.lean ====
module

public import proofs.«01_k».proof.Defs
public import proofs.«01_k».proof.Proof.CallAttnRef
public import Idealize.ShloMosaic.Lib.Quiescent

/-!
# The claims about the attention call

The idealized kernel and the reference keep their arguments and end with every semaphore at zero; the two named
constants are roundings of their reals; over the extended reals the kernel's three results are the reference's.
-/

@[expose] public section

noncomputable section

namespace Cert.Proof

open Idealize.ShloMosaic Idealize.ShloMosaic.TcCoe

/-- The idealized kernel runs to the end, keeps its arguments, and leaves every semaphore at zero. -/
theorem attn_frame : Cert.quiescent_AttnIdeal := fun m ρ _ =>
  (θ_run Cert.AttnIdeal.defs _ _).mono (fun _ h => ⟨fun c => (h.1 c).1, h.2⟩) (Cert.AttnIdeal.Hand.run_value (F := Ideal) m ρ)

/-- The reference runs to the end, keeps its arguments, and leaves every semaphore at zero. -/
theorem attn_ref_frame : Cert.quiescent_AttnRefIdeal := fun m ρ _ =>
  (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

/-- The two literals are the single-precision roundings of the reals that they are named for. -/
theorem attn_preserves : Cert.preserves_Attn_AttnIdeal :=
  ⟨IdealRules.named_const.statement Cert.AttnIdeal.κ "s2_scale" .f32 0x3DE995B3#32 (((Real.sqrt 160)⁻¹ * (Real.log 2)⁻¹ : ℝ) : EReal) rfl,
    IdealRules.named_const.statement Cert.AttnIdeal.κ "ln2" .f32 0x3F317218#32 ((Real.log 2 : ℝ) : EReal) rfl⟩

/-- Over the extended reals the kernel and the reference have equal results. -/
theorem attn_algebraic : Cert.algebraic_AttnIdeal_AttnRefIdeal := by
  intro m ρ m' ρ' _ hagree
  refine ⟨fun c => Cert.AttnIdeal.Hand.G3 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)),
    fun c => Cert.AttnIdeal.Hand.G4 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)),
    fun c => Cert.AttnIdeal.Hand.G5 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)), ?_, ?_⟩
  · exact (θ_run Cert.AttnIdeal.defs _ _).mono
      (fun _ h c => ⟨(h.1 c).2.1, (h.1 c).2.2.1, (h.1 c).2.2.2, (h.1 c).1.1, (h.1 c).1.2⟩)
      (Cert.AttnIdeal.Hand.run_value (F := Ideal) m ρ)
  · refine (θ_run Cert.AttnRefIdeal.defs _ _).mono (fun _ h c => ⟨(h c).1.trans ?_, (h c).2.1.trans ?_, (h c).2.2.1.trans ?_, (h c).2.2.2⟩)
      (Cert.AttnRefIdeal.Value.run (F := Ideal) m' ρ')
    · exact (Cert.AttnRefIdeal.Hand.out0_G3 m' c).trans (congr (congrArg (Cert.AttnIdeal.Hand.G3 (F := Ideal)) (hagree c).1) (hagree c).2)
    · exact (Cert.AttnRefIdeal.Hand.out1_G4 m' c).trans (congr (congrArg (Cert.AttnIdeal.Hand.G4 (F := Ideal)) (hagree c).1) (hagree c).2)
    · exact (Cert.AttnRefIdeal.Hand.out2_G5 m' c).trans (congr (congrArg (Cert.AttnIdeal.Hand.G5 (F := Ideal)) (hagree c).1) (hagree c).2)

end Cert.Proof

end
-- ==== Proof.CallQkvValue.lean ====
module

public import proofs.«01_k».proof.Proof.QkvValue
public import proofs.«01_k».proof.Proof.RefProj
public import proofs.«01_k».proof.Proof.Gen.QkvIdeal.Value
public import proofs.«01_k».proof.Proof.Gen.QkvRefIdeal.Value

/-!
# The projection: the kernel's blocks against the reference's arrays

The projection is printed twice, within the kernel and alone, with the same arithmetic; so are the two references. So
`GQ`, `GK` and `GC`, and what `QkvBody`, `QkvValue` and `RefProj` say of them, serve here: the sixteen blocks of the call
alone make them up, and its reference computes them.
-/

@[expose] public section

set_option maxRecDepth 16384

noncomputable section

namespace Cert.QkvIdeal.Hand

open Idealize.ShloMosaic Idealize.ShloMosaic.TcCoe Idealize.ShloMosaic.Tactic
open Cert.QkvIdeal.Gen
open Cert.KernelIdeal.Qkv (GQ GK GC GQ_at GK_at GC_at)

section Blocks

variable (x0 : Vec Ideal S512x2560 .bf16) (x1 : Vec Ideal S3x16x160x2560 .fp8e4m3) (x2 x3 : Vec Ideal S80x512 .f32)

/-- The call alone stores what the kernel's projection stores. -/
theorem out4_eq : out0_4 (F := Ideal) x0 x1 x2 x3 = Cert.KernelIdeal.Hand.out0_4 (F := Ideal) x0 x1 x2 x3 := rfl
theorem out5_eq : out0_5 (F := Ideal) x0 x1 x2 x3 = Cert.KernelIdeal.Hand.out0_5 (F := Ideal) x0 x1 x2 x3 := rfl
theorem out6_eq : out0_6 (F := Ideal) x0 x1 x2 x3 = Cert.KernelIdeal.Hand.out0_6 (F := Ideal) x0 x1 x2 x3 := rfl

end Blocks

section Kernel

open Idealize.ShloMosaic.Pipeline (Dat)

variable (m : (ℓ : Loc nD τ sig) → Buf (Elt Ideal) ℓ)

/-- The block of each window at each grid point. -/
theorem idx : ∀ t : Fin cfg0.N, win0_0.index t = ![t.val, 0] ∧ win0_1.index t = ![0, 0, 0, 0] ∧ win0_2.index t = ![0, t.val]
    ∧ win0_3.index t = ![0, t.val] ∧ win0_4.index t = ![0, 0, 0, t.val] ∧ win0_5.index t = ![0, t.val, 0] ∧ win0_6.index t = ![t.val, 0] :=
  (by decide +kernel : ∀ t : Fin grid0.N, _)

/-- This window holds its whole array at every grid point. -/
theorem iblk1 (c : Dev nD) (t : Fin cfg0.N) : iblk m c 1 t = V m c main_v1 := by
  blk_ext! [iblk, idx t]

/-- The array of queries, keys and values after the run, from the arrays that the call finds. -/
theorem entry4 (c : Dev nD) : (dats m 0 c).arrAt 4 cfg0.N = GQ (V m c main_v0) (V m c main_v1) (V m c main_v3) (V m c main_v5) := by
  refine (dats m 0 c).arrAt_eq_of_covers 4 _ (by decide +kernel) fun t _ y => ?_
  blk_simp
  rw [after0_4, iblk1, out4_eq]
  refine GQ_at _ _ _ _ _ _ _ _ _ ?_ ?_ ?_ (fun k => ?_) (fun e => ?_) (fun e => ?_)
  · blk_simp [idx t]
  · blk_simp [idx t]
  · blk_simp [idx t]
  · blk_ext! [iblk, idx t]
  · blk_ext! [iblk, idx t]
  · blk_ext! [iblk, idx t]

/-- The array of padded keys after the run. -/
theorem entry5 (c : Dev nD) : (dats m 0 c).arrAt 5 cfg0.N = GK (V m c main_v0) (V m c main_v1) (V m c main_v3) (V m c main_v5) := by
  refine (dats m 0 c).arrAt_eq_of_covers 5 _ (by decide +kernel) fun t _ y => ?_
  blk_simp
  rw [after0_5, iblk1, out5_eq]
  refine GK_at _ _ _ _ _ _ _ _ _ ?_ ?_ (fun k => ?_) (fun e => ?_) (fun e => ?_)
  · blk_simp [idx t]
  · blk_simp [idx t]
  · blk_ext! [iblk, idx t]
  · blk_ext! [iblk, idx t]
  · blk_ext! [iblk, idx t]

/-- The array of codes after the run. -/
theorem entry6 (c : Dev nD) : (dats m 0 c).arrAt 6 cfg0.N = GC (V m c main_v0) := by
  refine (dats m 0 c).arrAt_eq_of_covers 6 _ (by decide +kernel) fun t _ y => ?_
  blk_simp
  rw [after0_6, out6_eq]
  refine GC_at _ _ _ _ _ _ _ ?_
  blk_ext! [iblk, idx t]

/-- The weights by (part, head, channel, row). -/
abbrev wT (a1 : Vec Ideal S2560x3x16x160 .fp8e4m3) : Vec Ideal S3x16x160x2560 .fp8e4m3 :=
  transpose S3x16x160x2560 [1, 2, 3, 0] a1 transposes_S2560x3x16x160_S3x16x160x2560_1_2_3_0
/-- A table of angles by (channel, token). -/
abbrev tT (a : Vec Ideal S1x8192x80 .f32) : Vec Ideal S80x8192 .f32 :=
  transpose S80x8192 [1, 0] (shapeCast S8192x80 a shapeCasts_S1x8192x80_S8192x80 : Vec Ideal S8192x80 .f32) transposes_S8192x80_S80x8192_1_0
/-- The tokens as rows. -/
abbrev xR (a0 : Vec Ideal S1x8192x2560 .bf16) : Vec Ideal S8192x2560 .bf16 := shapeCast S8192x2560 a0 shapeCasts_S1x8192x2560_S8192x2560

/-- The three results as functions of the arguments. -/
def R4 (a0 : Vec Ideal S1x8192x2560 .bf16) (a1 : Vec Ideal S2560x3x16x160 .fp8e4m3) (a2 a3 : Vec Ideal S1x8192x80 .f32) : Vec Ideal S3x16x160x8192 .bf16 :=
  GQ (xR a0) (wT a1) (tT a2) (tT a3)
def R5 (a0 : Vec Ideal S1x8192x2560 .bf16) (a1 : Vec Ideal S2560x3x16x160 .fp8e4m3) (a2 a3 : Vec Ideal S1x8192x80 .f32) : Vec Ideal S16x8192x256 .bf16 :=
  GK (xR a0) (wT a1) (tT a2) (tT a3)
def R6 (a0 : Vec Ideal S1x8192x2560 .bf16) : Vec Ideal S8192x2560 .fp8e4m3 := GC (xR a0)

/-- Queries, keys and values after the run, from the arguments. -/
theorem final4 (c : Dev nD) : (dats m 0 c).arrAt 4 cfg0.N = R4 (m ((c : Thread nD τ).loc main_arg0)) (m ((c : Thread nD τ).loc main_arg1))
    (m ((c : Thread nD τ).loc main_arg2)) (m ((c : Thread nD τ).loc main_arg3)) := by
  rw [entry4]
  entry_read
  rfl
/-- Padded keys after the run, from the arguments. -/
theorem final5 (c : Dev nD) : (dats m 0 c).arrAt 5 cfg0.N = R5 (m ((c : Thread nD τ).loc main_arg0)) (m ((c : Thread nD τ).loc main_arg1))
    (m ((c : Thread nD τ).loc main_arg2)) (m ((c : Thread nD τ).loc main_arg3)) := by
  rw [entry5]
  entry_read
  rfl
/-- Codes after the run, from the arguments. -/
theorem final6 (c : Dev nD) : (dats m 0 c).arrAt 6 cfg0.N = R6 (m ((c : Thread nD τ).loc main_arg0)) := by
  rw [entry6]
  entry_read
  rfl

end Kernel

end Cert.QkvIdeal.Hand

namespace Cert.QkvRefIdeal.Hand

open Idealize.ShloMosaic Idealize.ShloMosaic.TcCoe Idealize.ShloMosaic.Tactic
open Cert.QkvRefIdeal.Gen
open Idealize.ShloMosaic.Pipeline (Dat)
open Cert.KernelIdeal.Qkv (GQ GK GC)

section Body

variable (X : Vec Ideal S8192x2560 .bf16) (W : Vec Ideal S2560x7680 .fp8e4m3) (C S : Vec Ideal S80x8192 .f32)

/-- The call alone computes what the reference's projection computes. -/
theorem pay2_eq : k0_pay2 (F := Ideal) X = Cert.ReferenceIdeal.Gen.k0_pay3 (F := Ideal) X := rfl
theorem pay3_eq : k0_pay3 (F := Ideal) X W C S = Cert.ReferenceIdeal.Gen.k0_pay4 (F := Ideal) X W C S := rfl

variable (W4 : Vec Ideal QkvIdeal.S3x16x160x2560 .fp8e4m3)

/-- The reference's queries, keys and values. -/
theorem body_eq (hW : ∀ (pt : Fin 3) (h : Fin 16) (e : Fin 160) (k : Fin 2560),
      W (ix2 k ⟨pt.val * 2560 + h.val * 160 + e.val, by omega⟩) = W4 (ix4 pt h e k)) : k0_pay3 (F := Ideal) X W C S = GQ X W4 C S :=
  (pay3_eq X W C S).trans (Cert.ReferenceIdeal.Hand.body_eq X W C S W4 hW)

/-- The reference's padded keys, at one channel. -/
theorem keys_at (hW : ∀ (pt : Fin 3) (h : Fin 16) (e : Fin 160) (k : Fin 2560),
      W (ix2 k ⟨pt.val * 2560 + h.val * 160 + e.val, by omega⟩) = W4 (ix4 pt h e k))
    (h : Fin 16) (P : Fin 8192) (e : Fin 256) : k0_pay1 (F := Ideal) (k0_pay3 X W C S) (ix3 h P e) = GK X W4 C S (ix3 h P e) := by
  have hK : GK X W4 C S (ix3 h P e) = if he : e.val < 160 then GQ X W4 C S (ix4 (n0 := 3) (n1 := 16) (n2 := 160) (n3 := 8192) 1 h ⟨e.val, he⟩ P) else (0 : EReal) := rfl
  rw [hK]
  unfold k0_pay1
  pointwise
  exact dite_congr rfl (fun he => congrFun (body_eq X W C S W4 hW) _) (fun _ => rfl)

/-- The reference's padded keys. -/
theorem keys_eq (hW : ∀ (pt : Fin 3) (h : Fin 16) (e : Fin 160) (k : Fin 2560),
      W (ix2 k ⟨pt.val * 2560 + h.val * 160 + e.val, by omega⟩) = W4 (ix4 pt h e k)) : k0_pay1 (F := Ideal) (k0_pay3 X W C S) = GK X W4 C S := by
  funext i
  have ei : i = ix3 (n0 := 16) (n1 := 8192) (n2 := 256) (i 0) (i 1) (i 2) := by
    funext k; match k with | ⟨0, _⟩ => rfl | ⟨1, _⟩ => rfl | ⟨2, _⟩ => rfl
  rw [ei]
  exact keys_at X W C S W4 hW (i 0) (i 1) (i 2)

/-- The reference's codes. -/
theorem codes_eq : k0_pay2 (F := Ideal) X = GC X := (pay2_eq X).trans (Cert.ReferenceIdeal.Hand.codes_eq X)

end Body

section Blocks

variable (x0 : Vec Ideal S8192x2560 .bf16) (x1 : Vec Ideal S2560x7680 .fp8e4m3) (x2 x3 : Vec Ideal S80x8192 .f32)

/-- The loads of whole arrays are the arrays. -/
theorem pay4_eq : k0_pay4 (F := Ideal) x0 x1 x2 x3 = k0_pay3 (F := Ideal) x0 x1 x2 x3 := by
  have e0 : View.ld x0 r0_0 = x0 := by funext j; pointwise
  have e1 : View.ld x1 r0_1 = x1 := by funext j; pointwise
  have e2 : View.ld x2 r0_2 = x2 := by funext j; pointwise
  have e3 : View.ld x3 r0_2 = x3 := by funext j; pointwise
  unfold k0_pay4
  rw [e0, e1, e2, e3]

/-- The single store of each result array. -/
theorem out4_eq : out0_4 (F := Ideal) x0 x1 x2 x3 = k0_pay3 (F := Ideal) x0 x1 x2 x3 := by
  frame_out
  exact pay4_eq x0 x1 x2 x3
theorem out5_eq : out0_5 (F := Ideal) x0 x1 x2 x3 = k0_pay1 (F := Ideal) (k0_pay3 x0 x1 x2 x3) := by
  frame_out
  rw [pay4_eq]
theorem out6_eq : out0_6 (F := Ideal) x0 x1 x2 x3 = k0_pay2 (F := Ideal) x0 := by frame_out

end Blocks

section Arrays

variable (m : (ℓ : Loc nD τ sig) → Buf (Elt Ideal) ℓ)

/-- The block of each window at each grid point. -/
theorem idx : ∀ t : Fin cfg0.N, win0_0.index t = ![0, 0] ∧ win0_1.index t = ![0, 0] ∧ win0_2.index t = ![0, 0]
    ∧ win0_3.index t = ![0, 0] ∧ win0_4.index t = ![0, 0, 0, 0] ∧ win0_5.index t = ![0, 0, 0] ∧ win0_6.index t = ![0, 0] :=
  (by decide +kernel : ∀ t : Fin grid0.N, _)

/-- Each window is its whole array. -/
theorem b0 (c : Dev nD) : iblk m c 0 t0_0 = V m c main_v0 := by blk_ext! [iblk, idx t0_0]
theorem b1 (c : Dev nD) : iblk m c 1 t0_0 = V m c main_v1 := by blk_ext! [iblk, idx t0_0]
theorem b2 (c : Dev nD) : iblk m c 2 t0_0 = V m c main_v3 := by blk_ext! [iblk, idx t0_0]
theorem b3 (c : Dev nD) : iblk m c 3 t0_0 = V m c main_v5 := by blk_ext! [iblk, idx t0_0]

/-- The reference's three arrays after the run, from the arrays that its call finds. -/
theorem entry4 (c : Dev nD) : (dats m 0 c).arrAt 4 cfg0.N = k0_pay3 (F := Ideal) (V m c main_v0) (V m c main_v1) (V m c main_v3) (V m c main_v5) := by
  refine (dats m 0 c).arrAt_eq_of_after_last 4 t0_0 (by decide +kernel) _ fun j => ?_
  blk_simp
  rw [after0_4, out4_eq, b0, b1, b2, b3]
theorem entry5 (c : Dev nD) : (dats m 0 c).arrAt 5 cfg0.N = k0_pay1 (F := Ideal) (k0_pay3 (V m c main_v0) (V m c main_v1) (V m c main_v3) (V m c main_v5)) := by
  refine (dats m 0 c).arrAt_eq_of_after_last 5 t0_0 (by decide +kernel) _ fun j => ?_
  blk_simp
  rw [after0_5, out5_eq, b0, b1, b2, b3]
theorem entry6 (c : Dev nD) : (dats m 0 c).arrAt 6 cfg0.N = k0_pay2 (F := Ideal) (V m c main_v0) := by
  refine (dats m 0 c).arrAt_eq_of_after_last 6 t0_0 (by decide +kernel) _ fun j => ?_
  blk_simp
  rw [after0_6, out6_eq, b0]

/-- The flat column of (part, head, channel) in the reference's weights. -/
theorem w_at (a1 : Vec Ideal S2560x3x16x160 .fp8e4m3) (pt : Fin 3) (h : Fin 16) (e : Fin 160) (k : Fin 2560) :
    (shapeCast S2560x7680 a1 shapeCasts_S2560x3x16x160_S2560x7680 : Vec Ideal S2560x7680 .fp8e4m3) (ix2 k ⟨pt.val * 2560 + h.val * 160 + e.val, by omega⟩)
      = Cert.QkvIdeal.Hand.wT a1 (ix4 pt h e k) := by
  unfold Cert.QkvIdeal.Hand.wT
  pointwise

/-- Queries, keys and values after the run, from the arguments. -/
theorem final4 (c : Dev nD) : (dats m 0 c).arrAt 4 cfg0.N = Cert.QkvIdeal.Hand.R4 (m ((c : Thread nD τ).loc main_arg0)) (m ((c : Thread nD τ).loc main_arg1))
    (m ((c : Thread nD τ).loc main_arg2)) (m ((c : Thread nD τ).loc main_arg3)) := by
  rw [entry4]
  entry_read
  exact body_eq _ _ _ _ _ (w_at _)
/-- Padded keys after the run, from the arguments. -/
theorem final5 (c : Dev nD) : (dats m 0 c).arrAt 5 cfg0.N = Cert.QkvIdeal.Hand.R5 (m ((c : Thread nD τ).loc main_arg0)) (m ((c : Thread nD τ).loc main_arg1))
    (m ((c : Thread nD τ).loc main_arg2)) (m ((c : Thread nD τ).loc main_arg3)) := by
  rw [entry5]
  entry_read
  exact keys_eq _ _ _ _ _ (w_at _)
/-- Codes after the run, from the arguments. -/
theorem final6 (c : Dev nD) : (dats m 0 c).arrAt 6 cfg0.N = Cert.QkvIdeal.Hand.R6 (m ((c : Thread nD τ).loc main_arg0)) := by
  rw [entry6]
  entry_read
  exact codes_eq _

end Arrays

end Cert.QkvRefIdeal.Hand

end
-- ==== Proof.CallQkvClaims.lean ====
module

public import proofs.«01_k».proof.Defs
public import proofs.«01_k».proof.Proof.CallQkvValue
public import Idealize.ShloMosaic.Lib.Quiescent

/-!
# The claim of equality for the projection

Over the extended reals the kernel and the reference end with the same queries, keys and values, the same padded keys and
the same codes, as functions of the four arguments.
-/

@[expose] public section

noncomputable section

namespace Cert.Proof

open Idealize.ShloMosaic Idealize.ShloMosaic.TcCoe

/-- Over the extended reals the projection of the kernel and that of the reference have equal results. -/
theorem qkv_algebraic : Cert.algebraic_QkvIdeal_QkvRefIdeal := by
  intro m ρ m' ρ' _ hagree
  refine ⟨fun c => Cert.QkvIdeal.Hand.R4 (m ((c.tc : Thread Cert.QkvIdeal.nD Cert.QkvIdeal.τ).loc Cert.QkvIdeal.main_arg0)) (m ((c.tc : Thread Cert.QkvIdeal.nD Cert.QkvIdeal.τ).loc Cert.QkvIdeal.main_arg1))
      (m ((c.tc : Thread Cert.QkvIdeal.nD Cert.QkvIdeal.τ).loc Cert.QkvIdeal.main_arg2)) (m ((c.tc : Thread Cert.QkvIdeal.nD Cert.QkvIdeal.τ).loc Cert.QkvIdeal.main_arg3)),
    fun c => Cert.QkvIdeal.Hand.R5 (m ((c.tc : Thread Cert.QkvIdeal.nD Cert.QkvIdeal.τ).loc Cert.QkvIdeal.main_arg0)) (m ((c.tc : Thread Cert.QkvIdeal.nD Cert.QkvIdeal.τ).loc Cert.QkvIdeal.main_arg1))
      (m ((c.tc : Thread Cert.QkvIdeal.nD Cert.QkvIdeal.τ).loc Cert.QkvIdeal.main_arg2)) (m ((c.tc : Thread Cert.QkvIdeal.nD Cert.QkvIdeal.τ).loc Cert.QkvIdeal.main_arg3)),
    fun c => Cert.QkvIdeal.Hand.R6 (m ((c.tc : Thread Cert.QkvIdeal.nD Cert.QkvIdeal.τ).loc Cert.QkvIdeal.main_arg0)), ?_, ?_⟩
  · exact (θ_run Cert.QkvIdeal.defs _ _).mono
      (fun _ h c => ⟨(h c).1.trans (Cert.QkvIdeal.Hand.final4 m c), (h c).2.1.trans (Cert.QkvIdeal.Hand.final5 m c), (h c).2.2.1.trans (Cert.QkvIdeal.Hand.final6 m c), (h c).2.2.2⟩)
      (Cert.QkvIdeal.Value.run_blocks (F := Ideal) m ρ)
  · refine (θ_run Cert.QkvRefIdeal.defs _ _).mono (fun _ h c => ⟨(h c).1.trans ?_, (h c).2.1.trans ?_, (h c).2.2.1.trans ?_, (h c).2.2.2⟩)
      (Cert.QkvRefIdeal.Value.run_blocks (F := Ideal) m' ρ')
    · exact (Cert.QkvRefIdeal.Hand.final4 m' c).trans (congr (congr (congr (congrArg Cert.QkvIdeal.Hand.R4 (hagree c).1) (hagree c).2.1) (hagree c).2.2.1) (hagree c).2.2.2)
    · exact (Cert.QkvRefIdeal.Hand.final5 m' c).trans (congr (congr (congr (congrArg Cert.QkvIdeal.Hand.R5 (hagree c).1) (hagree c).2.1) (hagree c).2.2.1) (hagree c).2.2.2)
    · exact (Cert.QkvRefIdeal.Hand.final6 m' c).trans (congrArg Cert.QkvIdeal.Hand.R6 (hagree c).1)

end Cert.Proof

end
-- ==== Proof.CallOutValue.lean ====
module

public import proofs.«01_k».proof.Proof.Gen.OutIdeal.Value
public import proofs.«01_k».proof.Proof.Gen.OutRefIdeal.Value
public import Idealize.ShloMosaic.Lib.Pipeline.ValueKit
public import Idealize.ShloMosaic.Lib.Pointwise

/-!
# The output projection: the kernel's block against the reference's array

One grid point computes 512 rows of the result. `row_eq` says that the body's arithmetic on a block is, at every row
and column, the reference's arithmetic on the whole arrays at the row that the block holds there.
-/

@[expose] public section

set_option maxRecDepth 16384

noncomputable section

namespace Cert.OutIdeal.Hand

open Idealize.ShloMosaic Idealize.ShloMosaic.TcCoe Idealize.ShloMosaic.Tactic

section Rows

variable (a : Vec Ideal S2560x512 .fp8e4m3) (w : Vec Ideal S2560x2560 .fp8e4m3) (x : Vec Ideal S512x2560 .bf16) (g b : Vec Ideal S1x2560 .f32)
  (A : Vec Ideal OutRefIdeal.S2560x8192 .fp8e4m3) (X : Vec Ideal OutRefIdeal.S8192x2560 .bf16)

/-- The layer norm's input and its norm, at one row: the block's row against the whole array's. -/
theorem branch_eq (r : Fin 512) (R : Fin 8192) (j : Fin 2560) (hA : ∀ k : Fin 2560, a (ix2 k r) = A (ix2 k R)) :
    Gen.k0_pay2 (F := Ideal) a w g b (ix2 r j) = OutRefIdeal.Gen.k0_pay2 (F := Ideal) A w g b (ix2 R j) := by
  unfold Gen.k0_pay2 OutRefIdeal.Gen.k0_pay2
  pointwise
  simp only [hA]

/-- The stored value at one row: the block's against the whole array's. -/
theorem row_eq (r : Fin 512) (R : Fin 8192) (j : Fin 2560) (hA : ∀ k : Fin 2560, a (ix2 k r) = A (ix2 k R))
    (hX : x (ix2 r j) = X (ix2 R j)) :
    Gen.k0_pay1 (F := Ideal) (Gen.k0_pay2 a w g b) (Gen.k0_pay3 x) Gen.k0_pay4 (ix2 r j)
      = OutRefIdeal.Gen.k0_pay1 (F := Ideal) (OutRefIdeal.Gen.k0_pay2 A w g b) (OutRefIdeal.Gen.k0_pay3 X) (Scalar.ofBits .f32 0x3EE4F92E#32) (ix2 R j) := by
  have e := branch_eq a w g b A r R j hA
  unfold Gen.k0_pay1 Gen.k0_pay3 Gen.k0_pay4 OutRefIdeal.Gen.k0_pay1 OutRefIdeal.Gen.k0_pay3
  pointwise
  rw [e, hX]

end Rows

/-- The result array: the reference's arithmetic on the whole arrays. -/
def G (A : Vec Ideal OutRefIdeal.S2560x8192 .fp8e4m3) (w : Vec Ideal S2560x2560 .fp8e4m3) (X : Vec Ideal OutRefIdeal.S8192x2560 .bf16)
    (g b : Vec Ideal S1x2560 .f32) : Vec Ideal OutRefIdeal.S8192x2560 .bf16 :=
  OutRefIdeal.Gen.k0_pay1 (F := Ideal) (OutRefIdeal.Gen.k0_pay2 A w g b) (OutRefIdeal.Gen.k0_pay3 X) (Scalar.ofBits .f32 0x3EE4F92E#32)

/-- The result array as a function of the five arguments: the host's reshapes, then `G`. -/
def R (a0 : Vec Ideal S16x160x8192 .fp8e4m3) (a1 : Vec Ideal S16x160x2560 .fp8e4m3) (a2 : Vec Ideal S1x8192x2560 .bf16)
    (a3 a4 : Vec Ideal S2560 .f32) : Vec Ideal OutRefIdeal.S8192x2560 .bf16 :=
  G (shapeCast _ a0 Gen.shapeCasts_S16x160x8192_S2560x8192) (shapeCast _ a1 Gen.shapeCasts_S16x160x2560_S2560x2560)
    (shapeCast _ a2 Gen.shapeCasts_S1x8192x2560_S8192x2560) (shapeCast _ a3 Gen.shapeCasts_S2560_S1x2560) (shapeCast _ a4 Gen.shapeCasts_S2560_S1x2560)

/-- The block's value is `G` at the row that the block holds there. -/
theorem G_at (a : Vec Ideal S2560x512 .fp8e4m3) (w : Vec Ideal S2560x2560 .fp8e4m3) (x : Vec Ideal S512x2560 .bf16) (g b : Vec Ideal S1x2560 .f32)
    (A : Vec Ideal OutRefIdeal.S2560x8192 .fp8e4m3) (X : Vec Ideal OutRefIdeal.S8192x2560 .bf16)
    (y : S512x2560.Idx) (i : OutRefIdeal.S8192x2560.Idx) (e1 : (i 1).val = (y 1).val)
    (hA : ∀ k : Fin 2560, a (ix2 (n0 := 2560) (n1 := 512) k (y 0)) = A (ix2 (n0 := 2560) (n1 := 8192) k (i 0))) (hX : x y = X i) :
    Gen.k0_pay1 (F := Ideal) (Gen.k0_pay2 a w g b) (Gen.k0_pay3 x) Gen.k0_pay4 y = G A w X g b i := by
  have ey : y = ix2 (n0 := 512) (n1 := 2560) (y 0) (y 1) := by funext k; match k with | ⟨0, _⟩ => rfl | ⟨1, _⟩ => rfl
  have ei : i = ix2 (n0 := 8192) (n1 := 2560) (i 0) (y 1) := by funext k; match k with | ⟨0, _⟩ => rfl | ⟨1, _⟩ => exact Fin.ext e1
  unfold G
  rw [ey, ei] at hX ⊢
  exact row_eq a w x g b A X (y 0) (i 0) (y 1) hA hX

section Kernel

open Cert.OutIdeal.Gen
open Idealize.ShloMosaic.Pipeline (Dat)

variable (m : (ℓ : Loc nD τ sig) → Buf (Elt Ideal) ℓ)

/-- The block of each window at each grid point. -/
theorem idx : ∀ t : Fin cfg0.N, win0_0.index t = ![0, t.val] ∧ win0_1.index t = ![0, 0] ∧ win0_2.index t = ![t.val, 0]
    ∧ win0_3.index t = ![0, 0] ∧ win0_4.index t = ![0, 0] ∧ win0_5.index t = ![t.val, 0] := (by decide +kernel : ∀ t : Fin grid0.N, _)

/-- This window holds its whole array at every grid point. -/
theorem iblk1 (c : Dev nD) (t : Fin cfg0.N) : iblk m c 1 t = V m c main_v1 := by
  blk_ext! [iblk, idx t]
/-- This window holds its whole array at every grid point. -/
theorem iblk3 (c : Dev nD) (t : Fin cfg0.N) : iblk m c 3 t = V m c main_v3 := by
  blk_ext! [iblk, idx t]
/-- This window holds its whole array at every grid point. -/
theorem iblk4 (c : Dev nD) (t : Fin cfg0.N) : iblk m c 4 t = V m c main_v4 := by
  blk_ext! [iblk, idx t]

/-- The array after the run, from the arrays that the call finds. -/
theorem final_entry (c : Dev nD) : (dats m 0 c).arrAt 5 cfg0.N = G (V m c main_v2) (V m c main_v1) (V m c main_v0) (V m c main_v3) (V m c main_v4) := by
  refine (dats m 0 c).arrAt_eq_of_covers 5 _ (by decide +kernel) fun t _ y => ?_
  blk_simp
  rw [after0_5]; frame_out
  rw [iblk1, iblk3, iblk4]
  refine G_at _ _ _ _ _ _ _ _ _ ?_ (fun k => ?_) ?_
  · blk_simp [idx t]
  · blk_ext! [iblk, idx t]
  · blk_ext! [iblk, idx t]

/-- The array after the run, from the arguments. -/
theorem final (c : Dev nD) : (dats m 0 c).arrAt 5 cfg0.N = R (m ((c : Thread nD τ).loc main_arg0)) (m ((c : Thread nD τ).loc main_arg1))
    (m ((c : Thread nD τ).loc main_arg2)) (m ((c : Thread nD τ).loc main_arg3)) (m ((c : Thread nD τ).loc main_arg4)) := by
  rw [final_entry]
  entry_read
  rfl

end Kernel

end Cert.OutIdeal.Hand

namespace Cert.OutRefIdeal.Hand

open Idealize.ShloMosaic Idealize.ShloMosaic.TcCoe Idealize.ShloMosaic.Tactic
open Cert.OutRefIdeal.Gen
open Idealize.ShloMosaic.Pipeline (Dat)

variable (m : (ℓ : Loc nD τ sig) → Buf (Elt Ideal) ℓ)

/-- The block of each window at each grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := (by decide +kernel : ∀ t : Fin grid0.N, _)

/-- The reference's array after the run, from the arrays that its call finds. -/
theorem final_entry (c : Dev nD) : (dats m 0 c).arrAt 5 cfg0.N
    = Cert.OutIdeal.Hand.G (V m c main_v0) (V m c main_v1) (V m c main_v2) (V m c main_v3) (V m c main_v4) := by
  refine (dats m 0 c).arrAt_eq_of_after_last 5 t0_0 (by decide +kernel) _ fun j => ?_
  blk_simp
  rw [after0_5]; frame_out
  have e0 : iblk m c 0 t0_0 = V m c main_v0 := by blk_ext! [iblk, idx t0_0]
  have e1 : iblk m c 1 t0_0 = V m c main_v1 := by blk_ext! [iblk, idx t0_0]
  have e2 : iblk m c 2 t0_0 = V m c main_v2 := by blk_ext! [iblk, idx t0_0]
  have e3 : iblk m c 3 t0_0 = V m c main_v3 := by blk_ext! [iblk, idx t0_0]
  have e4 : iblk m c 4 t0_0 = V m c main_v4 := by blk_ext! [iblk, idx t0_0]
  rw [e0, e1, e2, e3, e4]
  rfl

/-- The reference's array after the run, from the arguments. -/
theorem final (c : Dev nD) : (dats m 0 c).arrAt 5 cfg0.N = Cert.OutIdeal.Hand.R (m ((c : Thread nD τ).loc main_arg0)) (m ((c : Thread nD τ).loc main_arg1))
    (m ((c : Thread nD τ).loc main_arg2)) (m ((c : Thread nD τ).loc main_arg3)) (m ((c : Thread nD τ).loc main_arg4)) := by
  rw [final_entry]
  entry_read
  rfl

end Cert.OutRefIdeal.Hand

end
-- ==== Proof.CallOutClaims.lean ====
module

public import proofs.«01_k».proof.Defs
public import proofs.«01_k».proof.Proof.CallOutValue
public import Idealize.ShloMosaic.Lib.Quiescent

/-!
# The claim of equality for the output projection

Over the extended reals the kernel and the reference end with one array, as a function of the five arguments.
-/

@[expose] public section

noncomputable section

namespace Cert.Proof

open Idealize.ShloMosaic Idealize.ShloMosaic.TcCoe

/-- Over the extended reals the output projection of the kernel and that of the reference have equal results. -/
theorem out_algebraic : Cert.algebraic_OutIdeal_OutRefIdeal := by
  intro m ρ m' ρ' _ hagree
  refine ⟨fun c => Cert.OutIdeal.Hand.R (m ((c.tc : Thread Cert.OutIdeal.nD Cert.OutIdeal.τ).loc Cert.OutIdeal.main_arg0)) (m ((c.tc : Thread Cert.OutIdeal.nD Cert.OutIdeal.τ).loc Cert.OutIdeal.main_arg1))
    (m ((c.tc : Thread Cert.OutIdeal.nD Cert.OutIdeal.τ).loc Cert.OutIdeal.main_arg2)) (m ((c.tc : Thread Cert.OutIdeal.nD Cert.OutIdeal.τ).loc Cert.OutIdeal.main_arg3))
    (m ((c.tc : Thread Cert.OutIdeal.nD Cert.OutIdeal.τ).loc Cert.OutIdeal.main_arg4)), ?_, ?_⟩
  · exact (θ_run Cert.OutIdeal.defs _ _).mono (fun _ h c => ⟨(h c).1.trans (Cert.OutIdeal.Hand.final m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run_blocks (F := Ideal) m' ρ')
    exact (Cert.OutRefIdeal.Hand.final m' c).trans (congr (congr (congr (congr (congrArg Cert.OutIdeal.Hand.R (hagree c).1) (hagree c).2.1)
      (hagree c).2.2.1) (hagree c).2.2.2.1) (hagree c).2.2.2.2)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.Reference.Frame
public import proofs.«01_k».proof.Proof.Gen.ReferenceIdeal.Value
public import proofs.«01_k».proof.Proof.Orig
public import proofs.«01_k».proof.Proof.Claims
public import proofs.«01_k».proof.Proof.Gen.Attn
public import proofs.«01_k».proof.Proof.Gen.AttnIdeal.Frame
public import proofs.«01_k».proof.Proof.Gen.AttnRefIdeal.Run
public import proofs.«01_k».proof.Proof.Gen.Qkv.Frame
public import proofs.«01_k».proof.Proof.Gen.Out.Frame
public import proofs.«01_k».proof.Proof.CallAttnOrig
public import proofs.«01_k».proof.Proof.CallAttnClaims
public import proofs.«01_k».proof.Proof.CallQkvClaims
public import proofs.«01_k».proof.Proof.CallOutClaims

@[expose] public section

namespace Cert.Proof

/-- The claims of the statement, each proved in the modules above: every program's frame, then for the whole kernel and for
    each of its three calls alone what the idealization kept and the equality with the reference. -/
theorem claim : Cert.Claim :=
  ⟨Cert.Kernel.Gen.facts, Cert.KernelIdeal.Gen.facts, Cert.Reference.Gen.facts, Cert.ReferenceIdeal.Gen.facts,
    Cert.Attn.Gen.facts, Cert.AttnIdeal.Gen.facts, Cert.AttnRefIdeal.Gen.facts,
    Cert.Qkv.Gen.facts, Cert.QkvIdeal.Gen.facts, Cert.QkvRefIdeal.Gen.facts,
    Cert.Out.Gen.facts, Cert.OutIdeal.Gen.facts, Cert.OutRefIdeal.Gen.facts,
    orig_frame, ideal_frame, fun m ρ _ => Cert.Reference.Gen.frame m ρ, fun m ρ _ => Cert.ReferenceIdeal.Gen.frame m ρ,
    attn_orig_frame, attn_frame, attn_ref_frame,
    fun m ρ _ => Cert.Qkv.Gen.frame m ρ, fun m ρ _ => Cert.QkvIdeal.Gen.frame m ρ, fun m ρ _ => Cert.QkvRefIdeal.Gen.frame m ρ,
    fun m ρ _ => Cert.Out.Gen.frame m ρ, fun m ρ _ => Cert.OutIdeal.Gen.frame m ρ, fun m ρ _ => Cert.OutRefIdeal.Gen.frame m ρ,
    preserves, ref_preserves, algebraic, attn_preserves, attn_algebraic, trivial, qkv_algebraic, trivial, out_algebraic⟩

end Cert.Proof
